-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)
      ∧ m' ((c.tc : Thread Cert.OutRefIdeal.nD Cert.OutRefIdeal.τ).loc Cert.OutRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_InProj_InProjIdeal : Prop :=
  IdealRules.named_const.Statement Cert.InProjIdeal.κ "inv_fp8_max" .f32 0x3B124925#32 ((1 / 448 : ℝ) : EReal)

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)
      ∧ m' ((c.tc : Thread Cert.InRefIdeal.nD Cert.InRefIdeal.τ).loc Cert.InRefIdeal.main_arg5) = m ((c.tc : Thread Cert.InProjIdeal.nD Cert.InProjIdeal.τ).loc Cert.InProjIdeal.main_arg5)
      ∧ m' ((c.tc : Thread Cert.InRefIdeal.nD Cert.InRefIdeal.τ).loc Cert.InRefIdeal.main_arg6) = m ((c.tc : Thread Cert.InProjIdeal.nD Cert.InProjIdeal.τ).loc Cert.InProjIdeal.main_arg6)
      ∧ m' ((c.tc : Thread Cert.InRefIdeal.nD Cert.InRefIdeal.τ).loc Cert.InRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)) (v3 : (c : Dev Cert.InProjIdeal.nD) → Buf (Elt Ideal) ((c.tc : Thread Cert.InProjIdeal.nD Cert.InProjIdeal.τ).loc Cert.InProjIdeal.main_v3_3)) (v4 : (c : Dev Cert.InProjIdeal.nD) → Buf (Elt Ideal) ((c.tc : Thread Cert.InProjIdeal.nD Cert.InProjIdeal.τ).loc Cert.InProjIdeal.main_v3_4)) (v5 : (c : Dev Cert.InProjIdeal.nD) → Buf (Elt Ideal) ((c.tc : Thread Cert.InProjIdeal.nD Cert.InProjIdeal.τ).loc Cert.InProjIdeal.main_v3_5)) (v6 : (c : Dev Cert.InProjIdeal.nD) → Buf (Elt Ideal) ((c.tc : Thread Cert.InProjIdeal.nD Cert.InProjIdeal.τ).loc Cert.InProjIdeal.main_v3_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_v3_3) = v3 c
          ∧ r.2.mem ((c.tc : Thread Cert.InProjIdeal.nD Cert.InProjIdeal.τ).loc Cert.InProjIdeal.main_v3_4) = v4 c
          ∧ r.2.mem ((c.tc : Thread Cert.InProjIdeal.nD Cert.InProjIdeal.τ).loc Cert.InProjIdeal.main_v3_5) = v5 c
          ∧ r.2.mem ((c.tc : Thread Cert.InProjIdeal.nD Cert.InProjIdeal.τ).loc Cert.InProjIdeal.main_v3_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0_0) = v0 c
          ∧ r.2.mem ((c.tc : Thread Cert.InRefIdeal.nD Cert.InRefIdeal.τ).loc Cert.InRefIdeal.main_v0_1) = v1 c
          ∧ r.2.mem ((c.tc : Thread Cert.InRefIdeal.nD Cert.InRefIdeal.τ).loc Cert.InRefIdeal.main_v0_2) = v2 c
          ∧ r.2.mem ((c.tc : Thread Cert.InRefIdeal.nD Cert.InRefIdeal.τ).loc Cert.InRefIdeal.main_v0_3) = v3 c
          ∧ r.2.mem ((c.tc : Thread Cert.InRefIdeal.nD Cert.InRefIdeal.τ).loc Cert.InRefIdeal.main_v0_4) = v4 c
          ∧ r.2.mem ((c.tc : Thread Cert.InRefIdeal.nD Cert.InRefIdeal.τ).loc Cert.InRefIdeal.main_v0_5) = v5 c
          ∧ r.2.mem ((c.tc : Thread Cert.InRefIdeal.nD Cert.InRefIdeal.τ).loc Cert.InRefIdeal.main_v0_6) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def Claim : Prop :=
  ∃ (hOutProj : Cert.OutProj.Facts) (hOutProjIdeal : Cert.OutProjIdeal.Facts) (hOutRefIdeal : Cert.OutRefIdeal.Facts) (hInProj : Cert.InProj.Facts) (hInProjIdeal : Cert.InProjIdeal.Facts) (hInRefIdeal : Cert.InRefIdeal.Facts),
    quiescent_OutProj (hOutProj := hOutProj)
    ∧ quiescent_OutProjIdeal (hOutProjIdeal := hOutProjIdeal)
    ∧ quiescent_OutRefIdeal (hOutRefIdeal := hOutRefIdeal)
    ∧ quiescent_InProj (hInProj := hInProj)
    ∧ quiescent_InProjIdeal (hInProjIdeal := hInProjIdeal)
    ∧ quiescent_InRefIdeal (hInRefIdeal := hInRefIdeal)
    ∧ preserves_OutProj_OutProjIdeal
    ∧ algebraic_OutProjIdeal_OutRefIdeal (hOutProjIdeal := hOutProjIdeal) (hOutRefIdeal := hOutRefIdeal)
    ∧ preserves_InProj_InProjIdeal
    ∧ algebraic_InProjIdeal_InRefIdeal (hInProjIdeal := hInProjIdeal) (hInRefIdeal := hInRefIdeal)
-- ==== OutProj.lean ====
abbrev S12x14336x128 : Shape := ⟨3, ![12, 14336, 128]⟩
abbrev S1x14336 : Shape := ⟨2, ![1, 14336]⟩
abbrev S14336x4224 : Shape := ⟨2, ![14336, 4224]⟩
abbrev S12x128x12288 : Shape := ⟨3, ![12, 128, 12288]⟩
abbrev S12288 : Shape := ⟨1, ![12288]⟩
abbrev S4224x12288 : Shape := ⟨2, ![4224, 12288]⟩
abbrev S14336x12288 : Shape := ⟨2, ![14336, 12288]⟩
abbrev S1536x12288 : Shape := ⟨2, ![1536, 12288]⟩
abbrev S1x12288 : Shape := ⟨2, ![1, 12288]⟩
abbrev S12x1024x128 : Shape := ⟨3, ![12, 1024, 128]⟩
abbrev S1x1024 : Shape := ⟨2, ![1, 1024]⟩
abbrev S1024x4224 : Shape := ⟨2, ![1024, 4224]⟩
abbrev S1536x512 : Shape := ⟨2, ![1536, 512]⟩
abbrev S1x512 : Shape := ⟨2, ![1, 512]⟩
abbrev S4224x512 : Shape := ⟨2, ![4224, 512]⟩
abbrev S1024x512 : Shape := ⟨2, ![1024, 512]⟩
abbrev S1024x128 : Shape := ⟨2, ![1024, 128]⟩
abbrev S1x128 : Shape := ⟨2, ![1, 128]⟩
abbrev S128x128 : Shape := ⟨2, ![128, 128]⟩
abbrev S1x1024x128 : Shape := ⟨3, ![1, 1024, 128]⟩
abbrev S1024x1536 : Shape := ⟨2, ![1024, 1536]⟩

abbrev nBuf : Space → Nat
  | .hbm => 13
  | .vmem => 22
  | .smem => 0
  | _ => 0

abbrev bufTy : (tb : Table) → Fin (tcTables nBuf tb) → BufTy
  | .hbm, ⟨0, _⟩ => ⟨S12x14336x128, .fp8e4m3⟩
  | .hbm, ⟨1, _⟩ => ⟨S1x14336, .f32⟩
  | .hbm, ⟨2, _⟩ => ⟨S14336x4224, .fp8e4m3⟩
  | .hbm, ⟨3, _⟩ => ⟨S1x14336, .f32⟩
  | .hbm, ⟨4, _⟩ => ⟨S12x128x12288, .fp8e4m3⟩
  | .hbm, ⟨5, _⟩ => ⟨S12288, .f32⟩
  | .hbm, ⟨6, _⟩ => ⟨S4224x12288, .fp8e4m3⟩
  | .hbm, ⟨7, _⟩ => ⟨S12288, .f32⟩
  | .hbm, ⟨8, _⟩ => ⟨S14336x12288, .bf16⟩
  | .hbm, ⟨9, _⟩ => ⟨S1536x12288, .fp8e4m3⟩
  | .hbm, ⟨10, _⟩ => ⟨S1x12288, .f32⟩
  | .hbm, ⟨11, _⟩ => ⟨S1x12288, .f32⟩
  | .hbm, ⟨12, _⟩ => ⟨S14336x12288, .bf16⟩
  | .local _ .vmem, ⟨0, _⟩ => ⟨S12x1024x128, .fp8e4m3⟩
  | .local _ .vmem, ⟨1, _⟩ => ⟨S12x1024x128, .fp8e4m3⟩
  | .local _ .vmem, ⟨2, _⟩ => ⟨S1x1024, .f32⟩
  | .local _ .vmem, ⟨3, _⟩ => ⟨S1x1024, .f32⟩
  | .local _ .vmem, ⟨4, _⟩ => ⟨S1024x4224, .fp8e4m3⟩
  | .local _ .vmem, ⟨5, _⟩ => ⟨S1024x4224, .fp8e4m3⟩
  | .local _ .vmem, ⟨6, _⟩ => ⟨S1x1024, .f32⟩
  | .local _ .vmem, ⟨7, _⟩ => ⟨S1x1024, .f32⟩
  | .local _ .vmem, ⟨8, _⟩ => ⟨S1536x512, .fp8e4m3⟩
  | .local _ .vmem, ⟨9, _⟩ => ⟨S1536x512, .fp8e4m3⟩
  | .local _ .vmem, ⟨10, _⟩ => ⟨S1x512, .f32⟩
  | .local _ .vmem, ⟨11, _⟩ => ⟨S1x512, .f32⟩
  | .local _ .vmem, ⟨12, _⟩ => ⟨S4224x512, .fp8e4m3⟩
  | .local _ .vmem, ⟨13, _⟩ => ⟨S4224x512, .fp8e4m3⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | _, _ => ⟨S12x14336x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![14, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S12x1024x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x4224 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1536x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4224x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== OutRefIdeal.lean ====
abbrev S12x14336x128 : Shape := ⟨3, ![12, 14336, 128]⟩
abbrev S1x14336 : Shape := ⟨2, ![1, 14336]⟩
abbrev S14336x4224 : Shape := ⟨2, ![14336, 4224]⟩
abbrev S12x128x12288 : Shape := ⟨3, ![12, 128, 12288]⟩
abbrev S12288 : Shape := ⟨1, ![12288]⟩
abbrev S4224x12288 : Shape := ⟨2, ![4224, 12288]⟩
abbrev S14336x12288 : Shape := ⟨2, ![14336, 12288]⟩
abbrev S12x14336x12288 : Shape := ⟨3, ![12, 14336, 12288]⟩
abbrev S14336x1 : Shape := ⟨2, ![14336, 1]⟩
abbrev S1x12288 : Shape := ⟨2, ![1, 12288]⟩

abbrev nBuf : Space → Nat
  | .hbm => 10
  | .vmem => 10
  | .smem => 0
  | _ => 0

abbrev bufTy : (tb : Table) → Fin (tcTables nBuf tb) → BufTy
  | .hbm, ⟨0, _⟩ => ⟨S12x14336x128, .fp8e4m3⟩
  | .hbm, ⟨1, _⟩ => ⟨S1x14336, .f32⟩
  | .hbm, ⟨2, _⟩ => ⟨S14336x4224, .fp8e4m3⟩
  | .hbm, ⟨3, _⟩ => ⟨S1x14336, .f32⟩
  | .hbm, ⟨4, _⟩ => ⟨S12x128x12288, .fp8e4m3⟩
  | .hbm, ⟨5, _⟩ => ⟨S12288, .f32⟩
  | .hbm, ⟨6, _⟩ => ⟨S4224x12288, .fp8e4m3⟩
  | .hbm, ⟨7, _⟩ => ⟨S12288, .f32⟩
  | .hbm, ⟨8, _⟩ => ⟨S14336x12288, .bf16⟩
  | .hbm, ⟨9, _⟩ => ⟨S14336x12288, .bf16⟩
  | .local _ .vmem, ⟨0, _⟩ => ⟨S12x14336x128, .fp8e4m3⟩
  | .local _ .vmem, ⟨1, _⟩ => ⟨S1x14336, .f32⟩
  | .local _ .vmem, ⟨2, _⟩ => ⟨S14336x4224, .fp8e4m3⟩
  | .local _ .vmem, ⟨3, _⟩ => ⟨S1x14336, .f32⟩
  | .local _ .vmem, ⟨4, _⟩ => ⟨S12x128x12288, .fp8e4m3⟩
  | .local _ .vmem, ⟨5, _⟩ => ⟨S12288, .f32⟩
  | .local _ .vmem, ⟨6, _⟩ => ⟨S4224x12288, .fp8e4m3⟩
  | .local _ .vmem, ⟨7, _⟩ => ⟨S12288, .f32⟩
  | .local _ .vmem, ⟨8, _⟩ => ⟨S14336x12288, .bf16⟩
  | .local _ .vmem, ⟨9, _⟩ => ⟨S14336x12288, .bf16⟩
  | _, _ => ⟨S12x14336x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12x14336x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14336x4224 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x14336 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x128x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4224x12288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14336x12288 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14336x12288 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== InProj.lean ====
abbrev S14336x12288 : Shape := ⟨2, ![14336, 12288]⟩
abbrev S1x14336 : Shape := ⟨2, ![1, 14336]⟩
abbrev S12288x10240 : Shape := ⟨2, ![12288, 10240]⟩
abbrev S10240 : Shape := ⟨1, ![10240]⟩
abbrev S14336x64 : Shape := ⟨2, ![14336, 64]⟩
abbrev S1 : Shape := ⟨1, ![1]⟩
abbrev S64x14336 : Shape := ⟨2, ![64, 14336]⟩
abbrev S1x10240 : Shape := ⟨2, ![1, 10240]⟩
abbrev S12x14336x128 : Shape := ⟨3, ![12, 14336, 128]⟩
abbrev S14336x128 : Shape := ⟨2, ![14336, 128]⟩
abbrev S128x14336 : Shape := ⟨2, ![128, 14336]⟩
abbrev S14336x4224 : Shape := ⟨2, ![14336, 4224]⟩
abbrev S512x12288 : Shape := ⟨2, ![512, 12288]⟩
abbrev S1x512 : Shape := ⟨2, ![1, 512]⟩
abbrev S12288x128 : Shape := ⟨2, ![12288, 128]⟩
abbrev S1x128 : Shape := ⟨2, ![1, 128]⟩
abbrev S64x512 : Shape := ⟨2, ![64, 512]⟩
abbrev S4x512x128 : Shape := ⟨3, ![4, 512, 128]⟩
abbrev S512x128 : Shape := ⟨2, ![512, 128]⟩
abbrev S128x512 : Shape := ⟨2, ![128, 512]⟩
abbrev S512x4224 : Shape := ⟨2, ![512, 4224]⟩
abbrev S17x512x256 : Shape := ⟨3, ![17, 512, 256]⟩
abbrev S128x128 : Shape := ⟨2, ![128, 128]⟩
abbrev S12288x512 : Shape := ⟨2, ![12288, 512]⟩
abbrev S512x512 : Shape := ⟨2, ![512, 512]⟩
abbrev S512x128x1 : Shape := ⟨3, ![512, 128, 1]⟩
abbrev S1x512x128 : Shape := ⟨3, ![1, 512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩

abbrev nBuf : Space → Nat
  | .hbm => 18
  | .vmem => 41
  | .smem => 2
  | _ => 0

abbrev bufTy : (tb : Table) → Fin (tcTables nBuf tb) → BufTy
  | .hbm, ⟨0, _⟩ => ⟨S14336x12288, .fp8e4m3⟩
  | .hbm, ⟨1, _⟩ => ⟨S1x14336, .f32⟩
  | .hbm, ⟨2, _⟩ => ⟨S12288x10240, .fp8e4m3⟩
  | .hbm, ⟨3, _⟩ => ⟨S10240, .f32⟩
  | .hbm, ⟨4, _⟩ => ⟨S14336x64, .f32⟩
  | .hbm, ⟨5, _⟩ => ⟨S14336x64, .f32⟩
  | .hbm, ⟨6, _⟩ => ⟨S1, .f32⟩
  | .hbm, ⟨7, _⟩ => ⟨S1, .f32⟩
  | .hbm, ⟨8, _⟩ => ⟨S64x14336, .f32⟩
  | .hbm, ⟨9, _⟩ => ⟨S64x14336, .f32⟩
  | .hbm, ⟨10, _⟩ => ⟨S1x10240, .f32⟩
  | .hbm, ⟨11, _⟩ => ⟨S12x14336x128, .bf16⟩
  | .hbm, ⟨12, _⟩ => ⟨S14336x128, .fp8e4m3⟩
  | .hbm, ⟨13, _⟩ => ⟨S14336x128, .fp8e4m3⟩
  | .hbm, ⟨14, _⟩ => ⟨S128x14336, .bf16⟩
  | .hbm, ⟨15, _⟩ => ⟨S14336x128, .bf16⟩
  | .hbm, ⟨16, _⟩ => ⟨S14336x4224, .fp8e4m3⟩
  | .hbm, ⟨17, _⟩ => ⟨S1x14336, .f32⟩
  | .local _ .vmem, ⟨0, _⟩ => ⟨S512x12288, .fp8e4m3⟩
  | .local _ .vmem, ⟨1, _⟩ => ⟨S512x12288, .fp8e4m3⟩
  | .local _ .vmem, ⟨2, _⟩ => ⟨S1x512, .f32⟩
  | .local _ .vmem, ⟨3, _⟩ => ⟨S1x512, .f32⟩
  | .local _ .vmem, ⟨4, _⟩ => ⟨S12288x128, .fp8e4m3⟩
  | .local _ .vmem, ⟨5, _⟩ => ⟨S12288x128, .fp8e4m3⟩
  | .local _ .vmem, ⟨6, _⟩ => ⟨S12288x128, .fp8e4m3⟩
  | .local _ .vmem, ⟨7, _⟩ => ⟨S12288x128, .fp8e4m3⟩
  | .local _ .vmem, ⟨8, _⟩ => ⟨S12288x128, .fp8e4m3⟩
  | .local _ .vmem, ⟨9, _⟩ => ⟨S12288x128, .fp8e4m3⟩
  | .local _ .vmem, ⟨10, _⟩ => ⟨S12288x128, .fp8e4m3⟩
  | .local _ .vmem, ⟨11, _⟩ => ⟨S12288x128, .fp8e4m3⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S4x512x128, .bf16⟩
  | .local _ .vmem, ⟨25, _⟩ => ⟨S4x512x128, .bf16⟩
  | .local _ .vmem, ⟨26, _⟩ => ⟨S512x128, .fp8e4m3⟩
  | .local _ .vmem, ⟨27, _⟩ => ⟨S512x128, .fp8e4m3⟩
  | .local _ .vmem, ⟨28, _⟩ => ⟨S512x128, .fp8e4m3⟩
  | .local _ .vmem, ⟨29, _⟩ => ⟨S512x128, .fp8e4m3⟩
  | .local _ .vmem, ⟨30, _⟩ => ⟨S128x512, .bf16⟩
  | .local _ .vmem, ⟨31, _⟩ => ⟨S128x512, .bf16⟩
  | .local _ .vmem, ⟨32, _⟩ => ⟨S512x128, .bf16⟩
  | .local _ .vmem, ⟨33, _⟩ => ⟨S512x128, .bf16⟩
  | .local _ .vmem, ⟨34, _⟩ => ⟨S512x4224, .fp8e4m3⟩
  | .local _ .vmem, ⟨35, _⟩ => ⟨S512x4224, .fp8e4m3⟩
  | .local _ .vmem, ⟨36, _⟩ => ⟨S1x512, .f32⟩
  | .local _ .vmem, ⟨37, _⟩ => ⟨S1x512, .f32⟩
  | .local _ .vmem, ⟨38, _⟩ => ⟨S17x512x256, .f32⟩
  | .local _ .vmem, ⟨39, _⟩ => ⟨S512x128, .f32⟩
  | .local _ .vmem, ⟨40, _⟩ => ⟨S512x128, .f32⟩
  | .local _ .smem, ⟨0, _⟩ => ⟨S1, .f32⟩
  | .local _ .smem, ⟨1, _⟩ => ⟨S1, .f32⟩
  | _, _ => ⟨S14336x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨2, ![28, 20], ![false, false]⟩

def k0_cond4 (i : grid0.Coords) : BitVec 1 :=
  let arg1 : BitVec 32 := BitVec.ofNat 32 (i 1).val
  let c3_i32_23 : BitVec 32 := 3#32
  let v41 : BitVec 1 := Scalar.cmpi .sgt arg1 c3_i32_23
  let v42 : BitVec 32 := Scalar.extui v41
  let c0_i32_24 : BitVec 32 := 0#32
  let v43 : BitVec 1 := Scalar.cmpi .ne v42 c0_i32_24
  v43

def k0_off1 (i : grid0.Coords) : Fin 3 → Nat :=
  let arg1 : BitVec 32 := BitVec.ofNat 32 (i 1).val
  let c3_i32_32 : BitVec 32 := 3#32
  let v66 : BitVec 32 := Scalar.subi arg1 c3_i32_32
  let c1_i32 : BitVec 32 := 1#32
  let v67 : BitVec 32 := Scalar.subi v66 c1_i32
  let v68 : Index := Scalar.indexCast v67
  let c0_33 : Index := 0#32
  let c0_34 : Index := 0#32
  ![v68.toNat, 0, 0]
def k0_cond2 (i : grid0.Coords) : BitVec 1 :=
  let arg1 : BitVec 32 := BitVec.ofNat 32 (i 1).val
  let c3_i32 : BitVec 32 := 3#32
  let v35 : BitVec 1 := Scalar.cmpi .slt arg1 c3_i32
  let v36 : BitVec 32 := Scalar.extui v35
  let c0_i32_20 : BitVec 32 := 0#32
  let v37 : BitVec 1 := Scalar.cmpi .ne v36 c0_i32_20
  v37

def k0_cond3 (i : grid0.Coords) : BitVec 1 :=
  let arg1 : BitVec 32 := BitVec.ofNat 32 (i 1).val
  let c3_i32_21 : BitVec 32 := 3#32
  let v38 : BitVec 1 := Scalar.cmpi .eq arg1 c3_i32_21
  let v39 : BitVec 32 := Scalar.extui v38
  let c0_i32_22 : BitVec 32 := 0#32
  let v40 : BitVec 1 := Scalar.cmpi .ne v39 c0_i32_22
  v40

def k0_cond5 (i : grid0.Coords) : BitVec 1 :=
  let arg1 : BitVec 32 := BitVec.ofNat 32 (i 1).val
  let c19_i32 : BitVec 32 := 19#32
  let v44 : BitVec 1 := Scalar.cmpi .eq arg1 c19_i32
  let v45 : BitVec 32 := Scalar.extui v44
  let c0_i32_25 : BitVec 32 := 0#32
  let v46 : BitVec 1 := Scalar.cmpi .ne v45 c0_i32_25
  v46

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c14_i32 : BitVec 32 := 14#32
  let v3 : BitVec 32 := Scalar.addi c14_i32 v2
  let c0_i32 : BitVec 32 := 0#32
  let v4 : BitVec 32 := Scalar.addi v3 c0_i32
  let c3_i32_0 : BitVec 32 := 3#32
  let v5 : BitVec 1 := Scalar.cmpi .slt arg1 c3_i32_0
  let c4_i32 : BitVec 32 := 4#32
  let v6 : BitVec 32 := Scalar.muli c4_i32 arg1
  let c0_i32_1 : BitVec 32 := 0#32
  let v7 : BitVec 32 := Scalar.addi v6 c0_i32_1
  let c3_i32_2 : BitVec 32 := 3#32
  let v8 : BitVec 1 := Scalar.cmpi .eq arg1 c3_i32_2
  let c12_i32 : BitVec 32 := 12#32
  let v9 : BitVec 32 := Scalar.select v8 c12_i32 v4
  let v10 : BitVec 32 := Scalar.select v5 v7 v9
  let c0_i32_3 : BitVec 32 := 0#32
  let c0_i32_4 : BitVec 32 := 0#32
  ![c0_i32_3.toNat, v10.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c14_i32 : BitVec 32 := 14#32
  let v3 : BitVec 32 := Scalar.addi c14_i32 v2
  let c1_i32_0 : BitVec 32 := 1#32
  let v4 : BitVec 32 := Scalar.addi v3 c1_i32_0
  let c3_i32_1 : BitVec 32 := 3#32
  let v5 : BitVec 1 := Scalar.cmpi .slt arg1 c3_i32_1
  let c4_i32 : BitVec 32 := 4#32
  let v6 : BitVec 32 := Scalar.muli c4_i32 arg1
  let c1_i32_2 : BitVec 32 := 1#32
  let v7 : BitVec 32 := Scalar.addi v6 c1_i32_2
  let c3_i32_3 : BitVec 32 := 3#32
  let v8 : BitVec 1 := Scalar.cmpi .eq arg1 c3_i32_3
  let c13_i32 : BitVec 32 := 13#32
  let v9 : BitVec 32 := Scalar.select v8 c13_i32 v4
  let v10 : BitVec 32 := Scalar.select v5 v7 v9
  let c0_i32 : BitVec 32 := 0#32
  let c0_i32_4 : BitVec 32 := 0#32
  ![c0_i32.toNat, v10.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c47_i32 : BitVec 32 := 47#32
  let v3 : BitVec 32 := Scalar.addi c47_i32 v2
  let c0_i32 : BitVec 32 := 0#32
  let v4 : BitVec 32 := Scalar.addi v3 c0_i32
  let c3_i32_0 : BitVec 32 := 3#32
  let v5 : BitVec 1 := Scalar.cmpi .slt arg1 c3_i32_0
  let c4_i32 : BitVec 32 := 4#32
  let v6 : BitVec 32 := Scalar.muli c4_i32 arg1
  let c2_i32_1 : BitVec 32 := 2#32
  let v7 : BitVec 32 := Scalar.addi v6 c2_i32_1
  let c3_i32_2 : BitVec 32 := 3#32
  let v8 : BitVec 1 := Scalar.cmpi .eq arg1 c3_i32_2
  let c46_i32 : BitVec 32 := 46#32
  let v9 : BitVec 32 := Scalar.select v8 c46_i32 v4
  let v10 : BitVec 32 := Scalar.select v5 v7 v9
  let c0_i32_3 : BitVec 32 := 0#32
  let c0_i32_4 : BitVec 32 := 0#32
  ![c0_i32_3.toNat, v10.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c47_i32 : BitVec 32 := 47#32
  let v3 : BitVec 32 := Scalar.addi c47_i32 v2
  let c1_i32_0 : BitVec 32 := 1#32
  let v4 : BitVec 32 := Scalar.addi v3 c1_i32_0
  let c3_i32_1 : BitVec 32 := 3#32
  let v5 : BitVec 1 := Scalar.cmpi .slt arg1 c3_i32_1
  let c4_i32 : BitVec 32 := 4#32
  let v6 : BitVec 32 := Scalar.muli c4_i32 arg1
  let c3_i32_2 : BitVec 32 := 3#32
  let v7 : BitVec 32 := Scalar.addi v6 c3_i32_2
  let c3_i32_3 : BitVec 32 := 3#32
  let v8 : BitVec 1 := Scalar.cmpi .eq arg1 c3_i32_3
  let c79_i32 : BitVec 32 := 79#32
  let v9 : BitVec 32 := Scalar.select v8 c79_i32 v4
  let v10 : BitVec 32 := Scalar.select v5 v7 v9
  let c0_i32 : BitVec 32 := 0#32
  let c0_i32_4 : BitVec 32 := 0#32
  ![c0_i32.toNat, v10.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c14_i32 : BitVec 32 := 14#32
  let v3 : BitVec 32 := Scalar.addi c14_i32 v2
  let c0_i32 : BitVec 32 := 0#32
  let v4 : BitVec 32 := Scalar.addi v3 c0_i32
  let c3_i32_0 : BitVec 32 := 3#32
  let v5 : BitVec 1 := Scalar.cmpi .slt arg1 c3_i32_0
  let c4_i32 : BitVec 32 := 4#32
  let v6 : BitVec 32 := Scalar.muli c4_i32 arg1
  let c0_i32_1 : BitVec 32 := 0#32
  let v7 : BitVec 32 := Scalar.addi v6 c0_i32_1
  let c3_i32_2 : BitVec 32 := 3#32
  let v8 : BitVec 1 := Scalar.cmpi .eq arg1 c3_i32_2
  let c12_i32 : BitVec 32 := 12#32
  let v9 : BitVec 32 := Scalar.select v8 c12_i32 v4
  let v10 : BitVec 32 := Scalar.select v5 v7 v9
  let c0_i32_3 : BitVec 32 := 0#32
  let c0_i32_4 : BitVec 32 := 0#32
  ![c0_i32_3.toNat, v10.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c14_i32 : BitVec 32 := 14#32
  let v3 : BitVec 32 := Scalar.addi c14_i32 v2
  let c1_i32_0 : BitVec 32 := 1#32
  let v4 : BitVec 32 := Scalar.addi v3 c1_i32_0
  let c3_i32_1 : BitVec 32 := 3#32
  let v5 : BitVec 1 := Scalar.cmpi .slt arg1 c3_i32_1
  let c4_i32 : BitVec 32 := 4#32
  let v6 : BitVec 32 := Scalar.muli c4_i32 arg1
  let c1_i32_2 : BitVec 32 := 1#32
  let v7 : BitVec 32 := Scalar.addi v6 c1_i32_2
  let c3_i32_3 : BitVec 32 := 3#32
  let v8 : BitVec 1 := Scalar.cmpi .eq arg1 c3_i32_3
  let c13_i32 : BitVec 32 := 13#32
  let v9 : BitVec 32 := Scalar.select v8 c13_i32 v4
  let v10 : BitVec 32 := Scalar.select v5 v7 v9
  let c0_i32 : BitVec 32 := 0#32
  let c0_i32_4 : BitVec 32 := 0#32
  ![c0_i32.toNat, v10.toNat]

def cc0_transform_10 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c47_i32 : BitVec 32 := 47#32
  let v3 : BitVec 32 := Scalar.addi c47_i32 v2
  let c0_i32 : BitVec 32 := 0#32
  let v4 : BitVec 32 := Scalar.addi v3 c0_i32
  let c3_i32_0 : BitVec 32 := 3#32
  let v5 : BitVec 1 := Scalar.cmpi .slt arg1 c3_i32_0
  let c4_i32 : BitVec 32 := 4#32
  let v6 : BitVec 32 := Scalar.muli c4_i32 arg1
  let c2_i32_1 : BitVec 32 := 2#32
  let v7 : BitVec 32 := Scalar.addi v6 c2_i32_1
  let c3_i32_2 : BitVec 32 := 3#32
  let v8 : BitVec 1 := Scalar.cmpi .eq arg1 c3_i32_2
  let c46_i32 : BitVec 32 := 46#32
  let v9 : BitVec 32 := Scalar.select v8 c46_i32 v4
  let v10 : BitVec 32 := Scalar.select v5 v7 v9
  let c0_i32_3 : BitVec 32 := 0#32
  let c0_i32_4 : BitVec 32 := 0#32
  ![c0_i32_3.toNat, v10.toNat]

def cc0_transform_11 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c1_i32 : BitVec 32 := 1#32
  let v1 : BitVec 32 := Scalar.subi v0 c1_i32
  let c2_i32 : BitVec 32 := 2#32
  let v2 : BitVec 32 := Scalar.muli c2_i32 v1
  let c47_i32 : BitVec 32 := 47#32
  let v3 : BitVec 32 := Scalar.addi c47_i32 v2
  let c1_i32_0 : BitVec 32 := 1#32
  let v4 : BitVec 32 := Scalar.addi v3 c1_i32_0
  let c3_i32_1 : BitVec 32 := 3#32
  let v5 : BitVec 1 := Scalar.cmpi .slt arg1 c3_i32_1
  let c4_i32 : BitVec 32 := 4#32
  let v6 : BitVec 32 := Scalar.muli c4_i32 arg1
  let c3_i32_2 : BitVec 32 := 3#32
  let v7 : BitVec 32 := Scalar.addi v6 c3_i32_2
  let c3_i32_3 : BitVec 32 := 3#32
  let v8 : BitVec 1 := Scalar.cmpi .eq arg1 c3_i32_3
  let c79_i32 : BitVec 32 := 79#32
  let v9 : BitVec 32 := Scalar.select v8 c79_i32 v4
  let v10 : BitVec 32 := Scalar.select v5 v7 v9
  let c0_i32 : BitVec 32 := 0#32
  let c0_i32_4 : BitVec 32 := 0#32
  ![c0_i32.toNat, v10.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S12288x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S12288x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S12288x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S12288x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S64x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S512x128 .fp8e4m3 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S512x4224 .fp8e4m3 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== InProjIdeal.lean ====
variable {F : FTy → Type} [FloatOps F] [Named F]
def κ : String → Option EReal := fun
  | "inv_fp8_max" => some ((1 / 448 : ℝ) : EReal)
  | _ => none
-- ==== InRefIdeal.lean ====
abbrev S14336x12288 : Shape := ⟨2, ![14336, 12288]⟩
abbrev S1x14336 : Shape := ⟨2, ![1, 14336]⟩
abbrev S12288x10240 : Shape := ⟨2, ![12288, 10240]⟩
abbrev S10240 : Shape := ⟨1, ![10240]⟩
abbrev S14336x64 : Shape := ⟨2, ![14336, 64]⟩
abbrev S1 : Shape := ⟨1, ![1]⟩
abbrev S12x14336x128 : Shape := ⟨3, ![12, 14336, 128]⟩
abbrev S14336x128 : Shape := ⟨2, ![14336, 128]⟩
abbrev S128x14336 : Shape := ⟨2, ![128, 14336]⟩
abbrev S14336x4224 : Shape := ⟨2, ![14336, 4224]⟩
abbrev S14336x10240 : Shape := ⟨2, ![14336, 10240]⟩
abbrev S14336x1 : Shape := ⟨2, ![14336, 1]⟩
abbrev S1x10240 : Shape := ⟨2, ![1, 10240]⟩
abbrev S14336x1536 : Shape := ⟨2, ![14336, 1536]⟩
abbrev S14336x12x128 : Shape := ⟨3, ![14336, 12, 128]⟩
abbrev S14336x12x64x2 : Shape := ⟨4, ![14336, 12, 64, 2]⟩
abbrev S14336x12x64x1 : Shape := ⟨4, ![14336, 12, 64, 1]⟩
abbrev S14336x12x64 : Shape := ⟨3, ![14336, 12, 64]⟩
abbrev S14336x1x64 : Shape := ⟨3, ![14336, 1, 64]⟩
abbrev S14336x1x128 : Shape := ⟨3, ![14336, 1, 128]⟩
abbrev S14336x1x64x2 : Shape := ⟨4, ![14336, 1, 64, 2]⟩
abbrev S14336x1x64x1 : Shape := ⟨4, ![14336, 1, 64, 1]⟩
abbrev S1x1 : Shape := ⟨2, ![1, 1]⟩
abbrev S14336 : Shape := ⟨1, ![14336]⟩

abbrev nBuf : Space → Nat
  | .hbm => 15
  | .vmem => 15
  | .smem => 0
  | _ => 0

abbrev bufTy : (tb : Table) → Fin (tcTables nBuf tb) → BufTy
  | .hbm, ⟨0, _⟩ => ⟨S14336x12288, .fp8e4m3⟩
  | .hbm, ⟨1, _⟩ => ⟨S1x14336, .f32⟩
  | .hbm, ⟨2, _⟩ => ⟨S12288x10240, .fp8e4m3⟩
  | .hbm, ⟨3, _⟩ => ⟨S10240, .f32⟩
  | .hbm, ⟨4, _⟩ => ⟨S14336x64, .f32⟩
  | .hbm, ⟨5, _⟩ => ⟨S14336x64, .f32⟩
  | .hbm, ⟨6, _⟩ => ⟨S1, .f32⟩
  | .hbm, ⟨7, _⟩ => ⟨S1, .f32⟩
  | .hbm, ⟨8, _⟩ => ⟨S12x14336x128, .bf16⟩
  | .hbm, ⟨9, _⟩ => ⟨S14336x128, .fp8e4m3⟩
  | .hbm, ⟨10, _⟩ => ⟨S14336x128, .fp8e4m3⟩
  | .hbm, ⟨11, _⟩ => ⟨S128x14336, .bf16⟩
  | .hbm, ⟨12, _⟩ => ⟨S14336x128, .bf16⟩
  | .hbm, ⟨13, _⟩ => ⟨S14336x4224, .fp8e4m3⟩
  | .hbm, ⟨14, _⟩ => ⟨S1x14336, .f32⟩
  | .local _ .vmem, ⟨0, _⟩ => ⟨S14336x12288, .fp8e4m3⟩
  | .local _ .vmem, ⟨1, _⟩ => ⟨S1x14336, .f32⟩
  | .local _ .vmem, ⟨2, _⟩ => ⟨S12288x10240, .fp8e4m3⟩
  | .local _ .vmem, ⟨3, _⟩ => ⟨S10240, .f32⟩
  | .local _ .vmem, ⟨4, _⟩ => ⟨S14336x64, .f32⟩
  | .local _ .vmem, ⟨5, _⟩ => ⟨S14336x64, .f32⟩
  | .local _ .vmem, ⟨6, _⟩ => ⟨S1, .f32⟩
  | .local _ .vmem, ⟨7, _⟩ => ⟨S1, .f32⟩
  | .local _ .vmem, ⟨8, _⟩ => ⟨S12x14336x128, .bf16⟩
  | .local _ .vmem, ⟨9, _⟩ => ⟨S14336x128, .fp8e4m3⟩
  | .local _ .vmem, ⟨10, _⟩ => ⟨S14336x128, .fp8e4m3⟩
  | .local _ .vmem, ⟨11, _⟩ => ⟨S128x14336, .bf16⟩
  | .local _ .vmem, ⟨12, _⟩ => ⟨S14336x128, .bf16⟩
  | .local _ .vmem, ⟨13, _⟩ => ⟨S14336x4224, .fp8e4m3⟩
  | .local _ .vmem, ⟨14, _⟩ => ⟨S1x14336, .f32⟩
  | _, _ => ⟨S14336x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S14336x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x14336 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x14336x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14336x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14336x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x14336 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S14336x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S14336x4224 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x14336 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.OutBlock.lean ====
module

public import proofs.«01_k».proof.Defs
public import proofs.«01_k».proof.Proof.Gen.OutProjIdeal.Frame
public import Idealize.ShloMosaic.Lib.Pipeline.ValueKit
public import Idealize.ShloMosaic.Lib.Pointwise

/-! The closing projection: which block each operand stages at a grid point, and the two columns of row scales the body lays out
at the first point of a row of blocks and carries to the others. -/

@[expose] public section

set_option maxRecDepth 16384

noncomputable section

open Idealize.ShloMosaic Idealize.ShloMosaic.TcCoe Idealize.SL.Sem

namespace Cert.Proof.Out

open Cert.OutProjIdeal Cert.OutProjIdeal.Gen

variable (m : (ℓ : Loc nD τ sig) → Buf (Elt Ideal) ℓ)

/-- The blocks the windows stage at a point, in the point's number. -/
theorem idx : ∀ t : Fin cfg0.N, win0_0.index t = ![0, t.val / 24, 0] ∧ win0_1.index t = ![0, t.val / 24]
    ∧ win0_2.index t = ![t.val / 24, 0] ∧ win0_3.index t = ![0, t.val / 24] ∧ win0_4.index t = ![0, t.val % 24]
    ∧ win0_5.index t = ![0, t.val % 24] ∧ win0_6.index t = ![0, t.val % 24] ∧ win0_7.index t = ![0, t.val % 24]
    ∧ win0_8.index t = ![t.val / 24, t.val % 24] ∧ win0_9.index t = ![t.val / 24, t.val % 24] :=
  (by decide +kernel : ∀ t : Fin grid0.N, _)

/-- At the first point of a row of blocks the attention scales are laid out as a column, once per lane. -/
theorem ocol_A (c : Dev nD) (t : Fin cfg0.N) (h0 : t.val % 24 = 0) (y : S1024x128.Idx) :
    (outsAt0 m c t.val t.isLt).2.1 y = iblk m c 1 t (ix2 0 (y 0)) := by
  rw [outsAt0_A m c t h0]
  frame_out
  canon_tiles x h
  all_goals (open_payloads; pointwise; blk_ext)

/-- The same for the scales of the other half. -/
theorem hcol_A (c : Dev nD) (t : Fin cfg0.N) (h0 : t.val % 24 = 0) (y : S1024x128.Idx) :
    (outsAt0 m c t.val t.isLt).2.2 y = iblk m c 3 t (ix2 0 (y 0)) := by
  rw [outsAt0_A m c t h0]
  frame_out
  canon_tiles x h
  all_goals (open_payloads; pointwise; blk_ext)

/-- At any other point the column of attention scales stays as it was. -/
theorem ocol_B (c : Dev nD) (t : Fin cfg0.N) (h0 : ¬ t.val % 24 = 0) :
    (outsAt0 m c t.val t.isLt).2.1 = (outsAt0 m c (t.val - 1) (Nat.lt_of_le_of_lt (Nat.sub_le _ _) t.isLt)).2.1 := by
  rw [outsAt0_B m c t h0]
  rfl

/-- At any other point the column of the other half's scales stays as it was. -/
theorem hcol_B (c : Dev nD) (t : Fin cfg0.N) (h0 : ¬ t.val % 24 = 0) :
    (outsAt0 m c t.val t.isLt).2.2 = (outsAt0 m c (t.val - 1) (Nat.lt_of_le_of_lt (Nat.sub_le _ _) t.isLt)).2.2 := by
  rw [outsAt0_B m c t h0]
  rfl

end Cert.Proof.Out

end
-- ==== Proof.OutProducts.lean ====
module

public import proofs.«01_k».proof.Defs
public import proofs.«01_k».proof.Proof.Gen.OutProjIdeal.Frame
public import Idealize.ShloMosaic.Lib.Pipeline.ValueKit
public import Idealize.ShloMosaic.Lib.Pointwise

/-! The two products of a block of the closing projection, before their scales. -/

@[expose] public section

set_option maxRecDepth 16384

noncomputable section

open Idealize.ShloMosaic Idealize.ShloMosaic.TcCoe Idealize.SL.Sem

namespace Cert.Proof.Out

open Cert.OutProjIdeal Cert.OutProjIdeal.Gen

set_option maxHeartbeats 1600000 in
/-- The attention half of a block before its scales: the heads laid side by side, times the rows of the weight, is the sum over
    the heads of each head's own product. -/
theorem heads_at (O : S12x1024x128.Idx → EReal) (w : Vec Ideal S1536x512 .fp8e4m3) (r : Fin 1024) (j : Fin 512)
    (p0 p1 p2 p3 p4 p5 p6 p7 p8 p9 : FVec Ideal S1024x128 .fp8e4m3) (p10 p11 : Vec Ideal S1x1024x128 .fp8e4m3)
    (h0 : ∀ l : Fin 128, p0 (ix2 r l) = O (ix3 0 r l))
    (h1 : ∀ l : Fin 128, p1 (ix2 r l) = O (ix3 1 r l))
    (h2 : ∀ l : Fin 128, p2 (ix2 r l) = O (ix3 2 r l))
    (h3 : ∀ l : Fin 128, p3 (ix2 r l) = O (ix3 3 r l))
    (h4 : ∀ l : Fin 128, p4 (ix2 r l) = O (ix3 4 r l))
    (h5 : ∀ l : Fin 128, p5 (ix2 r l) = O (ix3 5 r l))
    (h6 : ∀ l : Fin 128, p6 (ix2 r l) = O (ix3 6 r l))
    (h7 : ∀ l : Fin 128, p7 (ix2 r l) = O (ix3 7 r l))
    (h8 : ∀ l : Fin 128, p8 (ix2 r l) = O (ix3 8 r l))
    (h9 : ∀ l : Fin 128, p9 (ix2 r l) = O (ix3 9 r l))
    (h10 : ∀ l : Fin 128, p10 (ix3 0 r l) = O (ix3 10 r l))
    (h11 : ∀ l : Fin 128, p11 (ix3 0 r l) = O (ix3 11 r l)) :
    k0_pay28 (F := Ideal) p0 p1 p2 p3 p4 p5 p6 p7 p8 p9 p10 p11 w (ix2 r j)
      = ∑ h : Fin 12, ∑ l : Fin 128, O (ix3 h r l) * w (ix2 ⟨(h : ℕ) * 128 + (l : ℕ), by omega⟩ j) := by
  pointwise [k0_pay28]
  symm
  refine Fin.sum_mul_add_congr fun s k hl => ?_
  have e : ∀ a b : EReal, a = b → a * w (ix2 ⟨(s : ℕ) * 128 + (k : ℕ), hl⟩ j) = b * w (ix2 ⟨(s : ℕ) * 128 + (k : ℕ), hl⟩ j) := fun a b h => by rw [h]
  refine e _ _ ?_
  have hk := k.isLt
  obtain ⟨s, hs⟩ := s
  match s, hs with
  | 0, _ =>
    rw [dif_pos (by dsimp only; omega)]
    exact (h0 k).symm.trans (congrArg p0 (by congr 1; exact Fin.ext (by dsimp only; omega)))
  | 1, _ =>
    rw [dif_neg (by dsimp only; omega), dif_pos (by dsimp only; omega)]
    exact (h1 k).symm.trans (congrArg p1 (by congr 1; exact Fin.ext (by dsimp only; omega)))
  | 2, _ =>
    rw [dif_neg (by dsimp only; omega), dif_neg (by dsimp only; omega), dif_pos (by dsimp only; omega)]
    exact (h2 k).symm.trans (congrArg p2 (by congr 1; exact Fin.ext (by dsimp only; omega)))
  | 3, _ =>
    rw [dif_neg (by dsimp only; omega), dif_neg (by dsimp only; omega), dif_neg (by dsimp only; omega), dif_pos (by dsimp only; omega)]
    exact (h3 k).symm.trans (congrArg p3 (by congr 1; exact Fin.ext (by dsimp only; omega)))
  | 4, _ =>
    rw [dif_neg (by dsimp only; omega), dif_neg (by dsimp only; omega), dif_neg (by dsimp only; omega), dif_neg (by dsimp only; omega), dif_pos (by dsimp only; omega)]
    exact (h4 k).symm.trans (congrArg p4 (by congr 1; exact Fin.ext (by dsimp only; omega)))
  | 5, _ =>
    rw [dif_neg (by dsimp only; omega), dif_neg (by dsimp only; omega), dif_neg (by dsimp only; omega), dif_neg (by dsimp only; omega), dif_neg (by dsimp only; omega), dif_pos (by dsimp only; omega)]
    exact (h5 k).symm.trans (congrArg p5 (by congr 1; exact Fin.ext (by dsimp only; omega)))
  | 6, _ =>
    rw [dif_neg (by dsimp only; omega), dif_neg (by dsimp only; omega), dif_neg (by dsimp only; omega), dif_neg (by dsimp only; omega), dif_neg (by dsimp only; omega), dif_neg (by dsimp only; omega), dif_pos (by dsimp only; omega)]
    exact (h6 k).symm.trans (congrArg p6 (by congr 1; exact Fin.ext (by dsimp only; omega)))
  | 7, _ =>
    rw [dif_neg (by dsimp only; omega), dif_neg (by dsimp only; omega), dif_neg (by dsimp only; omega), dif_neg (by dsimp only; omega), dif_neg (by dsimp only; omega), dif_neg (by dsimp only; omega), dif_neg (by dsimp only; omega), dif_pos (by dsimp only; omega)]
    exact (h7 k).symm.trans (congrArg p7 (by congr 1; exact Fin.ext (by dsimp only; omega)))
  | 8, _ =>
    rw [dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_pos (by dsimp only; omega)]
    exact (h8 k).symm.trans (congrArg p8 (by congr 1; exact Fin.ext (by dsimp only; omega)))
  | 9, _ =>
    rw [dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_pos (by dsimp only; omega)]
    exact (h9 k).symm.trans (congrArg p9 (by congr 1; exact Fin.ext (by dsimp only; omega)))
  | 10, _ =>
    rw [dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_pos (by dsimp only; omega)]
    exact (h10 k).symm.trans (congrArg p10 (by congr 1; exact Fin.ext (by dsimp only; omega)))
  | 11, _ =>
    rw [dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega), dif_neg (by dsimp only; omega)]
    exact (h11 k).symm.trans (congrArg p11 (by congr 1; exact Fin.ext (by dsimp only; omega)))

/-- The other half of a block before its scales. -/
theorem mlp_at (h : Vec Ideal S1024x4224 .fp8e4m3) (w : Vec Ideal S4224x512 .fp8e4m3) (r : Fin 1024) (j : Fin 512) :
    k0_pay29 (F := Ideal) h w (ix2 r j) = ∑ k : Fin 4224, h (ix2 r k) * w (ix2 k j) := by
  pointwise! [k0_pay29]

end Cert.Proof.Out

end
-- ==== Proof.OutPoint.lean ====
module

public import proofs.«01_k».proof.Proof.OutBlock
public import proofs.«01_k».proof.Proof.OutProducts
public import Idealize.ShloMosaic.Lib.Pipeline.ReadBack

/-! What the body of the closing projection leaves in its output block, at a first point of a row of blocks and at any other. -/

@[expose] public section

set_option maxRecDepth 16384

noncomputable section

open Idealize.ShloMosaic Idealize.ShloMosaic.TcCoe Idealize.SL.Sem

namespace Cert.Proof.Out

open Cert.OutProjIdeal Cert.OutProjIdeal.Gen

variable (m : (ℓ : Loc nD τ sig) → Buf (Elt Ideal) ℓ)

/-- The value of a block from what its point stages. -/
def blockVal (O : S12x1024x128.Idx → EReal) (wo : S1536x512.Idx → EReal) (oc : EReal) (wos : S1x512.Idx → EReal)
    (H : S1024x4224.Idx → EReal) (wd : S4224x512.Idx → EReal) (hc : EReal) (wds : S1x512.Idx → EReal)
    (x : S1024x512.Idx → EReal) (r : Fin 1024) (j : Fin 512) : EReal :=
  (∑ h : Fin 12, ∑ l : Fin 128, O (ix3 h r l) * wo (ix2 ⟨(h : ℕ) * 128 + (l : ℕ), by omega⟩ j)) * oc * wos (ix2 0 j)
    + (∑ k : Fin 4224, H (ix2 r k) * wd (ix2 k j)) * hc * wds (ix2 0 j) + x (ix2 r j)

/-- `heads_at` at the twelve heads as the body loads them. -/
theorem heads_ld (O : Vec Ideal S12x1024x128 .fp8e4m3) (w : Vec Ideal S1536x512 .fp8e4m3) (r : Fin 1024) (j : Fin 512) :
    k0_pay28 (F := Ideal) (k0_pay18 (View.ld O (Rect.unit ![0, 0, 0] ![1, 1024, 128] inb_S12x1024x128_S1x1024x128_0_0_0)))
      (k0_pay19 (View.ld O (Rect.unit ![1, 0, 0] ![1, 1024, 128] inb_S12x1024x128_S1x1024x128_1_0_0)))
      (k0_pay20 (View.ld O (Rect.unit ![2, 0, 0] ![1, 1024, 128] inb_S12x1024x128_S1x1024x128_2_0_0)))
      (k0_pay21 (View.ld O (Rect.unit ![3, 0, 0] ![1, 1024, 128] inb_S12x1024x128_S1x1024x128_3_0_0)))
      (k0_pay22 (View.ld O (Rect.unit ![4, 0, 0] ![1, 1024, 128] inb_S12x1024x128_S1x1024x128_4_0_0)))
      (k0_pay23 (View.ld O (Rect.unit ![5, 0, 0] ![1, 1024, 128] inb_S12x1024x128_S1x1024x128_5_0_0)))
      (k0_pay24 (View.ld O (Rect.unit ![6, 0, 0] ![1, 1024, 128] inb_S12x1024x128_S1x1024x128_6_0_0)))
      (k0_pay25 (View.ld O (Rect.unit ![7, 0, 0] ![1, 1024, 128] inb_S12x1024x128_S1x1024x128_7_0_0)))
      (k0_pay26 (View.ld O (Rect.unit ![8, 0, 0] ![1, 1024, 128] inb_S12x1024x128_S1x1024x128_8_0_0)))
      (k0_pay27 (View.ld O (Rect.unit ![9, 0, 0] ![1, 1024, 128] inb_S12x1024x128_S1x1024x128_9_0_0)))
      (View.ld O (Rect.unit ![10, 0, 0] ![1, 1024, 128] inb_S12x1024x128_S1x1024x128_10_0_0))
      (View.ld O (Rect.unit ![11, 0, 0] ![1, 1024, 128] inb_S12x1024x128_S1x1024x128_11_0_0)) w (ix2 r j)
      = ∑ h : Fin 12, ∑ l : Fin 128, O (ix3 h r l) * w (ix2 ⟨(h : ℕ) * 128 + (l : ℕ), by omega⟩ j) := by
  refine heads_at O w r j _ _ _ _ _ _ _ _ _ _ _ _ ?_ ?_ ?_ ?_ ?_ ?_ ?_ ?_ ?_ ?_ ?_ ?_
  all_goals intro l
  · pointwise! [k0_pay18]
  · pointwise! [k0_pay19]
  · pointwise! [k0_pay20]
  · pointwise! [k0_pay21]
  · pointwise! [k0_pay22]
  · pointwise! [k0_pay23]
  · pointwise! [k0_pay24]
  · pointwise! [k0_pay25]
  · pointwise! [k0_pay26]
  · pointwise! [k0_pay27]
  · pointwise!
  · pointwise!

/-- A block's element put together from its parts. -/
theorem blockVal_of {O : S12x1024x128.Idx → EReal} {wo : S1536x512.Idx → EReal} {oc oc' : EReal} {wos : S1x512.Idx → EReal}
    {H : S1024x4224.Idx → EReal} {wd : S4224x512.Idx → EReal} {hc hc' : EReal} {wds : S1x512.Idx → EReal}
    {x : S1024x512.Idx → EReal} {r : Fin 1024} {j : Fin 512} {A B a b e : EReal}
    (hA : A = ∑ h : Fin 12, ∑ l : Fin 128, O (ix3 h r l) * wo (ix2 ⟨(h : ℕ) * 128 + (l : ℕ), by omega⟩ j)) (ho : oc = oc')
    (ha : a = wos (ix2 0 j)) (hB : B = ∑ k : Fin 4224, H (ix2 r k) * wd (ix2 k j)) (hh : hc = hc') (hb : b = wds (ix2 0 j))
    (he : e = x (ix2 r j)) : A * oc * a + B * hc * b + e = blockVal O wo oc' wos H wd hc' wds x r j := by
  rw [hA, ho, ha, hB, hh, hb, he]; rfl

/-- A load of everything that the body itself stored, as the pieces it stored. -/
theorem readCov_at (v : View sig .tc .vmem S1024x128 .f32) (inb : ∀ a, (![0, 0] : Fin 2 → ℕ) a + (![1024, 128] : Fin 2 → ℕ) a ≤ S1024x128.size a)
    (L : List (View.Piece (Elt Ideal) S1024x128 .f32)) (x : S1024x128.Idx) :
    v.readCov L (Rect.unit (s := S1024x128) ![0, 0] ![1024, 128] inb).toLoadRect x = View.canon L x :=
  congrFun ((View.readAt_eq_ld v _ _).trans ((View.ld_unit_lit (S := S1024x128) (off := ![0, 0]) inb _ (by decide)).trans
    (View.read_writes_junk_eq_canon v L))) x

set_option maxHeartbeats 1600000 in
/-- The output block at a point that finds the scale columns laid out. -/
theorem block_B (c : Dev nD) (t : Fin cfg0.N) (h0 : ¬ t.val % 24 = 0) (y : S1024x512.Idx) :
    (outsAt0 m c t.val t.isLt).1 y = blockVal (iblk m c 0 t) (iblk m c 4 t)
      ((outsAt0 m c (t.val - 1) (Nat.lt_of_le_of_lt (Nat.sub_le _ _) t.isLt)).2.1 (ix2 (y 0) ⟨(y 1 : ℕ) % 128, Nat.mod_lt _ (by decide)⟩)) (iblk m c 5 t)
      (iblk m c 2 t) (iblk m c 6 t)
      ((outsAt0 m c (t.val - 1) (Nat.lt_of_le_of_lt (Nat.sub_le _ _) t.isLt)).2.2 (ix2 (y 0) ⟨(y 1 : ℕ) % 128, Nat.mod_lt _ (by decide)⟩)) (iblk m c 7 t)
      (iblk m c 8 t) (y 0) (y 1) := by
  rw [outsAt0_B m c t h0]
  frame_out
  canon_tiles x h
  · have e0 : (y 0 : Fin 1024) = x 0 := Fin.ext h0
    have e1 : (y 1 : Fin 512) = ⟨384 + (x 1).val, by omega⟩ := Fin.ext h1
    pointwise [k0_pay1]
    simp only [read_unread_whole]
    refine blockVal_of ?_ ?_ ?_ ?_ ?_ ?_ ?_
    · rw [e0, e1]; exact heads_ld _ _ _ _
    · blk_ext
    · rw [e1]; rfl
    · rw [e0, e1]; exact mlp_at _ _ _ _
    · blk_ext
    · rw [e1]; rfl
    · rw [e0, e1]; rfl
  · have e0 : (y 0 : Fin 1024) = x 0 := Fin.ext h0
    have e1 : (y 1 : Fin 512) = ⟨256 + (x 1).val, by omega⟩ := Fin.ext h1
    pointwise [k0_pay33]
    simp only [read_unread_whole]
    refine blockVal_of ?_ ?_ ?_ ?_ ?_ ?_ ?_
    · rw [e0, e1]; exact heads_ld _ _ _ _
    · blk_ext
    · rw [e1]; rfl
    · rw [e0, e1]; exact mlp_at _ _ _ _
    · blk_ext
    · rw [e1]; rfl
    · rw [e0, e1]; rfl
  · have e0 : (y 0 : Fin 1024) = x 0 := Fin.ext h0
    have e1 : (y 1 : Fin 512) = ⟨128 + (x 1).val, by omega⟩ := Fin.ext h1
    pointwise [k0_pay32, k0_pay31]
    simp only [read_unread_whole]
    refine blockVal_of ?_ ?_ ?_ ?_ ?_ ?_ ?_
    · rw [e0, e1]; exact heads_ld _ _ _ _
    · blk_ext
    · rw [e1]; rfl
    · rw [e0, e1]; exact mlp_at _ _ _ _
    · blk_ext
    · rw [e1]; rfl
    · rw [e0, e1]; rfl
  · have e0 : (y 0 : Fin 1024) = x 0 := Fin.ext h0
    have e1 : (y 1 : Fin 512) = ⟨(x 1).val, by omega⟩ := Fin.ext h1
    pointwise [k0_pay30]
    simp only [read_unread_whole]
    refine blockVal_of ?_ ?_ ?_ ?_ ?_ ?_ ?_
    · rw [e0, e1]; exact heads_ld _ _ _ _
    · blk_ext
    · rw [e1]; rfl
    · rw [e0, e1]; exact mlp_at _ _ _ _
    · blk_ext
    · rw [e1]; rfl
    · rw [e0, e1]; rfl

set_option maxHeartbeats 1600000 in
/-- The output block at the first point of a row of blocks. -/
theorem block_A (c : Dev nD) (t : Fin cfg0.N) (h0 : t.val % 24 = 0) (y : S1024x512.Idx) :
    (outsAt0 m c t.val t.isLt).1 y = blockVal (iblk m c 0 t) (iblk m c 4 t)
      (iblk m c 1 t (ix2 0 (y 0))) (iblk m c 5 t)
      (iblk m c 2 t) (iblk m c 6 t)
      (iblk m c 3 t (ix2 0 (y 0))) (iblk m c 7 t)
      (iblk m c 8 t) (y 0) (y 1) := by
  rw [outsAt0_A m c t h0]
  frame_out
  canon_tiles x h
  · have e0 : (y 0 : Fin 1024) = x 0 := Fin.ext h0
    have e1 : (y 1 : Fin 512) = ⟨384 + (x 1).val, by omega⟩ := Fin.ext h1
    pointwise [k0_pay1]
    skip
    refine blockVal_of ?_ ?_ ?_ ?_ ?_ ?_ ?_
    · rw [e0, e1]; exact heads_ld _ _ _ _
    · refine (readCov_at _ _ _ _).trans ?_
      canon_tiles z hz
      all_goals (open_payloads; pointwise; blk_ext)
    · rw [e1]; rfl
    · rw [e0, e1]; exact mlp_at _ _ _ _
    · refine (readCov_at _ _ _ _).trans ?_
      canon_tiles z hz
      all_goals (open_payloads; pointwise; blk_ext)
    · rw [e1]; rfl
    · rw [e0, e1]; rfl
  · have e0 : (y 0 : Fin 1024) = x 0 := Fin.ext h0
    have e1 : (y 1 : Fin 512) = ⟨256 + (x 1).val, by omega⟩ := Fin.ext h1
    pointwise [k0_pay33]
    skip
    refine blockVal_of ?_ ?_ ?_ ?_ ?_ ?_ ?_
    · rw [e0, e1]; exact heads_ld _ _ _ _
    · refine (readCov_at _ _ _ _).trans ?_
      canon_tiles z hz
      all_goals (open_payloads; pointwise; blk_ext)
    · rw [e1]; rfl
    · rw [e0, e1]; exact mlp_at _ _ _ _
    · refine (readCov_at _ _ _ _).trans ?_
      canon_tiles z hz
      all_goals (open_payloads; pointwise; blk_ext)
    · rw [e1]; rfl
    · rw [e0, e1]; rfl
  · have e0 : (y 0 : Fin 1024) = x 0 := Fin.ext h0
    have e1 : (y 1 : Fin 512) = ⟨128 + (x 1).val, by omega⟩ := Fin.ext h1
    pointwise [k0_pay32, k0_pay31]
    skip
    refine blockVal_of ?_ ?_ ?_ ?_ ?_ ?_ ?_
    · rw [e0, e1]; exact heads_ld _ _ _ _
    · refine (readCov_at _ _ _ _).trans ?_
      canon_tiles z hz
      all_goals (open_payloads; pointwise; blk_ext)
    · rw [e1]; rfl
    · rw [e0, e1]; exact mlp_at _ _ _ _
    · refine (readCov_at _ _ _ _).trans ?_
      canon_tiles z hz
      all_goals (open_payloads; pointwise; blk_ext)
    · rw [e1]; rfl
    · rw [e0, e1]; rfl
  · have e0 : (y 0 : Fin 1024) = x 0 := Fin.ext h0
    have e1 : (y 1 : Fin 512) = ⟨(x 1).val, by omega⟩ := Fin.ext h1
    pointwise [k0_pay30]
    skip
    refine blockVal_of ?_ ?_ ?_ ?_ ?_ ?_ ?_
    · rw [e0, e1]; exact heads_ld _ _ _ _
    · refine (readCov_at _ _ _ _).trans ?_
      canon_tiles z hz
      all_goals (open_payloads; pointwise; blk_ext)
    · rw [e1]; rfl
    · rw [e0, e1]; exact mlp_at _ _ _ _
    · refine (readCov_at _ _ _ _).trans ?_
      canon_tiles z hz
      all_goals (open_payloads; pointwise; blk_ext)
    · rw [e1]; rfl
    · rw [e0, e1]; rfl

end Cert.Proof.Out

end
-- ==== Proof.OutArray.lean ====
module

public import proofs.«01_k».proof.Proof.OutPoint
public import proofs.«01_k».proof.Proof.Gen.OutProjIdeal.Value
public import proofs.«01_k».proof.Proof.Gen.OutRefIdeal.Frame

/-! The array the closing projection leaves, block by block, is the reference's. -/

@[expose] public section

set_option maxRecDepth 16384

noncomputable section

open Idealize.ShloMosaic Idealize.ShloMosaic.TcCoe Idealize.SL.Sem

namespace Cert.Proof.Out

open Cert.OutProjIdeal Cert.OutProjIdeal.Gen

variable (m : (ℓ : Loc nD τ sig) → Buf (Elt Ideal) ℓ)

/-- The grid has 336 points. -/
theorem points : ∀ t : Fin cfg0.N, t.val < 336 := (by decide +kernel : ∀ t : Fin grid0.N, _)

/-- The column of attention scales at the first point of a row block. -/
theorem ocol_row (c : Dev nD) (t : Fin cfg0.N) (h0 : t.val % 24 = 0) (y : S1024x128.Idx) :
    (outsAt0 m c t.val t.isLt).2.1 y = m ((c : Thread nD τ).loc main_arg1)
      (ix2 0 ⟨t.val / 24 * 1024 + (y 0).val, by have h := points t; have hy : (y 0).val < 1024 := (y 0).isLt; show _ < 14336; omega⟩) := by
  rw [ocol_A m c t h0 y]
  blk_point [iblk, V, idx t]

/-- The column of attention scales carried between points is the row block's. -/
theorem ocol_at (c : Dev nD) : ∀ (n : ℕ) (hn : n < cfg0.N) (y : S1024x128.Idx),
    (outsAt0 m c n hn).2.1 y = m ((c : Thread nD τ).loc main_arg1)
      (ix2 0 ⟨n / 24 * 1024 + (y 0).val, by have h := points ⟨n, hn⟩; have hy : (y 0).val < 1024 := (y 0).isLt; dsimp only at h; show _ < 14336; omega⟩) := by
  intro n
  induction n with
  | zero => intro hn y; exact ocol_row m c ⟨0, hn⟩ rfl y
  | succ n ih =>
    intro hn y
    by_cases h0 : (n + 1) % 24 = 0
    · exact ocol_row m c ⟨n + 1, hn⟩ h0 y
    · rw [ocol_B m c ⟨n + 1, hn⟩ h0]
      refine (ih _ y).trans (congrArg _ ?_)
      have e : (n + 1) / 24 = n / 24 := by omega
      simp only [e]

/-- The column of the other half's scales at the first point of a row block. -/
theorem hcol_row (c : Dev nD) (t : Fin cfg0.N) (h0 : t.val % 24 = 0) (y : S1024x128.Idx) :
    (outsAt0 m c t.val t.isLt).2.2 y = m ((c : Thread nD τ).loc main_arg3)
      (ix2 0 ⟨t.val / 24 * 1024 + (y 0).val, by have h := points t; have hy : (y 0).val < 1024 := (y 0).isLt; show _ < 14336; omega⟩) := by
  rw [hcol_A m c t h0 y]
  blk_point [iblk, V, idx t]

/-- The column of the other half's scales carried between points is the row block's. -/
theorem hcol_at (c : Dev nD) : ∀ (n : ℕ) (hn : n < cfg0.N) (y : S1024x128.Idx),
    (outsAt0 m c n hn).2.2 y = m ((c : Thread nD τ).loc main_arg3)
      (ix2 0 ⟨n / 24 * 1024 + (y 0).val, by have h := points ⟨n, hn⟩; have hy : (y 0).val < 1024 := (y 0).isLt; dsimp only at h; show _ < 14336; omega⟩) := by
  intro n
  induction n with
  | zero => intro hn y; exact hcol_row m c ⟨0, hn⟩ rfl y
  | succ n ih =>
    intro hn y
    by_cases h0 : (n + 1) % 24 = 0
    · exact hcol_row m c ⟨n + 1, hn⟩ h0 y
    · rw [hcol_B m c ⟨n + 1, hn⟩ h0]
      refine (ih _ y).trans (congrArg _ ?_)
      have e : (n + 1) / 24 = n / 24 := by omega
      simp only [e]

/-- What the body leaves in the output block at any point, from what the point stages. -/
theorem block_at (c : Dev nD) (t : Fin cfg0.N) (y : S1024x512.Idx) :
    (outsAt0 m c t.val t.isLt).1 y = blockVal (iblk m c 0 t) (iblk m c 4 t)
      (m ((c : Thread nD τ).loc main_arg1) (ix2 0 ⟨t.val / 24 * 1024 + (y 0).val, by have h := points t; have hy : (y 0).val < 1024 := (y 0).isLt; show _ < 14336; omega⟩)) (iblk m c 5 t)
      (iblk m c 2 t) (iblk m c 6 t)
      (m ((c : Thread nD τ).loc main_arg3) (ix2 0 ⟨t.val / 24 * 1024 + (y 0).val, by have h := points t; have hy : (y 0).val < 1024 := (y 0).isLt; show _ < 14336; omega⟩)) (iblk m c 7 t)
      (iblk m c 8 t) (y 0) (y 1) := by
  by_cases h0 : t.val % 24 = 0
  · rw [block_A m c t h0 y]
    have e1 := (ocol_A m c t h0 (ix2 (y 0) 0)).symm.trans (ocol_at m c t.val t.isLt (ix2 (y 0) 0))
    have e2 := (hcol_A m c t h0 (ix2 (y 0) 0)).symm.trans (hcol_at m c t.val t.isLt (ix2 (y 0) 0))
    exact congrArg₂ (fun a b => blockVal (iblk m c 0 t) (iblk m c 4 t) a (iblk m c 5 t) (iblk m c 2 t) (iblk m c 6 t) b (iblk m c 7 t) (iblk m c 8 t) (y 0) (y 1)) e1 e2
  · rw [block_B m c t h0 y, ocol_at, hcol_at]
    have e : (t.val - 1) / 24 = t.val / 24 := by omega
    simp only [e]
    rfl

/-- The reference's element at a row and a column. -/
theorem ref_at (oq : Vec Ideal Cert.OutRefIdeal.S12x14336x128 .fp8e4m3) (wo : Vec Ideal Cert.OutRefIdeal.S12x128x12288 .fp8e4m3)
    (os : Vec Ideal Cert.OutRefIdeal.S1x14336 .f32) (wos : Vec Ideal Cert.OutRefIdeal.S12288 .f32)
    (hq : Vec Ideal Cert.OutRefIdeal.S14336x4224 .fp8e4m3) (wd : Vec Ideal Cert.OutRefIdeal.S4224x12288 .fp8e4m3)
    (hs : Vec Ideal Cert.OutRefIdeal.S1x14336 .f32) (wds : Vec Ideal Cert.OutRefIdeal.S12288 .f32)
    (x : Vec Ideal Cert.OutRefIdeal.S14336x12288 .bf16) (r : Fin 14336) (j : Fin 12288) :
    Cert.OutRefIdeal.Gen.k0_pay1 (F := Ideal) oq wo os wos hq wd hs wds x (ix2 r j)
      = (∑ h : Fin 12, ∑ l : Fin 128, oq (ix3 h r l) * wo (ix3 h l j)) * os (ix2 0 r) * wos (ix1 j)
        + (∑ k : Fin 4224, hq (ix2 r k) * wd (ix2 k j)) * hs (ix2 0 r) * wds (ix1 j) + x (ix2 r j) := by
  pointwise! [Cert.OutRefIdeal.Gen.k0_pay1]

/-- The output array the kernel leaves is the reference's. -/
theorem arr (c : Dev nD) : (dats m 0 c).arrAt 9 cfg0.N
    = Cert.OutRefIdeal.Gen.k0_pay1 (F := Ideal) (m ((c : Thread nD τ).loc main_arg0)) (m ((c : Thread nD τ).loc main_arg4))
        (m ((c : Thread nD τ).loc main_arg1)) (m ((c : Thread nD τ).loc main_arg5)) (m ((c : Thread nD τ).loc main_arg2))
        (m ((c : Thread nD τ).loc main_arg6)) (m ((c : Thread nD τ).loc main_arg3)) (m ((c : Thread nD τ).loc main_arg7))
        (m ((c : Thread nD τ).loc main_arg8)) := by
  refine (dats m 0 c).arrAt_eq_of_covers 9 _ (by decide +kernel) fun t hf y => ?_
  blk_simp
  rw [after0_9, block_at]
  obtain ⟨r, j, rfl⟩ : ∃ (r : Fin 1024) (j : Fin 512), y = ix2 r j := ⟨y 0, y 1, by ext a; fin_cases a <;> rfl⟩
  have ht := points t
  refine Eq.trans ?_ ((congrArg _ (?_ : _ = ix2 (⟨t.val / 24 * 1024 + r.val, by omega⟩ : Fin 14336) (⟨t.val % 24 * 512 + j.val, by omega⟩ : Fin 12288))).trans (ref_at _ _ _ _ _ _ _ _ _ _ _)).symm
  · unfold blockVal
    blk_point [iblk, V, idx t]
  · blk_ext [idx t]

end Cert.Proof.Out

end
-- ==== Proof.InBCond.lean ====
module

public import proofs.«01_k».proof.Proof.Gen.InProj.Frame
public import proofs.«01_k».proof.Proof.Gen.InProj.Skeleton
public import Idealize.ShloMosaic.Lib.Claim

/-! The input projection (its own number formats): the five conditions of the body, by the step. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- The condition of the first column step of a row of tiles. -/
abbrev cond1 (i : grid0.Coords) : Prop := (Scalar.cmpi .ne (Scalar.extui (Scalar.cmpi .eq (BitVec.ofNat 32 (i 1).val) 0#32)) 0#32) = 1#1

/-- Each condition of the body holds at exactly these steps. -/
theorem cond1_iff : ∀ t : Fin cfg0.N, cond1 (grid0.coords t) ↔ t.val % 20 = 0 :=
  (by decide +kernel : ∀ t : Fin grid0.N, cond1 (grid0.coords t) ↔ t.val % 20 = 0)
theorem cond2_iff : ∀ t : Fin cfg0.N, k0_cond2 (grid0.coords t) = 1#1 ↔ t.val % 20 < 3 :=
  (by decide +kernel : ∀ t : Fin grid0.N, k0_cond2 (grid0.coords t) = 1#1 ↔ t.val % 20 < 3)
theorem cond3_iff : ∀ t : Fin cfg0.N, k0_cond3 (grid0.coords t) = 1#1 ↔ t.val % 20 = 3 :=
  (by decide +kernel : ∀ t : Fin grid0.N, k0_cond3 (grid0.coords t) = 1#1 ↔ t.val % 20 = 3)
theorem cond4_iff : ∀ t : Fin cfg0.N, k0_cond4 (grid0.coords t) = 1#1 ↔ 3 < t.val % 20 :=
  (by decide +kernel : ∀ t : Fin grid0.N, k0_cond4 (grid0.coords t) = 1#1 ↔ 3 < t.val % 20)
theorem cond5_iff : ∀ t : Fin cfg0.N, k0_cond5 (grid0.coords t) = 1#1 ↔ t.val % 20 = 19 :=
  (by decide +kernel : ∀ t : Fin grid0.N, k0_cond5 (grid0.coords t) = 1#1 ↔ t.val % 20 = 19)
/-- Where a column step of the gated product stores its tile. -/
theorem off1_eq : ∀ t : Fin cfg0.N, 3 < t.val % 20 → k0_off1 (grid0.coords t) = ![t.val % 20 - 4, 0, 0] :=
  (by decide +kernel : ∀ t : Fin grid0.N, 3 < t.val % 20 → k0_off1 (grid0.coords t) = ![t.val % 20 - 4, 0, 0])

end Cert.Proof.InB

end
-- ==== Proof.InBVal.lean ====
module

public import proofs.«01_k».proof.Proof.Gen.InProj.Frame
public import proofs.«01_k».proof.Proof.Gen.InProj.Skeleton
public import Idealize.ShloMosaic.Lib.Claim
public import Idealize.ShloMosaic.Lib.WritesUnit
public import Idealize.ShloMosaic.Lib.Pipeline.ValueKit
public import Idealize.ShloMosaic.Lib.Pointwise

/-! The input projection (its own number formats): the values the body stores, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- The blocks a grid point reads for its product: the row tile of codes, four column blocks of the weights, and the
    scales of those columns. -/
structure Blocks (F : FTy → Type) [FloatOps F] where
  x : Vec F S512x12288 .fp8e4m3
  w0 : Vec F S12288x128 .fp8e4m3
  w1 : Vec F S12288x128 .fp8e4m3
  w2 : Vec F S12288x128 .fp8e4m3
  w3 : Vec F S12288x128 .fp8e4m3
  s0 : Vec F S1x128 .f32
  s1 : Vec F S1x128 .f32
  s2 : Vec F S1x128 .f32
  s3 : Vec F S1x128 .f32

/-- The four scaled column blocks of the product (the last one as the unscaled block and its scale). -/
def y0 (I : Blocks F) (X : Vec F S512x128 .f32) := k0_pay71 I.w0 I.w1 I.w2 I.w3 I.x X I.s0
/-- The second tile of columns. -/
def y1 (I : Blocks F) (X : Vec F S512x128 .f32) := k0_pay72 I.w0 I.w1 I.w2 I.w3 I.x X I.s1
/-- The third tile of columns. -/
def y2 (I : Blocks F) (X : Vec F S512x128 .f32) := k0_pay73 I.w0 I.w1 I.w2 I.w3 I.x X I.s2
/-- The fourth tile of columns, before its column scale. -/
def y3u (I : Blocks F) (X : Vec F S512x128 .f32) := k0_pay74 I.w0 I.w1 I.w2 I.w3 I.x X
/-- The scale of the fourth tile of columns. -/
def y3s (I : Blocks F) := k0_pay75 I.s3

/-- The stores of the scale column: four quarters of the row of scales, each turned into a column block. -/
def xcolPieces (x5 : Vec F S1x512 .f32) : List (View.Piece (Elt F) S512x128 .f32) :=
  [⟨Rect.unit ![384, 0] S128x128.size inb_S512x128_S128x128_384_0, k0_pay69 (View.ld x5 (Rect.unit ![0, 384] S1x128.size inb_S1x512_S1x128_0_384))⟩,
   ⟨Rect.unit ![256, 0] S128x128.size inb_S512x128_S128x128_256_0, k0_pay68 (View.ld x5 (Rect.unit ![0, 256] S1x128.size inb_S1x512_S1x128_0_256))⟩,
   ⟨Rect.unit ![128, 0] S128x128.size inb_S512x128_S128x128_128_0, k0_pay67 (View.ld x5 (Rect.unit ![0, 128] S1x128.size inb_S1x512_S1x128_0_128))⟩,
   ⟨Rect.unit ![0, 0] S128x128.size inb_S512x128_S128x128_0_0, k0_pay66 (View.ld x5 (Rect.unit ![0, 0] S1x128.size inb_S1x512_S1x128_0_0))⟩]

/-- The scale column. -/
def xcol (x5 : Vec F S1x512 .f32) : Vec F S512x128 .f32 := View.canon (xcolPieces x5)

/-- The cosines and the sines, each laid along the lane pairs. -/
def cosq (cs sn : Vec F S64x512 .f32) := k0_pay14 cs sn
/-- The sine lanes for the heads. -/
def sinq (cs sn : Vec F S64x512 .f32) :=
  k0_pay17 (k0_pay13 cs sn) (iota Kind.tc S512x128 32 [1] iota_S512x128_d1_w32) (2#32) k0_pay15 k0_pay16 0#32
/-- The parity of the lanes for the heads. -/
def parq : IVec S512x128 32 := k0_pay18 (iota Kind.tc S512x128 32 [1] iota_S512x128_d1_w32)

/-- The stores of four heads. -/
def qPieces (I : Blocks F) (X : Vec F S512x128 .f32) (cs sn : Vec F S64x512 .f32) : List (View.Piece (Elt F) S4x512x128 .bf16) :=
  [⟨Rect.unit ![3, 0, 0] ![1, 512, 128] inb_S4x512x128_S1x512x128_3_0_0, k0_pay2 (k0_pay25 (k0_pay1 (y3u I X) (y3s I)) (cosq cs sn)) (k0_pay26 (k0_pay1 (y3u I X) (y3s I)) (sinq cs sn) parq k0_pay19)⟩,
   ⟨Rect.unit ![2, 0, 0] S1x512x128.size inb_S4x512x128_S1x512x128_2_0_0, k0_pay24 (y2 I X) (cosq cs sn) (sinq cs sn) parq k0_pay19⟩,
   ⟨Rect.unit ![1, 0, 0] S1x512x128.size inb_S4x512x128_S1x512x128_1_0_0, k0_pay23 (y1 I X) (cosq cs sn) (sinq cs sn) parq k0_pay19⟩,
   ⟨Rect.unit ![0, 0, 0] S1x512x128.size inb_S4x512x128_S1x512x128_0_0_0, k0_pay22 (y0 I X) (cosq cs sn) (sinq cs sn) parq k0_pay19⟩]

/-- The block of four heads. -/
def qBlk (I : Blocks F) (X : Vec F S512x128 .f32) (cs sn : Vec F S64x512 .f32) : Vec F S4x512x128 .bf16 := View.canon (qPieces I X cs sn)

/-- The cosines, sines and lane parities as the key's step computes them. -/
def cosk (cs sn : Vec F S64x512 .f32) := k0_pay28 cs sn
/-- The sine lanes for the key. -/
def sink (cs sn : Vec F S64x512 .f32) :=
  k0_pay31 (k0_pay27 cs sn) (iota Kind.tc S512x128 32 [1] iota_S512x128_d1_w32) (2#32) k0_pay29 k0_pay30 0#32
/-- The parity of the lanes for the key. -/
def park : IVec S512x128 32 := k0_pay32 (iota Kind.tc S512x128 32 [1] iota_S512x128_d1_w32)

/-- The codes of the key and of the value, the key's codes transposed and the value's codes widened. -/
def kBlk (I : Blocks F) (X : Vec F S512x128 .f32) (cs sn : Vec F S64x512 .f32) (ks : Vec F S1 .f32) : Vec F S512x128 .fp8e4m3 :=
  k0_pay34 (y0 I X) (cosk cs sn) (sink cs sn) park k0_pay33 (ks (Shape.Idx.first (numel1_S1.ge)))
/-- The value codes of a row tile. -/
def vBlk (I : Blocks F) (X : Vec F S512x128 .f32) (vs : Vec F S1 .f32) : Vec F S512x128 .fp8e4m3 :=
  k0_pay35 (y1 I X) (vs (Shape.Idx.first (numel1_S1.ge)))
/-- The key codes of a row tile, transposed. -/
def ktBlk (I : Blocks F) (X : Vec F S512x128 .f32) (cs sn : Vec F S64x512 .f32) (ks : Vec F S1 .f32) : Vec F S128x512 .bf16 :=
  k0_pay36 (y0 I X) (cosk cs sn) (sink cs sn) park k0_pay33 (ks (Shape.Idx.first (numel1_S1.ge)))
/-- The value codes of a row tile, widened. -/
def vbBlk (I : Blocks F) (X : Vec F S512x128 .f32) (vs : Vec F S1 .f32) : Vec F S512x128 .bf16 :=
  k0_pay37 (y1 I X) (vs (Shape.Idx.first (numel1_S1.ge)))

/-- The half tile of the gated product, and the magnitudes it starts the running maximum with. -/
def tail (I : Blocks F) (X : Vec F S512x128 .f32) : Vec F S1x512x128 .f32 := k0_pay4 (y2 I X) (y3u I X) (y3s I) (k0_pay38 (y2 I X))
/-- The running maximum at its first step. -/
def amax0 (I : Blocks F) (X : Vec F S512x128 .f32) : Vec F S512x128 .f32 := k0_pay5 (y2 I X) (y3u I X) (y3s I) (k0_pay38 (y2 I X))

/-- A full tile of the gated product, and the running maximum after it. -/
def hRow (I : Blocks F) (X : Vec F S512x128 .f32) : Vec F S1x512x256 .f32 := k0_pay8 (y0 I X) (y1 I X) (y2 I X) (y3u I X) (y3s I)
/-- The running maximum after a further step. -/
def amaxS (I : Blocks F) (X a : Vec F S512x128 .f32) : Vec F S512x128 .f32 := k0_pay9 (y0 I X) (y1 I X) (y2 I X) (y3u I X) (y3s I) a

/-- The scratch of gated products after a full tile is stored into row `k`. -/
def hPut (h : Vec F S17x512x256 .f32) (k : ℕ) (r : Vec F S1x512x256 .f32) : Vec F S17x512x256 .f32 :=
  fun y => if (y 0 : ℕ) = k then r (ix3 0 (y 1) (y 2)) else h y

/-- The scratch of gated products after the half tile is stored into the first half of row 16. -/
def hTail (h : Vec F S17x512x256 .f32) (r : Vec F S1x512x128 .f32) : Vec F S17x512x256 .f32 :=
  fun y => if hy : (y 0 : ℕ) = 16 ∧ (y 2 : ℕ) < 128 then r (ix3 0 (y 1) ⟨(y 2 : ℕ), hy.2⟩) else h y

/-- The stores of the row of output scales. -/
def hsPieces (a : Vec F S512x128 .f32) : List (View.Piece (Elt F) S1x512 .f32) :=
  [⟨Rect.unit ![0, 384] S1x128.size inb_S1x512_S1x128_0_384, k0_pay44 a⟩, ⟨Rect.unit ![0, 256] S1x128.size inb_S1x512_S1x128_0_256, k0_pay43 a⟩,
   ⟨Rect.unit ![0, 128] S1x128.size inb_S1x512_S1x128_0_128, k0_pay42 a⟩, ⟨Rect.unit ![0, 0] S1x128.size inb_S1x512_S1x128_0_0, k0_pay41 a⟩]

/-- The row of output scales. -/
def hsBlk (a : Vec F S512x128 .f32) : Vec F S1x512 .f32 := View.canon (hsPieces a)

/-- One row of the scratch, as it is loaded. -/
def hld (h : Vec F S17x512x256 .f32) (k : ℕ) (hk : ∀ a, (![k, 0, 0] : Fin 3 → ℕ) a + S1x512x256.size a ≤ S17x512x256.size a) : Vec F S1x512x256 .f32 :=
  View.ld h (Rect.unit ![k, 0, 0] S1x512x256.size hk)

/-- The stores of a row tile of output codes: the rows of the scratch, the last full tile `r15` taken as just computed. -/
def hqPieces (h : Vec F S17x512x256 .f32) (r15 : Vec F S1x512x256 .f32) (a : Vec F S512x128 .f32) : List (View.Piece (Elt F) S512x4224 .fp8e4m3) :=
  [⟨Rect.unit ![0, 4096] ![512, 128] inb_S512x4224_S512x128_0_4096, k0_pay12 (k0_pay45 a) (View.ld h (Rect.unit ![16, 0, 0] ![1, 512, 128] inb_S17x512x256_S1x512x128_16_0_0))⟩,
   ⟨Rect.unit ![0, 3840] ![512, 256] inb_S512x4224_S512x256_0_3840, k0_pay11 (k0_pay45 a) r15⟩,
   ⟨Rect.unit ![0, 3584] ![512, 256] inb_S512x4224_S512x256_0_3584, k0_pay10 (k0_pay45 a) (hld h 14 inb_S17x512x256_S1x512x256_14_0_0)⟩,
   ⟨Rect.unit ![0, 3328] S512x256.size inb_S512x4224_S512x256_0_3328, k0_pay65 (k0_pay45 a) (hld h 13 inb_S17x512x256_S1x512x256_13_0_0)⟩,
   ⟨Rect.unit ![0, 3072] S512x256.size inb_S512x4224_S512x256_0_3072, k0_pay64 (k0_pay45 a) (hld h 12 inb_S17x512x256_S1x512x256_12_0_0)⟩,
   ⟨Rect.unit ![0, 2816] S512x256.size inb_S512x4224_S512x256_0_2816, k0_pay63 (k0_pay45 a) (hld h 11 inb_S17x512x256_S1x512x256_11_0_0)⟩,
   ⟨Rect.unit ![0, 2560] S512x256.size inb_S512x4224_S512x256_0_2560, k0_pay62 (k0_pay60 (k0_pay45 a) (hld h 10 inb_S17x512x256_S1x512x256_10_0_0)) k0_pay61⟩,
   ⟨Rect.unit ![0, 2304] S512x256.size inb_S512x4224_S512x256_0_2304, k0_pay59 (k0_pay45 a) (hld h 9 inb_S17x512x256_S1x512x256_9_0_0)⟩,
   ⟨Rect.unit ![0, 2048] S512x256.size inb_S512x4224_S512x256_0_2048, k0_pay58 (k0_pay45 a) (hld h 8 inb_S17x512x256_S1x512x256_8_0_0)⟩,
   ⟨Rect.unit ![0, 1792] S512x256.size inb_S512x4224_S512x256_0_1792, k0_pay57 (k0_pay55 (hld h 7 inb_S17x512x256_S1x512x256_7_0_0)) (k0_pay56 (k0_pay45 a))⟩,
   ⟨Rect.unit ![0, 1536] S512x256.size inb_S512x4224_S512x256_0_1536, k0_pay54 (k0_pay45 a) (hld h 6 inb_S17x512x256_S1x512x256_6_0_0)⟩,
   ⟨Rect.unit ![0, 1280] S512x256.size inb_S512x4224_S512x256_0_1280, k0_pay53 (k0_pay45 a) (hld h 5 inb_S17x512x256_S1x512x256_5_0_0)⟩,
   ⟨Rect.unit ![0, 1024] S512x256.size inb_S512x4224_S512x256_0_1024, k0_pay52 (k0_pay45 a) (hld h 4 inb_S17x512x256_S1x512x256_4_0_0)⟩,
   ⟨Rect.unit ![0, 768] S512x256.size inb_S512x4224_S512x256_0_768, k0_pay51 (k0_pay45 a) (hld h 3 inb_S17x512x256_S1x512x256_3_0_0)⟩,
   ⟨Rect.unit ![0, 512] S512x256.size inb_S512x4224_S512x256_0_512, k0_pay50 (k0_pay45 a) (hld h 2 inb_S17x512x256_S1x512x256_2_0_0)⟩,
   ⟨Rect.unit ![0, 256] S512x256.size inb_S512x4224_S512x256_0_256, k0_pay49 (k0_pay45 a) (hld h 1 inb_S17x512x256_S1x512x256_1_0_0)⟩,
   ⟨Rect.unit ![0, 0] S512x256.size inb_S512x4224_S512x256_0_0, k0_pay48 (k0_pay46 a (hld h 0 inb_S17x512x256_S1x512x256_0_0_0)) k0_pay47⟩]

/-- The row tile of output codes. -/
def hqBlk (h : Vec F S17x512x256 .f32) (r15 : Vec F S1x512x256 .f32) (a : Vec F S512x128 .f32) : Vec F S512x4224 .fp8e4m3 := View.canon (hqPieces h r15 a)

/-- A load of a whole buffer that one store filled. -/
theorem rc_whole (v : View sig .tc .vmem S512x128 .f32) (inb inb' : ∀ a, (![0, 0] : Fin 2 → ℕ) a + (![512, 128] : Fin 2 → ℕ) a ≤ S512x128.size a)
    (w : Vec F S512x128 .f32) :
    v.readCov [⟨Rect.unit (s := S512x128) ![0, 0] ![512, 128] inb, w⟩] (Rect.unit (s := S512x128) ![0, 0] ![512, 128] inb').toLoadRect = w := by
  funext j
  refine (congrFun (View.readCov_eq_canon' v _ _) j).trans ((View.read_writes_junk_apply_eq_canon v _ _).symm.trans ?_)
  refine View.read_writes_cons_unit_of_mem v _ inb w [] _ j rfl fun a => ?_
  show (![0, 0] : Fin 2 → ℕ) a + 1 * (j a).val = _
  rw [Nat.one_mul]

/-- A load of the row of the scratch that a store at computed offsets has just filled. -/
theorem rc_row (v : View sig .tc .vmem S17x512x256 .f32) (off : Fin 3 → ℕ) (inb : ∀ a, off a + (![1, 512, 256] : Fin 3 → ℕ) a ≤ S17x512x256.size a)
    (inb' : ∀ a, (![15, 0, 0] : Fin 3 → ℕ) a + (![1, 512, 256] : Fin 3 → ℕ) a ≤ S17x512x256.size a) (w : Vec F S1x512x256 .f32) (ho : off = ![15, 0, 0]) :
    v.readCov [⟨Rect.unit (s := S17x512x256) off ![1, 512, 256] inb, w⟩] (Rect.unit (s := S17x512x256) ![15, 0, 0] ![1, 512, 256] inb').toLoadRect = w := by
  funext j
  refine (congrFun (View.readCov_eq_canon' v _ _) j).trans ((View.read_writes_junk_apply_eq_canon v _ _).symm.trans ?_)
  refine View.read_writes_cons_unit_of_mem v _ inb w [] _ j ho fun a => ?_
  show (![15, 0, 0] : Fin 3 → ℕ) a + 1 * (j a).val = _
  rw [Nat.one_mul]

/-- A load of the scale column after its four stores. -/
theorem rc_xcol (v : View sig .tc .vmem S512x128 .f32) (inb : ∀ a, (![0, 0] : Fin 2 → ℕ) a + (![512, 128] : Fin 2 → ℕ) a ≤ S512x128.size a)
    (x5 : Vec F S1x512 .f32) :
    v.readCov (xcolPieces x5) (Rect.unit (s := S512x128) ![0, 0] ![512, 128] inb).toLoadRect = xcol x5 := by
  funext j
  refine (congrFun (View.readCov_eq_canon' v _ _) j).trans (congrArg (View.canon (xcolPieces x5)) (funext fun a => Fin.ext ?_))
  show (![0, 0] : Fin 2 → ℕ) a + 1 * (j a).val = _
  match a with
  | ⟨0, _⟩ => show 0 + 1 * (j 0).val = (j 0).val; omega
  | ⟨1, _⟩ => show 0 + 1 * (j 1).val = (j 1).val; omega

/-- A load of a one-element buffer. -/
theorem ld_one (x : Vec F S1 .f32) (inb : ∀ a, (![0] : Fin 1 → ℕ) a + (![1] : Fin 1 → ℕ) a ≤ S1.size a) :
    View.ld x (Rect.unit (s := S1) ![0] ![1] inb) = x :=
  View.ld_unit_lit (S := S1) inb x (by decide)

/-- The pieces of each store cover its block. -/
theorem xcol_cover (x5 : Vec F S1x512 .f32) : ∀ y : S512x128.Idx, ∃ p ∈ xcolPieces x5, y ∈ p.1.set :=
  View.cover_of_tiledL (xcolPieces x5) ![128, 128] (by sl_kernel_rfl)
theorem q_cover (I : Blocks F) (X : Vec F S512x128 .f32) (cs sn : Vec F S64x512 .f32) : ∀ y : S4x512x128.Idx, ∃ p ∈ qPieces I X cs sn, y ∈ p.1.set :=
  View.cover_of_tiledL (qPieces I X cs sn) ![1, 512, 128] (by sl_kernel_rfl)
theorem hs_cover (a : Vec F S512x128 .f32) : ∀ y : S1x512.Idx, ∃ p ∈ hsPieces a, y ∈ p.1.set :=
  View.cover_of_tiledL (hsPieces a) ![1, 128] (by sl_kernel_rfl)
theorem hq_cover (h : Vec F S17x512x256 .f32) (r15 : Vec F S1x512x256 .f32) (a : Vec F S512x128 .f32) : ∀ y : S512x4224.Idx, ∃ p ∈ hqPieces h r15 a, y ∈ p.1.set :=
  View.cover_of_tiledBy (hqPieces h r15 a) ![512, 128] (by sl_kernel_rfl)

end Cert.Proof.InB

end
-- ==== Proof.InBDat.lean ====
module

public import proofs.«01_k».proof.Proof.InBCond
public import proofs.«01_k».proof.Proof.InBVal
public import proofs.«01_k».proof.Proof.Gen.InProj.Points
public import Idealize.ShloMosaic.Lib.Pipeline.TableIdle

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point of a position. -/
def pt (n : ℕ) : Fin cfg0.N := ⟨n % 560, lt_of_lt_of_eq (Nat.mod_lt _ (by norm_num)) (show 560 = cfg0.N from N_0.symm)⟩

/-- A point is the one of its position. -/
theorem pt_val (t : Fin cfg0.N) : pt t.val = t :=
  Fin.ext (Nat.mod_eq_of_lt (lt_of_lt_of_eq t.isLt (show cfg0.N = 560 from N_0)))

/-- The blocks of a point's product. -/
def Bk (c : Dev nD) (t : Fin cfg0.N) : Blocks F :=
  ⟨iblk m c 2 t, iblk m c 4 t, iblk m c 5 t, iblk m c 6 t, iblk m c 7 t, iblk m c 8 t, iblk m c 9 t, iblk m c 10 t, iblk m c 11 t⟩

/-- The scale column after a position: laid out at the first step of a row of tiles, then kept. -/
def xAt (c : Dev nD) : ℕ → Vec F S512x128 .f32
  | 0 => xcol (iblk m c 3 (pt 0))
  | n + 1 => if (n + 1) % 20 = 0 then xcol (iblk m c 3 (pt (n + 1))) else xAt c n

/-- The running maximum after a position (from the fourth step of a row of tiles on). -/
def aAt (c : Dev nD) : ℕ → Vec F S512x128 .f32
  | 0 => View.canon []
  | n + 1 => if (n + 1) % 20 = 3 then amax0 (Bk m c (pt (n + 1))) (xAt m c (n + 1))
    else amaxS (Bk m c (pt (n + 1))) (xAt m c (n + 1)) (aAt c n)

/-- The scratch of gated products after a position, where it has been stored. -/
def hAt (c : Dev nD) : ℕ → Vec F S17x512x256 .f32
  | 0 => View.canon []
  | n + 1 => if (n + 1) % 20 = 3 then hTail (hAt c n) (tail (Bk m c (pt (n + 1))) (xAt m c (n + 1)))
    else if 3 < (n + 1) % 20 then hPut (hAt c n) ((n + 1) % 20 - 4) (hRow (Bk m c (pt (n + 1))) (xAt m c (n + 1)))
    else hAt c n

/-- Where the scratch of gated products has been stored by step `r` of a row of tiles. -/
def Stored (r : ℕ) (y : S17x512x256.Idx) : Prop := (3 ≤ r ∧ (y 0 : ℕ) = 16 ∧ (y 2 : ℕ) < 128) ∨ (y 0 : ℕ) + 4 ≤ r

/-- What the three scratch buffers hold after a position. -/
def Inv (c : Dev nD) (n : ℕ) (h : Vec F S17x512x256 .f32) (a x : Vec F S512x128 .f32) : Prop :=
  x = xAt m c n ∧ (3 ≤ n % 20 → a = aAt m c n) ∧ ∀ y, Stored (n % 20) y → h y = hAt m c n y

/-- The invariant after the first step of a row of tiles. -/
theorem inv_A (c : Dev nD) (t : Fin cfg0.N) (ht : t.val % 20 = 0) (h : Vec F S17x512x256 .f32) (a : Vec F S512x128 .f32) :
    Inv m c t.val h a (xcol (iblk m c 3 t)) := by
  refine ⟨?_, fun h3 => by omega, fun y hy => by rcases hy with h1 | h1 <;> omega⟩
  obtain ⟨n, hn⟩ := t
  cases n with
  | zero => exact congrArg (fun s => xcol (iblk m c 3 s)) (pt_val ⟨0, hn⟩).symm
  | succ n => unfold xAt; rw [if_pos ht]; exact congrArg (fun s => xcol (iblk m c 3 s)) (pt_val ⟨n + 1, hn⟩).symm

/-- The scale column stays within a row of tiles. -/
theorem xAt_succ (c : Dev nD) (n : ℕ) (h : ¬(n + 1) % 20 = 0) : xAt m c (n + 1) = xAt m c n := by
  conv_lhs => unfold xAt
  rw [if_neg h]

/-- It is kept by the other query steps. -/
theorem inv_B (c : Dev nD) (n : ℕ) (h0 : ¬(n + 1) % 20 = 0) (h1 : (n + 1) % 20 < 3) {h : Vec F S17x512x256 .f32} {a x : Vec F S512x128 .f32}
    (hi : Inv m c n h a x) : Inv m c (n + 1) h a x :=
  ⟨hi.1.trans (xAt_succ m c n h0).symm, fun h3 => by omega, fun y hy => by rcases hy with h1 | h1 <;> omega⟩

/-- It is kept by the step of the key and the value. -/
theorem inv_C (c : Dev nD) (n : ℕ) (hn : n + 1 < cfg0.N) (h0 : (n + 1) % 20 = 3) {h : Vec F S17x512x256 .f32} {a x : Vec F S512x128 .f32}
    (hi : Inv m c n h a x) : Inv m c (n + 1) (hTail h (tail (Bk m c ⟨n + 1, hn⟩) x)) (amax0 (Bk m c ⟨n + 1, hn⟩) x) x := by
  have hx := hi.1.trans (xAt_succ m c n (by omega)).symm
  have hp := pt_val ⟨n + 1, hn⟩
  dsimp only at hp
  refine ⟨hx, fun _ => ?_, fun y hy => ?_⟩
  · unfold aAt; rw [if_pos h0, hp, hx]
  · rcases hy with h1 | h1
    · unfold hAt; rw [if_pos h0, hp, hx]; unfold hTail; rw [dif_pos h1.2, dif_pos h1.2]
    · omega

/-- It is kept by a step of the gated product. -/
theorem inv_D (c : Dev nD) (n : ℕ) (hn : n + 1 < cfg0.N) (h0 : 3 < (n + 1) % 20) {h : Vec F S17x512x256 .f32} {a x : Vec F S512x128 .f32}
    (hi : Inv m c n h a x) :
    Inv m c (n + 1) (hPut h ((n + 1) % 20 - 4) (hRow (Bk m c ⟨n + 1, hn⟩) x)) (amaxS (Bk m c ⟨n + 1, hn⟩) x a) x := by
  have hx := hi.1.trans (xAt_succ m c n (by omega)).symm
  have hp := pt_val ⟨n + 1, hn⟩
  dsimp only at hp
  refine ⟨hx, fun _ => ?_, fun y hy => ?_⟩
  · unfold aAt; rw [if_neg (by omega), hp, ← hi.2.1 (by omega), hx]
  · conv_rhs => unfold hAt
    rw [if_neg (by omega), if_pos h0, hp, hx]; unfold hPut
    by_cases hy0 : (y 0 : ℕ) = (n + 1) % 20 - 4
    · rw [if_pos hy0, if_pos hy0]
    · rw [if_neg hy0, if_neg hy0]
      refine hi.2.2 y ?_
      rcases hy with h1 | h1
      · exact Or.inl ⟨by omega, h1.2⟩
      · exact Or.inr (by omega)

/-- The row tile of output codes reads the scratch only where it has been stored. -/
theorem hqBlk_congr (h h' : Vec F S17x512x256 .f32) (r15 : Vec F S1x512x256 .f32) (a : Vec F S512x128 .f32)
    (hh : ∀ y, Stored 18 y → h y = h' y) : hqBlk h r15 a = hqBlk h' r15 a := by
  have hrow : ∀ (k : ℕ) (hk : ∀ a, (![k, 0, 0] : Fin 3 → ℕ) a + S1x512x256.size a ≤ S17x512x256.size a), k ≤ 14 → hld h k hk = hld h' k hk := by
    intro k hk h14
    funext j
    refine hh _ (Or.inr ?_)
    have : (j 0).val < 1 := (j 0).isLt
    show k + 1 * (j 0).val + 4 ≤ 18
    omega
  have htl : View.ld h (Rect.unit ![16, 0, 0] ![1, 512, 128] inb_S17x512x256_S1x512x128_16_0_0)
      = View.ld h' (Rect.unit ![16, 0, 0] ![1, 512, 128] inb_S17x512x256_S1x512x128_16_0_0) := by
    funext j
    refine hh _ (Or.inl ⟨by norm_num, ?_, ?_⟩)
    · have : (j 0).val < 1 := (j 0).isLt
      show 16 + 1 * (j 0).val = 16
      omega
    · have : (j 2).val < 128 := (j 2).isLt
      show 0 + 1 * (j 2).val < 128
      omega
  unfold hqBlk hqPieces
  rw [htl, hrow 0 _ (by norm_num), hrow 1 _ (by norm_num), hrow 2 _ (by norm_num), hrow 3 _ (by norm_num), hrow 4 _ (by norm_num), hrow 5 _ (by norm_num), hrow 6 _ (by norm_num), hrow 7 _ (by norm_num), hrow 8 _ (by norm_num), hrow 9 _ (by norm_num), hrow 10 _ (by norm_num), hrow 11 _ (by norm_num), hrow 12 _ (by norm_num), hrow 13 _ (by norm_num), hrow 14 _ (by norm_num)]

/-- The last step of the heads, and the step of the key, in the row of tiles of a position. -/
def lastq (n : ℕ) : ℕ := n - (n % 20 - 2)
/-- The step of the key in the row of tiles. -/
def keyq (n : ℕ) : ℕ := n / 20 * 20 + 3

/-- What the outputs' buffers hold after a point. -/
def qAt (c : Dev nD) (n : ℕ) : Vec F S4x512x128 .bf16 :=
  qBlk (Bk m c (pt (lastq n))) (xAt m c (lastq n)) (iblk m c 12 (pt (lastq n))) (iblk m c 13 (pt (lastq n)))
/-- The key codes. -/
def kAt (c : Dev nD) (n : ℕ) : Vec F S512x128 .fp8e4m3 :=
  kBlk (Bk m c (pt (keyq n))) (xAt m c (keyq n)) (iblk m c 12 (pt (keyq n))) (iblk m c 13 (pt (keyq n))) (iblk m c 0 (pt (keyq n)))
/-- The value codes. -/
def vAt (c : Dev nD) (n : ℕ) : Vec F S512x128 .fp8e4m3 :=
  vBlk (Bk m c (pt (keyq n))) (xAt m c (keyq n)) (iblk m c 1 (pt (keyq n)))
/-- The key codes, transposed. -/
def ktAt (c : Dev nD) (n : ℕ) : Vec F S128x512 .bf16 :=
  ktBlk (Bk m c (pt (keyq n))) (xAt m c (keyq n)) (iblk m c 12 (pt (keyq n))) (iblk m c 13 (pt (keyq n))) (iblk m c 0 (pt (keyq n)))
/-- The value codes, widened. -/
def vbAt (c : Dev nD) (n : ℕ) : Vec F S512x128 .bf16 :=
  vbBlk (Bk m c (pt (keyq n))) (xAt m c (keyq n)) (iblk m c 1 (pt (keyq n)))
/-- The codes of the gated half. -/
def hqAt (c : Dev nD) (n : ℕ) : Vec F S512x4224 .fp8e4m3 :=
  hqBlk (hAt m c (n - 1)) (hRow (Bk m c (pt n)) (xAt m c n)) (aAt m c n)
/-- The scales of the gated half. -/
def hsAt (c : Dev nD) (n : ℕ) : Vec F S1x512 .f32 := hsBlk (aAt m c n)

/-- The scratch buffers. -/
abbrev scM0_0 : Memref sig .tc .vmem S17x512x256 .f32 := Memref.whole cc0_scratch0
abbrev scM0_1 : Memref sig .tc .vmem S512x128 .f32 := Memref.whole cc0_scratch1
abbrev scM0_2 : Memref sig .tc .vmem S512x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant between points: at first every scratch at anything; afterwards as `Inv` says. -/
def PhiS (c : Dev nD) : (n : ℕ) → n ≤ cfg0.N → sProp 𝕄
  | 0, _ => Pipeline.ΦA spec0 c
  | n + 1, _ => iprop(∃ h a x, ⌜Inv m c n h a x⌝ ∗ owns (c : Thread nD τ) scM0_0 fullShare h ∗ owns (c : Thread nD τ) scM0_1 fullShare a ∗ owns (c : Thread nD τ) scM0_2 fullShare x ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(∃ h a x, ⌜Inv m c n h a x⌝ ∗ owns (c : Thread nD τ) scM0_0 fullShare h ∗ owns (c : Thread nD τ) scM0_1 fullShare a ∗ owns (c : Thread nD τ) scM0_2 fullShare x ∗ (∃ r, prngReg c r)) := rfl

/-- Whatever the scratch holds, it holds something. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨%h, %a, %x, -, H0, H1, H2, Hg⟩
    isplitl [H0 H1 H2]
    · isplitl [H0]
      · iexists _; iexact H0
      isplitl [H1]
      · iexists _; iexact H1
      iexists _; iexact H2
    iexact Hg

/-- The proof data of the pipeline: the arrays as the region finds them; after the body at a point each input's buffer
    at its block and the outputs' as above; nothing owed; each input's share of the array it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => qAt m c t.val
    | ⟨15, _⟩ => kAt m c t.val
    | ⟨16, _⟩ => vAt m c t.val
    | ⟨17, _⟩ => ktAt m c t.val
    | ⟨18, _⟩ => vbAt m c t.val
    | ⟨19, _⟩ => hqAt m c t.val
    | ⟨20, _⟩ => hsAt m c t.val
    | ⟨_ + 21, h⟩ => absurd h (Nat.not_lt.2 (Nat.le_add_left _ _))
  Φ t := PhiS m c t.val (Nat.le_of_lt_succ t.isLt)
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each buffer, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = qAt m c t.val := by dsimp only [dats]
theorem after0_15 (c : Dev nD) (t : Fin cfg0.N) : (dats m 0 c).after 15 t = kAt m c t.val := by dsimp only [dats]
theorem after0_16 (c : Dev nD) (t : Fin cfg0.N) : (dats m 0 c).after 16 t = vAt m c t.val := by dsimp only [dats]
theorem after0_17 (c : Dev nD) (t : Fin cfg0.N) : (dats m 0 c).after 17 t = ktAt m c t.val := by dsimp only [dats]
theorem after0_18 (c : Dev nD) (t : Fin cfg0.N) : (dats m 0 c).after 18 t = vbAt m c t.val := by dsimp only [dats]
theorem after0_19 (c : Dev nD) (t : Fin cfg0.N) : (dats m 0 c).after 19 t = hqAt m c t.val := by dsimp only [dats]
theorem after0_20 (c : Dev nD) (t : Fin cfg0.N) : (dats m 0 c).after 20 t = hsAt m c t.val := by dsimp only [dats]
/-- What the body finds in each input buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The idle points and the write-backs of the outputs, in the row of tiles -/

/-- When a window is idle and when it is written back, by the step. -/
theorem idle_14 : ∀ t : Fin cfg0.N, cfg0.idle 14 (cfg0.grid.coords t) = decide (3 ≤ t.val % 20) :=
  (by decide +kernel : ∀ t : Fin grid0.N, idle0 14 (grid0.coords t) = decide (3 ≤ t.val % 20))
theorem flush_14 : ∀ t : Fin cfg0.N, (cfg0.win 14).flush t = decide (t.val % 20 < 2 ∨ t.val % 20 = 19) :=
  (by decide +kernel : ∀ t : Fin grid0.N, win0_14.flush t = decide (t.val % 20 < 2 ∨ t.val % 20 = 19))
theorem idle_15 : ∀ t : Fin cfg0.N, cfg0.idle 15 (cfg0.grid.coords t) = decide (¬t.val % 20 = 3) :=
  (by decide +kernel : ∀ t : Fin grid0.N, idle0 15 (grid0.coords t) = decide (¬t.val % 20 = 3))
theorem idle_16 : ∀ t : Fin cfg0.N, cfg0.idle 16 (cfg0.grid.coords t) = decide (¬t.val % 20 = 3) :=
  (by decide +kernel : ∀ t : Fin grid0.N, idle0 16 (grid0.coords t) = decide (¬t.val % 20 = 3))
theorem idle_17 : ∀ t : Fin cfg0.N, cfg0.idle 17 (cfg0.grid.coords t) = decide (¬t.val % 20 = 3) :=
  (by decide +kernel : ∀ t : Fin grid0.N, idle0 17 (grid0.coords t) = decide (¬t.val % 20 = 3))
theorem idle_18 : ∀ t : Fin cfg0.N, cfg0.idle 18 (cfg0.grid.coords t) = decide (¬t.val % 20 = 3) :=
  (by decide +kernel : ∀ t : Fin grid0.N, idle0 18 (grid0.coords t) = decide (¬t.val % 20 = 3))
theorem idle_19 : ∀ t : Fin cfg0.N, cfg0.idle 19 (cfg0.grid.coords t) = decide (¬t.val % 20 = 19) :=
  (by decide +kernel : ∀ t : Fin grid0.N, idle0 19 (grid0.coords t) = decide (¬t.val % 20 = 19))
theorem idle_20 : ∀ t : Fin cfg0.N, cfg0.idle 20 (cfg0.grid.coords t) = decide (¬t.val % 20 = 19) :=
  (by decide +kernel : ∀ t : Fin grid0.N, idle0 20 (grid0.coords t) = decide (¬t.val % 20 = 19))
theorem flush_15 (t : Fin cfg0.N) : (cfg0.win 15).flush t = decide (t.val % 20 = 19) := by
  rw [Bool.eq_iff_iff, flush0_15, decide_eq_true_eq]
theorem flush_16 (t : Fin cfg0.N) : (cfg0.win 16).flush t = decide (t.val % 20 = 19) := by
  rw [Bool.eq_iff_iff, flush0_16, decide_eq_true_eq]
theorem flush_17 (t : Fin cfg0.N) : (cfg0.win 17).flush t = decide (t.val % 20 = 19) := by
  rw [Bool.eq_iff_iff, flush0_17, decide_eq_true_eq]
theorem flush_18 (t : Fin cfg0.N) : (cfg0.win 18).flush t = decide (t.val % 20 = 19) := by
  rw [Bool.eq_iff_iff, flush0_18, decide_eq_true_eq]
theorem flush_19 (t : Fin cfg0.N) : (cfg0.win 19).flush t = decide (t.val % 20 = 19) := by
  rw [Bool.eq_iff_iff, flush0_19, decide_eq_true_eq]
theorem flush_20 (t : Fin cfg0.N) : (cfg0.win 20).flush t = decide (t.val % 20 = 19) := by
  rw [Bool.eq_iff_iff, flush0_20, decide_eq_true_eq]

/-- When an output buffer has not been written since its last write-back. -/
theorem fresh_14 (n : ℕ) (h : n ≤ cfg0.N) : cfg0.fresh 14 n = decide (n % 20 ≤ 2) :=
  cfg0.fresh_tab 14 (fun n => decide (n % 20 ≤ 2)) (by decide)
    (fun t => by
      rw [idle_14, flush_14, Bool.eq_iff_iff]
      simp only [Bool.or_eq_true, Bool.and_eq_true, decide_eq_true_eq]
      omega) n h

/-- Past its stores in a row of tiles the output's buffer still holds what they left. -/
theorem kept_14 (c : Dev nD) (t : Fin cfg0.N) (ht : 2 < t.val % 20) (d) : (dats m 0 c).before 14 t d = (dats m 0 c).after 14 t := by
  have hc : ∀ (t : Fin cfg0.N), 2 < t.val % 20 → (dats m 0 c).after 14 t = (dats m 0 c).after 14 ⟨t.val - 1, by omega⟩ := by
    intro t ht
    rw [after0_14, after0_14]
    unfold qAt; rw [show lastq t.val = lastq (t.val - 1) from by unfold lastq; omega]
  rw [(dats m 0 c).before_out_traj 14 rfl (fun _ _ => rfl) (fun t ht0 hidle hfr => hc t (by
      rw [fresh_14 _ (Nat.le_of_lt t.isLt), decide_eq_false_iff_not] at hfr; omega)) t.val t rfl d,
    fresh_14 _ (Nat.le_of_lt t.isLt), if_neg (by rw [decide_eq_true_eq]; omega), ← hc t ht]

theorem fresh_15 (n : ℕ) (h : n ≤ cfg0.N) : cfg0.fresh 15 n = decide (n % 20 ≤ 3) :=
  cfg0.fresh_tab 15 (fun n => decide (n % 20 ≤ 3)) (by decide)
    (fun t => by
      rw [idle_15, flush_15, Bool.eq_iff_iff]
      simp only [Bool.or_eq_true, Bool.and_eq_true, decide_eq_true_eq]
      omega) n h

/-- Past its stores in a row of tiles the output's buffer still holds what they left. -/
theorem kept_15 (c : Dev nD) (t : Fin cfg0.N) (ht : 3 < t.val % 20) (d) : (dats m 0 c).before 15 t d = (dats m 0 c).after 15 t := by
  have hc : ∀ (t : Fin cfg0.N), 3 < t.val % 20 → (dats m 0 c).after 15 t = (dats m 0 c).after 15 ⟨t.val - 1, by omega⟩ := by
    intro t ht
    rw [after0_15, after0_15]
    unfold kAt; rw [show keyq t.val = keyq (t.val - 1) from by unfold keyq; omega]
  rw [(dats m 0 c).before_out_traj 15 rfl (fun _ _ => rfl) (fun t ht0 hidle hfr => hc t (by
      rw [fresh_15 _ (Nat.le_of_lt t.isLt), decide_eq_false_iff_not] at hfr; omega)) t.val t rfl d,
    fresh_15 _ (Nat.le_of_lt t.isLt), if_neg (by rw [decide_eq_true_eq]; omega), ← hc t ht]

theorem fresh_16 (n : ℕ) (h : n ≤ cfg0.N) : cfg0.fresh 16 n = decide (n % 20 ≤ 3) :=
  cfg0.fresh_tab 16 (fun n => decide (n % 20 ≤ 3)) (by decide)
    (fun t => by
      rw [idle_16, flush_16, Bool.eq_iff_iff]
      simp only [Bool.or_eq_true, Bool.and_eq_true, decide_eq_true_eq]
      omega) n h

/-- Past its stores in a row of tiles the output's buffer still holds what they left. -/
theorem kept_16 (c : Dev nD) (t : Fin cfg0.N) (ht : 3 < t.val % 20) (d) : (dats m 0 c).before 16 t d = (dats m 0 c).after 16 t := by
  have hc : ∀ (t : Fin cfg0.N), 3 < t.val % 20 → (dats m 0 c).after 16 t = (dats m 0 c).after 16 ⟨t.val - 1, by omega⟩ := by
    intro t ht
    rw [after0_16, after0_16]
    unfold vAt; rw [show keyq t.val = keyq (t.val - 1) from by unfold keyq; omega]
  rw [(dats m 0 c).before_out_traj 16 rfl (fun _ _ => rfl) (fun t ht0 hidle hfr => hc t (by
      rw [fresh_16 _ (Nat.le_of_lt t.isLt), decide_eq_false_iff_not] at hfr; omega)) t.val t rfl d,
    fresh_16 _ (Nat.le_of_lt t.isLt), if_neg (by rw [decide_eq_true_eq]; omega), ← hc t ht]

theorem fresh_17 (n : ℕ) (h : n ≤ cfg0.N) : cfg0.fresh 17 n = decide (n % 20 ≤ 3) :=
  cfg0.fresh_tab 17 (fun n => decide (n % 20 ≤ 3)) (by decide)
    (fun t => by
      rw [idle_17, flush_17, Bool.eq_iff_iff]
      simp only [Bool.or_eq_true, Bool.and_eq_true, decide_eq_true_eq]
      omega) n h

/-- Past its stores in a row of tiles the output's buffer still holds what they left. -/
theorem kept_17 (c : Dev nD) (t : Fin cfg0.N) (ht : 3 < t.val % 20) (d) : (dats m 0 c).before 17 t d = (dats m 0 c).after 17 t := by
  have hc : ∀ (t : Fin cfg0.N), 3 < t.val % 20 → (dats m 0 c).after 17 t = (dats m 0 c).after 17 ⟨t.val - 1, by omega⟩ := by
    intro t ht
    rw [after0_17, after0_17]
    unfold ktAt; rw [show keyq t.val = keyq (t.val - 1) from by unfold keyq; omega]
  rw [(dats m 0 c).before_out_traj 17 rfl (fun _ _ => rfl) (fun t ht0 hidle hfr => hc t (by
      rw [fresh_17 _ (Nat.le_of_lt t.isLt), decide_eq_false_iff_not] at hfr; omega)) t.val t rfl d,
    fresh_17 _ (Nat.le_of_lt t.isLt), if_neg (by rw [decide_eq_true_eq]; omega), ← hc t ht]

theorem fresh_18 (n : ℕ) (h : n ≤ cfg0.N) : cfg0.fresh 18 n = decide (n % 20 ≤ 3) :=
  cfg0.fresh_tab 18 (fun n => decide (n % 20 ≤ 3)) (by decide)
    (fun t => by
      rw [idle_18, flush_18, Bool.eq_iff_iff]
      simp only [Bool.or_eq_true, Bool.and_eq_true, decide_eq_true_eq]
      omega) n h

/-- Past its stores in a row of tiles the output's buffer still holds what they left. -/
theorem kept_18 (c : Dev nD) (t : Fin cfg0.N) (ht : 3 < t.val % 20) (d) : (dats m 0 c).before 18 t d = (dats m 0 c).after 18 t := by
  have hc : ∀ (t : Fin cfg0.N), 3 < t.val % 20 → (dats m 0 c).after 18 t = (dats m 0 c).after 18 ⟨t.val - 1, by omega⟩ := by
    intro t ht
    rw [after0_18, after0_18]
    unfold vbAt; rw [show keyq t.val = keyq (t.val - 1) from by unfold keyq; omega]
  rw [(dats m 0 c).before_out_traj 18 rfl (fun _ _ => rfl) (fun t ht0 hidle hfr => hc t (by
      rw [fresh_18 _ (Nat.le_of_lt t.isLt), decide_eq_false_iff_not] at hfr; omega)) t.val t rfl d,
    fresh_18 _ (Nat.le_of_lt t.isLt), if_neg (by rw [decide_eq_true_eq]; omega), ← hc t ht]

end Cert.Proof.InB

end
-- ==== Proof.InBStep.lean ====
module

public import proofs.«01_k».proof.Proof.InBDat

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)))

/-- What the body leaves in an output's buffer. -/
def leave (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A step that writes a window leaves its value. -/
theorem leave_of (c : Dev nD) (t : Fin cfg0.N) (w : Fin cfg0.W) (h : cfg0.idle w (cfg0.grid.coords t) = false)
    (X : (cfg0.win w).block.Idx → Elt F (cfg0.win w).elt) (hX : X = (dats m 0 c).after w t) :
    owns (c : Thread nD τ) ((cfg0.win w).stage (cfg0.slots t w)) fullShare X ⊢ leave m c t w := by
  subst hX; unfold leave; rw [h]

/-- A step that does not write a window leaves what was there. -/
theorem leave_keep (c : Dev nD) (t : Fin cfg0.N) (w : Fin cfg0.W) (h : cfg0.idle w (cfg0.grid.coords t) = true)
    (hk : (cfg0.win w).flush t = true → ∀ d, (dats m 0 c).before w t d = (dats m 0 c).after w t) (d) :
    owns (c : Thread nD τ) ((cfg0.win w).stage (cfg0.slots t w)) fullShare ((dats m 0 c).before w t d) ⊢ leave m c t w := by
  unfold leave; rw [h]; dsimp only
  cases hf : (cfg0.win w).flush t with
  | false => dsimp only; iintro H; iexists d; iexact H
  | true => dsimp only; rw [hk hf d]

/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t)
    ∗ leave m c t 14 ∗ leave m c t 15 ∗ leave m c t 16 ∗ leave m c t 17 ∗ leave m c t 18 ∗ leave m c t 19 ∗ leave m c t 20)

/-- The invariant at a point past the first of a row of tiles. -/
theorem PhiS_pos (c : Dev nD) (t : Fin cfg0.N) (h0 : ¬t.val % 20 = 0) :
    (dats m 0 c).Φ t.castSucc = iprop(∃ h a x, ⌜Inv m c (t.val - 1) h a x⌝ ∗ owns (c : Thread nD τ) scM0_0 fullShare h ∗ owns (c : Thread nD τ) scM0_1 fullShare a ∗ owns (c : Thread nD τ) scM0_2 fullShare x ∗ (∃ r, prngReg c r)) := by
  rw [PhiS_castSucc]
  obtain ⟨n, hn⟩ := t
  cases n with
  | zero => exact absurd rfl h0
  | succ n => exact PhiS_succ m c n (Nat.lt_of_succ_lt hn)

/-- The invariant over one of the other query steps. -/
theorem stepB (c : Dev nD) (t : Fin cfg0.N) (h0 : ¬t.val % 20 = 0) (h1 : t.val % 20 < 3) {h : Vec F S17x512x256 .f32} {a x : Vec F S512x128 .f32}
    (hi : Inv m c (t.val - 1) h a x) : Inv m c t.val h a x := by
  obtain ⟨n, hn⟩ := t
  cases n with
  | zero => exact absurd rfl h0
  | succ n => exact inv_B m c n h0 h1 hi

/-- The invariant over the step of the key. -/
theorem stepC (c : Dev nD) (t : Fin cfg0.N) (h0 : t.val % 20 = 3) {h : Vec F S17x512x256 .f32} {a x : Vec F S512x128 .f32}
    (hi : Inv m c (t.val - 1) h a x) : Inv m c t.val (hTail h (tail (Bk m c t) x)) (amax0 (Bk m c t) x) x := by
  obtain ⟨n, hn⟩ := t
  cases n with
  | zero => exact absurd h0 (by norm_num)
  | succ n => exact inv_C m c n hn h0 hi

/-- The invariant over a step of the gated product. -/
theorem stepD (c : Dev nD) (t : Fin cfg0.N) (h0 : 3 < t.val % 20) {h : Vec F S17x512x256 .f32} {a x : Vec F S512x128 .f32}
    (hi : Inv m c (t.val - 1) h a x) :
    Inv m c t.val (hPut h (t.val % 20 - 4) (hRow (Bk m c t) x)) (amaxS (Bk m c t) x a) x := by
  obtain ⟨n, hn⟩ := t
  cases n with
  | zero => exact absurd h0 (by norm_num)
  | succ n => exact inv_D m c n hn h0 hi

/-! ## What a step stores is what the proof data say -/

/-- Each block a step computes is the one named after its position. -/
theorem q_eq (c : Dev nD) (t : Fin cfg0.N) (ht : t.val % 20 < 3) {x : Vec F S512x128 .f32} (hx : x = xAt m c t.val) :
    qBlk (Bk m c t) x (iblk m c 12 t) (iblk m c 13 t) = qAt m c t.val := by
  unfold qAt
  rw [show lastq t.val = t.val from by unfold lastq; omega, pt_val, hx]

theorem keyq_self (t : ℕ) (ht : t % 20 = 3) : keyq t = t := by unfold keyq; omega

theorem k_eq (c : Dev nD) (t : Fin cfg0.N) (ht : t.val % 20 = 3) {x : Vec F S512x128 .f32} (hx : x = xAt m c t.val) :
    kBlk (Bk m c t) x (iblk m c 12 t) (iblk m c 13 t) (iblk m c 0 t) = kAt m c t.val := by
  unfold kAt; rw [keyq_self t.val ht, pt_val, hx]
theorem v_eq (c : Dev nD) (t : Fin cfg0.N) (ht : t.val % 20 = 3) {x : Vec F S512x128 .f32} (hx : x = xAt m c t.val) :
    vBlk (Bk m c t) x (iblk m c 1 t) = vAt m c t.val := by
  unfold vAt; rw [keyq_self t.val ht, pt_val, hx]
theorem kt_eq (c : Dev nD) (t : Fin cfg0.N) (ht : t.val % 20 = 3) {x : Vec F S512x128 .f32} (hx : x = xAt m c t.val) :
    ktBlk (Bk m c t) x (iblk m c 12 t) (iblk m c 13 t) (iblk m c 0 t) = ktAt m c t.val := by
  unfold ktAt; rw [keyq_self t.val ht, pt_val, hx]
theorem vb_eq (c : Dev nD) (t : Fin cfg0.N) (ht : t.val % 20 = 3) {x : Vec F S512x128 .f32} (hx : x = xAt m c t.val) :
    vbBlk (Bk m c t) x (iblk m c 1 t) = vbAt m c t.val := by
  unfold vbAt; rw [keyq_self t.val ht, pt_val, hx]
theorem hq_eq (c : Dev nD) (t : Fin cfg0.N) (ht : t.val % 20 = 19) {h : Vec F S17x512x256 .f32} {a x : Vec F S512x128 .f32}
    (hi : Inv m c (t.val - 1) h a x) : hqBlk h (hRow (Bk m c t) x) (amaxS (Bk m c t) x a) = hqAt m c t.val := by
  have hd := stepD m c t (by omega) hi
  unfold hqAt
  rw [pt_val, ← hd.2.1 (by omega), ← hd.1]
  exact hqBlk_congr _ _ _ _ fun y hy => hi.2.2 y (by rw [show (t.val - 1) % 20 = 18 from by omega]; exact hy)
theorem hs_eq (c : Dev nD) (t : Fin cfg0.N) (ht : t.val % 20 = 19) {h : Vec F S17x512x256 .f32} {a x : Vec F S512x128 .f32}
    (hi : Inv m c (t.val - 1) h a x) : hsBlk (amaxS (Bk m c t) x a) = hsAt m c t.val := by
  have hd := stepD m c t (by omega) hi
  unfold hsAt; rw [hd.2.1 (by omega)]

end Cert.Proof.InB

end
-- ==== Proof.InBRunA.lean ====
module

public import proofs.«01_k».proof.Proof.InBCond

/-! The input projection (its own number formats): the run of the body at the first step. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

set_option maxHeartbeats 4000000 in
/-- The body at the first column step of a row of tiles (the scale column is loaded, four heads are stored): run on whole buffers, it ends with every buffer it reads as it was and every
    buffer it stores into with some pieces written, last first; the pieces are found by the run. -/
noncomputable def bodyRun_A (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    Σ' (L16 : List (View.Piece (Elt F) S4x512x128 .bf16)), { L25 : List (View.Piece (Elt F) S512x128 .f32) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg25 fullShare d)
            ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg25.view.loc (c : Thread nD τ) ↦[arg25.view.set]{fullShare} arg25.view.writes (Elt F) f L25)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_in_proj_eq_skeleton]; unfold cc0_in_proj_skel
    simp only [k0_part12_eq_skeleton, k0_part1_eq_skeleton, k0_part2_eq_skeleton, k0_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d25, %f25, -, H25⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    iexists _; iexact H25

end Cert.Proof.InB

end
-- ==== Proof.InBSpecA.lean ====
module

public import proofs.«01_k».proof.Proof.InBVal
public import proofs.«01_k».proof.Proof.InBRunA

/-! The input projection (its own number formats): what the first step leaves, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- What a load of a whole buffer reads. -/
theorem rdA {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listA_16 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15).1 = qPieces ⟨x4, x6, x7, x8, x9, x10, x11, x12, x13⟩ (xcol x5) x14 x15 := by
  unfold bodyRun_A
  dsimp only
  have hH : bodyRun_A.sl.H25_4 c arg5 harg5 x5 = xcolPieces x5 := by
    unfold bodyRun_A.sl.H25_4 xcolPieces
    simp only [rdA harg5]
  simp (disch := decide) only [bodyRun_A.sl.r, bodyRun_A.sl.r_1, bodyRun_A.sl.r_2, bodyRun_A.sl.r_3, bodyRun_A.sl.r_4, bodyRun_A.sl.r_5, bodyRun_A.sl.r_6, bodyRun_A.sl.r_7, bodyRun_A.sl.r_8, bodyRun_A.sl.r_9, bodyRun_A.sl.v10, bodyRun_A.sl.v53, hH, rc_xcol, rdA harg4, rdA harg5, rdA harg6, rdA harg7, rdA harg8, rdA harg9, rdA harg10, rdA harg11, rdA harg12, rdA harg13, rdA harg14, rdA harg15, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listA_25 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15).2.1 = xcolPieces x5 := by
  unfold bodyRun_A
  dsimp only
  have hH : bodyRun_A.sl.H25_4 c arg5 harg5 x5 = xcolPieces x5 := by
    unfold bodyRun_A.sl.H25_4 xcolPieces
    simp only [rdA harg5]
  simp (disch := decide) only [bodyRun_A.sl.r, bodyRun_A.sl.r_1, bodyRun_A.sl.r_2, bodyRun_A.sl.r_3, bodyRun_A.sl.r_4, bodyRun_A.sl.r_5, bodyRun_A.sl.r_6, bodyRun_A.sl.r_7, bodyRun_A.sl.r_8, bodyRun_A.sl.r_9, bodyRun_A.sl.v10, bodyRun_A.sl.v53, hH, rc_xcol, rdA harg4, rdA harg5, rdA harg6, rdA harg7, rdA harg8, rdA harg9, rdA harg10, rdA harg11, rdA harg12, rdA harg13, rdA harg14, rdA harg15, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeA {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

set_option maxHeartbeats 1600000 in
/-- The body at the first column step of a row of tiles (the scale column is loaded, four heads are stored): what it leaves in every buffer it stores into. -/
theorem specA (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32)
    (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg25 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (qBlk ⟨x4, x6, x7, x8, x9, x10, x11, x12, x13⟩ (xcol x5) x14 x15) ∗ owns (c : Thread nD τ) arg25 fullShare (xcol x5)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e16 := listA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15
  have e25 := listA_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15
  revert e16 e25
  rcases bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15 with ⟨L16, L25, h⟩
  intro e16 e25
  dsimp only at e16 e25
  subst e16
  subst e25
  replace h := h E K
  iintro ⟨H4, H5, H6, H7, H8, H9, H10, H11, H12, H13, H14, H15, H16, H25, Hk⟩
  iapply h
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H25]; · iexact H25
  iintro ⟨H4, H5, H6, H7, H8, H9, H10, H11, H12, H13, H14, H15, ⟨%f16, H16⟩, ⟨%f25, H25⟩⟩
  iapply Hk
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; exact (View.read_writes_eq_canon _ _ _ (q_cover _ _ _ _))
  · unfold owns; iexists _; isplitr; swap; · iexact H25
    ipureintro; exact (View.read_writes_eq_canon _ _ _ (xcol_cover _))

end Cert.Proof.InB

end
-- ==== Proof.InBBodyA.lean ====
module

public import proofs.«01_k».proof.Proof.InBStep
public import proofs.«01_k».proof.Proof.InBSpecA

/-! The input projection (its own number formats): the body at the first step of a row of tiles. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first column step of a row of tiles (the scale column is loaded, four heads are stored) keeps the invariant and leaves every buffer as the proof data say. -/
theorem body_A (c : Dev nD) (t : Fin cfg0.N) (ht : t.val % 20 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_castSucc]
  refine (sep_mono_left (PhiS_any m c t.val (Nat.le_of_lt t.isLt))).trans ?_
  rw [PhiA0_eq]
  iintro ⟨⟨⟨⟨%h, S0⟩, ⟨%a, S1⟩, ⟨%x, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := inv_A m c t ht h a
  iapply (specA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) ((cond1_iff t).2 (by omega)) ((cond2_iff t).2 (by omega)) (fun hc => absurd ((cond3_iff t).1 hc) (by omega)) (fun hc => absurd ((cond4_iff t).1 hc) (by omega)) (fun hc => absurd ((cond5_iff t).1 hc) (by omega)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [S2]; · iexists _; iexact S2
  iintro ⟨H2, H3, H4, H5, H6, H7, H8, H9, H10, H11, H12, H13, H14, S2⟩
  isplitl [S0 S1 S2 Hg]
  · iexists h; iexists a; iexists (xcol (iblk m c 3 t))
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_of m c t 14 ((idle_14 t).trans (decide_eq_false (by omega))) _ ((q_eq m c t (by omega) hinv.1).trans (after0_14 m c t).symm)); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InB

end
-- ==== Proof.InBRunB.lean ====
module

public import proofs.«01_k».proof.Proof.InBCond

/-! The input projection (its own number formats): the run of the body at the other query steps. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

set_option maxHeartbeats 4000000 in
/-- The body at a later column step of the heads: run on whole buffers, it ends with every buffer it reads as it was and every
    buffer it stores into with some pieces written, last first; the pieces are found by the run. -/
noncomputable def bodyRun_B (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) :
    { L16 : List (View.Piece (Elt F) S4x512x128 .bf16) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg16 fullShare d)
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ f, arg16.view.loc (c : Thread nD τ) ↦[arg16.view.set]{fullShare} arg16.view.writes (Elt F) f L16)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_in_proj_eq_skeleton]; unfold cc0_in_proj_skel
    simp only [k0_part12_eq_skeleton, k0_part1_eq_skeleton, k0_part2_eq_skeleton, k0_part3_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f25, %hf25, H25⟩, ⟨%d16, %f16, -, H16⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg25.eq_unread hf25
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H25]
    · iexists _; isplitr; · ipureintro; exact harg25.read_unread _
      iexact H25
    iexists _; iexact H16

end Cert.Proof.InB

end
-- ==== Proof.InBSpecB.lean ====
module

public import proofs.«01_k».proof.Proof.InBVal
public import proofs.«01_k».proof.Proof.InBRunB

/-! The input projection (its own number formats): what the other query steps leave, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- What a load of a whole buffer reads. -/
theorem rdB {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listB_16 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) :
    (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25).1 = qPieces ⟨x4, x6, x7, x8, x9, x10, x11, x12, x13⟩ x25 x14 x15 := by
  unfold bodyRun_B
  dsimp only
  simp (disch := decide) only [bodyRun_B.sl.r, bodyRun_B.sl.r_1, bodyRun_B.sl.r_2, bodyRun_B.sl.r_3, bodyRun_B.sl.r_4, bodyRun_B.sl.r_5, bodyRun_B.sl.r_6, bodyRun_B.sl.r_7, bodyRun_B.sl.r_8, bodyRun_B.sl.r_9, bodyRun_B.sl.v53, rdB harg4, rdB harg6, rdB harg7, rdB harg8, rdB harg9, rdB harg10, rdB harg11, rdB harg12, rdB harg13, rdB harg14, rdB harg15, rdB harg25, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeB {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

set_option maxHeartbeats 1600000 in
/-- The body at a later column step of the heads: what it leaves in every buffer it stores into. -/
theorem specB (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg16 fullShare d)
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ owns (c : Thread nD τ) arg16 fullShare (qBlk ⟨x4, x6, x7, x8, x9, x10, x11, x12, x13⟩ x25 x14 x15)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e16 := listB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25
  revert e16
  rcases bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25 with ⟨L16, h⟩
  intro e16
  dsimp only at e16
  subst e16
  replace h := h E K
  iintro ⟨H4, H6, H7, H8, H9, H10, H11, H12, H13, H14, H15, H25, H16, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H16]; · iexact H16
  iintro ⟨H4, H6, H7, H8, H9, H10, H11, H12, H13, H14, H15, H25, ⟨%f16, H16⟩⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  · unfold owns; iexists _; isplitr; swap; · iexact H16
    ipureintro; exact (View.read_writes_eq_canon _ _ _ (q_cover _ _ _ _))

end Cert.Proof.InB

end
-- ==== Proof.InBBodyB.lean ====
module

public import proofs.«01_k».proof.Proof.InBStep
public import proofs.«01_k».proof.Proof.InBSpecB

/-! The input projection (its own number formats): the body at the other query steps. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a later column step of the heads keeps the invariant and leaves every buffer as the proof data say. -/
theorem body_B (c : Dev nD) (t : Fin cfg0.N) (ht : ¬t.val % 20 = 0 ∧ t.val % 20 < 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepB m c t ht.1 ht.2 hi
  iapply (specB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) ((cond2_iff t).2 (by omega)) (fun hc => absurd ((cond3_iff t).1 hc) (by omega)) (fun hc => absurd ((cond4_iff t).1 hc) (by omega)) (fun hc => absurd ((cond5_iff t).1 hc) (by omega)) (iblk m c 2 t) (iblk m c 4 t) (iblk m c 5 t) (iblk m c 6 t) (iblk m c 7 t) (iblk m c 8 t) (iblk m c 9 t) (iblk m c 10 t) (iblk m c 11 t) (iblk m c 12 t) (iblk m c 13 t) x Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S2]; · iexact S2
  isplitl [H14]; · iexists _; iexact H14
  iintro ⟨H2, H4, H5, H6, H7, H8, H9, H10, H11, H12, H13, S2, H14⟩
  isplitl [S0 S1 S2 Hg]
  · iexists h; iexists a; iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_of m c t 14 ((idle_14 t).trans (decide_eq_false (by omega))) _ ((q_eq m c t (by omega) hinv.1).trans (after0_14 m c t).symm)); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InB

end
-- ==== Proof.InBRunC.lean ====
module

public import proofs.«01_k».proof.Proof.InBCond

/-! The input projection (its own number formats): the run of the body at the step of the key and the value. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

set_option maxHeartbeats 4000000 in
/-- The body at the column step of the key, the value and the half tile of the gated product: run on whole buffers, it ends with every buffer it reads as it was and every
    buffer it stores into with some pieces written, last first; the pieces are found by the run. -/
noncomputable def bodyRun_C (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    Σ' (L17 : List (View.Piece (Elt F) S512x128 .fp8e4m3)), Σ' (L18 : List (View.Piece (Elt F) S512x128 .fp8e4m3)), Σ' (L19 : List (View.Piece (Elt F) S128x512 .bf16)), Σ' (L20 : List (View.Piece (Elt F) S512x128 .bf16)), Σ' (L23 : List (View.Piece (Elt F) S17x512x256 .f32)), { L24 : List (View.Piece (Elt F) S512x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg23 fullShare x23 ∗ (∃ d, owns (c : Thread nD τ) arg24 fullShare d)
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg23.view.loc (c : Thread nD τ) ↦[arg23.view.set]{fullShare} arg23.view.writes (Elt F) (harg23.unread x23) L23) ∗ (∃ f, arg24.view.loc (c : Thread nD τ) ↦[arg24.view.set]{fullShare} arg24.view.writes (Elt F) f L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_in_proj_eq_skeleton]; unfold cc0_in_proj_skel
    simp only [k0_part12_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f25, %hf25, H25⟩, ⟨%d17, %f17, -, H17⟩, ⟨%d18, %f18, -, H18⟩, ⟨%d19, %f19, -, H19⟩, ⟨%d20, %f20, -, H20⟩, ⟨%f23, %hf23, H23⟩, ⟨%d24, %f24, -, H24⟩, Hk⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg25.eq_unread hf25; obtain rfl := harg23.eq_unread hf23
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H25]
    · iexists _; isplitr; · ipureintro; exact harg25.read_unread _
      iexact H25
    isplitl [H17]; · iexists _; iexact H17
    isplitl [H18]; · iexists _; iexact H18
    isplitl [H19]; · iexists _; iexact H19
    isplitl [H20]; · iexists _; iexact H20
    isplitl [H23]; · iexact H23
    iexists _; iexact H24

end Cert.Proof.InB

end
-- ==== Proof.InBSpecC.lean ====
module

public import proofs.«01_k».proof.Proof.InBVal
public import proofs.«01_k».proof.Proof.InBRunC

/-! The input projection (its own number formats): what the step of the key and the value leaves, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- What a load of a whole buffer reads. -/
theorem rdC {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listC_17 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).1 = [⟨Rect.unit ![0, 0] S512x128.size inb_S512x128_S512x128_0_0, kBlk ⟨x4, x6, x7, x8, x9, x10, x11, x12, x13⟩ x25 x14 x15 x2⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x2 (Rect.unit (s := S1) ![0] ![1] inb_S1_S1_0) (Shape.Idx.first (s := S1) (by decide)) = x2 (Shape.Idx.first (s := S1) (by decide)) from congrFun (ld_one x2 _) _]

set_option maxHeartbeats 1600000 in
theorem listC_18 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.1 = [⟨Rect.unit ![0, 0] S512x128.size inb_S512x128_S512x128_0_0, vBlk ⟨x4, x6, x7, x8, x9, x10, x11, x12, x13⟩ x25 x3⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x3 (Rect.unit (s := S1) ![0] ![1] inb_S1_S1_0) (Shape.Idx.first (s := S1) (by decide)) = x3 (Shape.Idx.first (s := S1) (by decide)) from congrFun (ld_one x3 _) _]

set_option maxHeartbeats 1600000 in
theorem listC_19 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.1 = [⟨Rect.unit ![0, 0] S128x512.size inb_S128x512_S128x512_0_0, ktBlk ⟨x4, x6, x7, x8, x9, x10, x11, x12, x13⟩ x25 x14 x15 x2⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x2 (Rect.unit (s := S1) ![0] ![1] inb_S1_S1_0) (Shape.Idx.first (s := S1) (by decide)) = x2 (Shape.Idx.first (s := S1) (by decide)) from congrFun (ld_one x2 _) _]

set_option maxHeartbeats 1600000 in
theorem listC_20 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.1 = [⟨Rect.unit ![0, 0] S512x128.size inb_S512x128_S512x128_0_0, vbBlk ⟨x4, x6, x7, x8, x9, x10, x11, x12, x13⟩ x25 x3⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x3 (Rect.unit (s := S1) ![0] ![1] inb_S1_S1_0) (Shape.Idx.first (s := S1) (by decide)) = x3 (Shape.Idx.first (s := S1) (by decide)) from congrFun (ld_one x3 _) _]

set_option maxHeartbeats 1600000 in
theorem listC_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.2.1 = [⟨Rect.unit ![16, 0, 0] ![1, 512, 128] inb_S17x512x256_S1x512x128_16_0_0, tail ⟨x4, x6, x7, x8, x9, x10, x11, x12, x13⟩ x25⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listC_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.2.2.1 = [⟨Rect.unit ![0, 0] ![512, 128] inb_S512x128_S512x128_0_0, amax0 ⟨x4, x6, x7, x8, x9, x10, x11, x12, x13⟩ x25⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeC {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after the half tile is stored into its last row. -/
theorem tail_read (m : Memref sig .tc .vmem S17x512x256 .f32) (h : m.IsWhole) (x : Vec F S17x512x256 .f32) (w : Vec F S1x512x128 .f32) :
    m.view.read (Elt F) (m.view.writes (Elt F) (h.unread x) [⟨Rect.unit ![16, 0, 0] ![1, 512, 128] inb_S17x512x256_S1x512x128_16_0_0, w⟩]) = hTail x w := by
  funext y
  by_cases hy : (y 0 : ℕ) = 16 ∧ (y 2 : ℕ) < 128
  · refine (View.read_writes_cons_unit_of_mem m.view (h.unread x) inb_S17x512x256_S1x512x128_16_0_0 w [] y (ix3 0 (y 1) ⟨(y 2 : ℕ), hy.2⟩) rfl ?_).trans
      (by unfold hTail; rw [dif_pos hy])
    intro a; fin_cases a
    · show (y 0 : ℕ) = 16 + 0; omega
    · show (y 1 : ℕ) = 0 + (y 1 : ℕ); omega
    · show (y 2 : ℕ) = 0 + (y 2 : ℕ); omega
  · by_cases h0 : (y 0 : ℕ) = 16
    · refine (View.read_writes_cons_unit_of_not_mem m.view (h.unread x) inb_S17x512x256_S1x512x128_16_0_0 w [] y rfl 2 ?_).trans ?_
      · show (y 2 : ℕ) < 0 ∨ 0 + 128 ≤ (y 2 : ℕ); omega
      · unfold hTail; rw [dif_neg hy]; exact congrFun (h.read_unread x) y
    · refine (View.read_writes_cons_unit_of_not_mem m.view (h.unread x) inb_S17x512x256_S1x512x128_16_0_0 w [] y rfl 0 ?_).trans ?_
      · show (y 0 : ℕ) < 16 ∨ 16 + 1 ≤ (y 0 : ℕ); have := (y 0).isLt; omega
      · unfold hTail; rw [dif_neg hy]; exact congrFun (h.read_unread x) y

set_option maxHeartbeats 1600000 in
/-- The body at the column step of the key, the value and the half tile of the gated product: what it leaves in every buffer it stores into. -/
theorem specC (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg23 fullShare x23 ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ owns (c : Thread nD τ) arg17 fullShare (kBlk ⟨x4, x6, x7, x8, x9, x10, x11, x12, x13⟩ x25 x14 x15 x2) ∗ owns (c : Thread nD τ) arg18 fullShare (vBlk ⟨x4, x6, x7, x8, x9, x10, x11, x12, x13⟩ x25 x3) ∗ owns (c : Thread nD τ) arg19 fullShare (ktBlk ⟨x4, x6, x7, x8, x9, x10, x11, x12, x13⟩ x25 x14 x15 x2) ∗ owns (c : Thread nD τ) arg20 fullShare (vbBlk ⟨x4, x6, x7, x8, x9, x10, x11, x12, x13⟩ x25 x3) ∗ owns (c : Thread nD τ) arg23 fullShare (hTail x23 (tail ⟨x4, x6, x7, x8, x9, x10, x11, x12, x13⟩ x25)) ∗ owns (c : Thread nD τ) arg24 fullShare (amax0 ⟨x4, x6, x7, x8, x9, x10, x11, x12, x13⟩ x25)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e17 := listC_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e18 := listC_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e19 := listC_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e20 := listC_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e23 := listC_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e24 := listC_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  revert e17 e18 e19 e20 e23 e24
  rcases bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23 with ⟨L17, L18, L19, L20, L23, L24, h⟩
  intro e17 e18 e19 e20 e23 e24
  dsimp only at e17 e18 e19 e20 e23 e24
  subst e17
  subst e18
  subst e19
  subst e20
  subst e23
  subst e24
  replace h := h E K
  iintro ⟨H2, H3, H4, H6, H7, H8, H9, H10, H11, H12, H13, H14, H15, H25, H17, H18, H19, H20, H23, H24, Hk⟩
  iapply h
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H17]; · iexact H17
  isplitl [H18]; · iexact H18
  isplitl [H19]; · iexact H19
  isplitl [H20]; · iexact H20
  isplitl [H23]; · iexact H23
  isplitl [H24]; · iexact H24
  iintro ⟨H2, H3, H4, H6, H7, H8, H9, H10, H11, H12, H13, H14, H15, H25, ⟨%f17, H17⟩, ⟨%f18, H18⟩, ⟨%f19, H19⟩, ⟨%f20, H20⟩, H23, ⟨%f24, H24⟩⟩
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H17]
  · unfold owns; iexists _; isplitr; swap; · iexact H17
    ipureintro; exact (wholeC _ _ _ _ (by decide))
  isplitl [H18]
  · unfold owns; iexists _; isplitr; swap; · iexact H18
    ipureintro; exact (wholeC _ _ _ _ (by decide))
  isplitl [H19]
  · unfold owns; iexists _; isplitr; swap; · iexact H19
    ipureintro; exact (wholeC _ _ _ _ (by decide))
  isplitl [H20]
  · unfold owns; iexists _; isplitr; swap; · iexact H20
    ipureintro; exact (wholeC _ _ _ _ (by decide))
  isplitl [H23]
  · unfold owns; iexists _; isplitr; swap; · iexact H23
    ipureintro; exact (tail_read _ harg23 _ _)
  · unfold owns; iexists _; isplitr; swap; · iexact H24
    ipureintro; exact (wholeC _ _ _ _ (by decide))

end Cert.Proof.InB

end
-- ==== Proof.InBBodyC.lean ====
module

public import proofs.«01_k».proof.Proof.InBStep
public import proofs.«01_k».proof.Proof.InBSpecC

/-! The input projection (its own number formats): the body at the step of the key and the value. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the column step of the key, the value and the half tile of the gated product keeps the invariant and leaves every buffer as the proof data say. -/
theorem body_C (c : Dev nD) (t : Fin cfg0.N) (ht : t.val % 20 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepC m c t ht hi
  iapply (specC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) ((cond3_iff t).2 (by omega)) (fun hc => absurd ((cond4_iff t).1 hc) (by omega)) (fun hc => absurd ((cond5_iff t).1 hc) (by omega)) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) x h Set.univ _)
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S2]; · iexact S2
  isplitl [H15]; · iexists _; iexact H15
  isplitl [H16]; · iexists _; iexact H16
  isplitl [H17]; · iexists _; iexact H17
  isplitl [H18]; · iexists _; iexact H18
  isplitl [S0]; · iexact S0
  isplitl [S1]; · iexists _; iexact S1
  iintro ⟨H0, H1, H2, H4, H5, H6, H7, H8, H9, H10, H11, H12, H13, S2, H15, H16, H17, H18, S0, S1⟩
  isplitl [S0 S1 S2 Hg]
  · iexists (hTail h (tail (Bk m c t) x)); iexists (amax0 (Bk m c t) x); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun hf => absurd (of_decide_eq_true ((flush_14 t).symm.trans hf)) (by omega)) _); iexact H14
  isplitl [H15]; · iapply (leave_of m c t 15 ((idle_15 t).trans (decide_eq_false (by omega))) _ ((k_eq m c t ht hinv.1).trans (after0_15 m c t).symm)); iexact H15
  isplitl [H16]; · iapply (leave_of m c t 16 ((idle_16 t).trans (decide_eq_false (by omega))) _ ((v_eq m c t ht hinv.1).trans (after0_16 m c t).symm)); iexact H16
  isplitl [H17]; · iapply (leave_of m c t 17 ((idle_17 t).trans (decide_eq_false (by omega))) _ ((kt_eq m c t ht hinv.1).trans (after0_17 m c t).symm)); iexact H17
  isplitl [H18]; · iapply (leave_of m c t 18 ((idle_18 t).trans (decide_eq_false (by omega))) _ ((vb_eq m c t ht hinv.1).trans (after0_18 m c t).symm)); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InB

end
-- ==== Proof.InBRunD.lean ====
module

public import proofs.«01_k».proof.Proof.InBCond

/-! The input projection (its own number formats): the run of the body at a step of the gated product. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

set_option maxHeartbeats 4000000 in
/-- The body at a column step of the gated product before the last: run on whole buffers, it ends with every buffer it reads as it was and every
    buffer it stores into with some pieces written, last first; the pieces are found by the run. -/
noncomputable def bodyRun_D (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    Σ' (L23 : List (View.Piece (Elt F) S17x512x256 .f32)), { L24 : List (View.Piece (Elt F) S512x128 .f32) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare x23 ∗ owns (c : Thread nD τ) arg24 fullShare x24
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_in_proj_eq_skeleton]; unfold cc0_in_proj_skel
    simp only [k0_part12_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f25, %hf25, H25⟩, ⟨%f23, %hf23, H23⟩, ⟨%f24, %hf24, H24⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg25.eq_unread hf25; obtain rfl := harg23.eq_unread hf23; obtain rfl := harg24.eq_unread hf24
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H25]
    · iexists _; isplitr; · ipureintro; exact harg25.read_unread _
      iexact H25
    isplitl [H23]; · iexact H23
    iexact H24

end Cert.Proof.InB

end
-- ==== Proof.InBSpecD.lean ====
module

public import proofs.«01_k».proof.Proof.InBVal
public import proofs.«01_k».proof.Proof.InBRunD

/-! The input projection (its own number formats): what a step of the gated product leaves, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

theorem b1_D (i : grid0.Coords) (h : k0_cond4 i = 1#1) : ∀ a, k0_off1 i a + (![1, 512, 256] : Fin 3 → ℕ) a ≤ S17x512x256.size a := by
  exact k0_off1_inb i h

/-- What a load of a whole buffer reads. -/
theorem rdD {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listD_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24).1 = [⟨Rect.unit (k0_off1 i) ![1, 512, 256] (b1_D i hc4), hRow ⟨x4, x6, x7, x8, x9, x10, x11, x12, x13⟩ x25⟩] := by
  unfold bodyRun_D
  dsimp only
  simp (disch := decide) only [bodyRun_D.sl.r, bodyRun_D.sl.r_1, bodyRun_D.sl.r_2, bodyRun_D.sl.r_3, bodyRun_D.sl.r_4, rdD harg4, rdD harg6, rdD harg7, rdD harg8, rdD harg9, rdD harg10, rdD harg11, rdD harg12, rdD harg13, rdD harg25, rdD harg23, rdD harg24, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listD_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24).2.1 = [⟨Rect.unit ![0, 0] ![512, 128] inb_S512x128_S512x128_0_0, amaxS ⟨x4, x6, x7, x8, x9, x10, x11, x12, x13⟩ x25 x24⟩] := by
  unfold bodyRun_D
  dsimp only
  simp (disch := decide) only [bodyRun_D.sl.r, bodyRun_D.sl.r_1, bodyRun_D.sl.r_2, bodyRun_D.sl.r_3, bodyRun_D.sl.r_4, rdD harg4, rdD harg6, rdD harg7, rdD harg8, rdD harg9, rdD harg10, rdD harg11, rdD harg12, rdD harg13, rdD harg25, rdD harg23, rdD harg24, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeD {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after a full tile is stored into a row of it. -/
theorem row_readD (m : Memref sig .tc .vmem S17x512x256 .f32) (h : m.IsWhole) (x : Vec F S17x512x256 .f32) (r : ℕ) (w : Vec F S1x512x256 .f32)
    (off : Fin 3 → ℕ) (inb : ∀ a, off a + (![1, 512, 256] : Fin 3 → ℕ) a ≤ S17x512x256.size a) (ho : off = ![r, 0, 0]) :
    m.view.read (Elt F) (m.view.writes (Elt F) (h.unread x) [⟨Rect.unit off ![1, 512, 256] inb, w⟩]) = hPut x r w := by
  funext y
  by_cases hy : (y 0 : ℕ) = r
  · refine (View.read_writes_cons_unit_of_mem m.view (h.unread x) inb w [] y (ix3 0 (y 1) (y 2)) ho ?_).trans (by unfold hPut; rw [if_pos hy])
    intro a; fin_cases a
    · show (y 0 : ℕ) = r + 0; omega
    · show (y 1 : ℕ) = 0 + (y 1 : ℕ); omega
    · show (y 2 : ℕ) = 0 + (y 2 : ℕ); omega
  · refine (View.read_writes_cons_unit_of_not_mem m.view (h.unread x) inb w [] y ho 0 ?_).trans ?_
    · show (y 0 : ℕ) < r ∨ r + 1 ≤ (y 0 : ℕ); omega
    · unfold hPut; rw [if_neg hy]; exact congrFun (h.read_unread x) y

set_option maxHeartbeats 1600000 in
/-- The body at a column step of the gated product before the last: what it leaves in every buffer it stores into. -/
theorem specD (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1) (r : ℕ) (ho : k0_off1 i = ![r, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare x23 ∗ owns (c : Thread nD τ) arg24 fullShare x24
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare (hPut x23 r (hRow ⟨x4, x6, x7, x8, x9, x10, x11, x12, x13⟩ x25)) ∗ owns (c : Thread nD τ) arg24 fullShare (amaxS ⟨x4, x6, x7, x8, x9, x10, x11, x12, x13⟩ x25 x24)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e23 := listD_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24
  have e24 := listD_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24
  revert e23 e24
  rcases bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24 with ⟨L23, L24, h⟩
  intro e23 e24
  dsimp only at e23 e24
  subst e23
  subst e24
  replace h := h E K
  iintro ⟨H4, H6, H7, H8, H9, H10, H11, H12, H13, H25, H23, H24, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H23]; · iexact H23
  isplitl [H24]; · iexact H24
  iintro ⟨H4, H6, H7, H8, H9, H10, H11, H12, H13, H25, H23, H24⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H23]
  · unfold owns; iexists _; isplitr; swap; · iexact H23
    ipureintro; exact (row_readD _ harg23 _ _ _ _ _ ho)
  · unfold owns; iexists _; isplitr; swap; · iexact H24
    ipureintro; exact (wholeD _ _ _ _ (by decide))

end Cert.Proof.InB

end
-- ==== Proof.InBBodyD.lean ====
module

public import proofs.«01_k».proof.Proof.InBStep
public import proofs.«01_k».proof.Proof.InBSpecD

/-! The input projection (its own number formats): the body at a step of the gated product. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a column step of the gated product before the last keeps the invariant and leaves every buffer as the proof data say. -/
theorem body_D (c : Dev nD) (t : Fin cfg0.N) (ht : 3 < t.val % 20 ∧ ¬t.val % 20 = 19) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepD m c t ht.1 hi
  iapply (specD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) (fun hc => absurd ((cond3_iff t).1 hc) (by omega)) ((cond4_iff t).2 (by omega)) (fun hc => absurd ((cond5_iff t).1 hc) (by omega)) (t.val % 20 - 4) (off1_eq t ht.1) (iblk m c 2 t) (iblk m c 4 t) (iblk m c 5 t) (iblk m c 6 t) (iblk m c 7 t) (iblk m c 8 t) (iblk m c 9 t) (iblk m c 10 t) (iblk m c 11 t) x h a Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S2]; · iexact S2
  isplitl [S0]; · iexact S0
  isplitl [S1]; · iexact S1
  iintro ⟨H2, H4, H5, H6, H7, H8, H9, H10, H11, S2, S0, S1⟩
  isplitl [S0 S1 S2 Hg]
  · iexists (hPut h (t.val % 20 - 4) (hRow (Bk m c t) x)); iexists (amaxS (Bk m c t) x a); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun hf => absurd (of_decide_eq_true ((flush_14 t).symm.trans hf)) (by omega)) _); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InB

end
-- ==== Proof.InBRunE.lean ====
module

public import proofs.«01_k».proof.Proof.InBCond

/-! The input projection (its own number formats): the run of the body at the last step. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

/-- At the last column step the tile of the gated product goes to row 15 of its scratch. -/
instance closedOff1 (i : grid0.Coords) [h : Fact (k0_off1 i = ![15, 0, 0])] : ClosedOff (k0_off1 i) := ⟨![15, 0, 0], h.out⟩

set_option maxHeartbeats 4000000 in
/-- The body at the last column step (the row is quantised): run on whole buffers, it ends with every buffer it reads as it was and every
    buffer it stores into with some pieces written, last first; the pieces are found by the run. -/
noncomputable def bodyRun_E (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1)
    (ho : k0_off1 i = ![15, 0, 0]) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    Σ' (L21 : List (View.Piece (Elt F) S512x4224 .fp8e4m3)), Σ' (L22 : List (View.Piece (Elt F) S1x512 .f32)), Σ' (L23 : List (View.Piece (Elt F) S17x512x256 .f32)), { L24 : List (View.Piece (Elt F) S512x128 .f32) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ d, owns (c : Thread nD τ) arg21 fullShare d) ∗ (∃ d, owns (c : Thread nD τ) arg22 fullShare d) ∗ owns (c : Thread nD τ) arg23 fullShare x23 ∗ owns (c : Thread nD τ) arg24 fullShare x24
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, fun E K => ?run⟩
  case run =>
    simp only [cc0_in_proj_eq_skeleton]; unfold cc0_in_proj_skel
    simp only [k0_part12_eq_skeleton, k0_part7_eq_skeleton, k0_part8_eq_skeleton, k0_part9_eq_skeleton, k0_part10_eq_skeleton, k0_part11_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f25, %hf25, H25⟩, ⟨%d21, %f21, -, H21⟩, ⟨%d22, %f22, -, H22⟩, ⟨%f23, %hf23, H23⟩, ⟨%f24, %hf24, H24⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg25.eq_unread hf25; obtain rfl := harg23.eq_unread hf23; obtain rfl := harg24.eq_unread hf24
    haveI := Fact.mk ho
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H25]
    · iexists _; isplitr; · ipureintro; exact harg25.read_unread _
      iexact H25
    isplitl [H21]; · iexists _; iexact H21
    isplitl [H22]; · iexists _; iexact H22
    isplitl [H23]; · iexact H23
    iexact H24

end Cert.Proof.InB

end
-- ==== Proof.InBSpecE.lean ====
module

public import proofs.«01_k».proof.Proof.InBVal
public import proofs.«01_k».proof.Proof.InBRunE

/-! The input projection (its own number formats): what the last step leaves, by name. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

theorem b1_E (i : grid0.Coords) (h : k0_cond4 i = 1#1) : ∀ a, k0_off1 i a + (![1, 512, 256] : Fin 3 → ℕ) a ≤ S17x512x256.size a := by
  exact k0_off1_inb i h

/-- What a load of a whole buffer reads. -/
theorem rdE {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listE_21 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).1 = hqPieces x23 (hRow ⟨x4, x6, x7, x8, x9, x10, x11, x12, x13⟩ x25) (amaxS ⟨x4, x6, x7, x8, x9, x10, x11, x12, x13⟩ x25 x24) := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_22 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.1 = hsPieces (amaxS ⟨x4, x6, x7, x8, x9, x10, x11, x12, x13⟩ x25 x24) := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.2.1 = [⟨Rect.unit (k0_off1 i) ![1, 512, 256] (b1_E i hc4), hRow ⟨x4, x6, x7, x8, x9, x10, x11, x12, x13⟩ x25⟩] := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.2.2.1 = [⟨Rect.unit ![0, 0] ![512, 128] inb_S512x128_S512x128_0_0, amaxS ⟨x4, x6, x7, x8, x9, x10, x11, x12, x13⟩ x25 x24⟩] := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeE {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after a full tile is stored into a row of it. -/
theorem row_readE (m : Memref sig .tc .vmem S17x512x256 .f32) (h : m.IsWhole) (x : Vec F S17x512x256 .f32) (r : ℕ) (w : Vec F S1x512x256 .f32)
    (off : Fin 3 → ℕ) (inb : ∀ a, off a + (![1, 512, 256] : Fin 3 → ℕ) a ≤ S17x512x256.size a) (ho : off = ![r, 0, 0]) :
    m.view.read (Elt F) (m.view.writes (Elt F) (h.unread x) [⟨Rect.unit off ![1, 512, 256] inb, w⟩]) = hPut x r w := by
  funext y
  by_cases hy : (y 0 : ℕ) = r
  · refine (View.read_writes_cons_unit_of_mem m.view (h.unread x) inb w [] y (ix3 0 (y 1) (y 2)) ho ?_).trans (by unfold hPut; rw [if_pos hy])
    intro a; fin_cases a
    · show (y 0 : ℕ) = r + 0; omega
    · show (y 1 : ℕ) = 0 + (y 1 : ℕ); omega
    · show (y 2 : ℕ) = 0 + (y 2 : ℕ); omega
  · refine (View.read_writes_cons_unit_of_not_mem m.view (h.unread x) inb w [] y ho 0 ?_).trans ?_
    · show (y 0 : ℕ) < r ∨ r + 1 ≤ (y 0 : ℕ); omega
    · unfold hPut; rw [if_neg hy]; exact congrFun (h.read_unread x) y

set_option maxHeartbeats 1600000 in
/-- The body at the last column step (the row is quantised): what it leaves in every buffer it stores into. -/
theorem specE (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ d, owns (c : Thread nD τ) arg21 fullShare d) ∗ (∃ d, owns (c : Thread nD τ) arg22 fullShare d) ∗ owns (c : Thread nD τ) arg23 fullShare x23 ∗ owns (c : Thread nD τ) arg24 fullShare x24
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg21 fullShare (hqBlk x23 (hRow ⟨x4, x6, x7, x8, x9, x10, x11, x12, x13⟩ x25) (amaxS ⟨x4, x6, x7, x8, x9, x10, x11, x12, x13⟩ x25 x24)) ∗ owns (c : Thread nD τ) arg22 fullShare (hsBlk (amaxS ⟨x4, x6, x7, x8, x9, x10, x11, x12, x13⟩ x25 x24)) ∗ owns (c : Thread nD τ) arg23 fullShare (hPut x23 15 (hRow ⟨x4, x6, x7, x8, x9, x10, x11, x12, x13⟩ x25)) ∗ owns (c : Thread nD τ) arg24 fullShare (amaxS ⟨x4, x6, x7, x8, x9, x10, x11, x12, x13⟩ x25 x24)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e21 := listE_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e22 := listE_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e23 := listE_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e24 := listE_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  revert e21 e22 e23 e24
  rcases bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24 with ⟨L21, L22, L23, L24, h⟩
  intro e21 e22 e23 e24
  dsimp only at e21 e22 e23 e24
  subst e21
  subst e22
  subst e23
  subst e24
  replace h := h E K
  iintro ⟨H4, H6, H7, H8, H9, H10, H11, H12, H13, H25, H21, H22, H23, H24, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H21]; · iexact H21
  isplitl [H22]; · iexact H22
  isplitl [H23]; · iexact H23
  isplitl [H24]; · iexact H24
  iintro ⟨H4, H6, H7, H8, H9, H10, H11, H12, H13, H25, ⟨%f21, H21⟩, ⟨%f22, H22⟩, H23, H24⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H21]
  · unfold owns; iexists _; isplitr; swap; · iexact H21
    ipureintro; exact (View.read_writes_eq_canon _ _ _ (hq_cover _ _ _))
  isplitl [H22]
  · unfold owns; iexists _; isplitr; swap; · iexact H22
    ipureintro; exact (View.read_writes_eq_canon _ _ _ (hs_cover _))
  isplitl [H23]
  · unfold owns; iexists _; isplitr; swap; · iexact H23
    ipureintro; exact (row_readE _ harg23 _ _ _ _ _ ho)
  · unfold owns; iexists _; isplitr; swap; · iexact H24
    ipureintro; exact (wholeE _ _ _ _ (by decide))

end Cert.Proof.InB

end
-- ==== Proof.InBBodyE.lean ====
module

public import proofs.«01_k».proof.Proof.InBStep
public import proofs.«01_k».proof.Proof.InBSpecE

/-! The input projection (its own number formats): the body at the last step of a row of tiles. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the last column step (the row is quantised) keeps the invariant and leaves every buffer as the proof data say. -/
theorem body_E (c : Dev nD) (t : Fin cfg0.N) (ht : t.val % 20 = 19) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepD m c t (by omega) hi
  rw [show t.val % 20 - 4 = 15 from by omega] at hinv
  iapply (specE c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) (fun hc => absurd ((cond3_iff t).1 hc) (by omega)) ((cond4_iff t).2 (by omega)) ((cond5_iff t).2 (by omega)) ((off1_eq t (by omega)).trans (by rw [show t.val % 20 - 4 = 15 from by omega])) (iblk m c 2 t) (iblk m c 4 t) (iblk m c 5 t) (iblk m c 6 t) (iblk m c 7 t) (iblk m c 8 t) (iblk m c 9 t) (iblk m c 10 t) (iblk m c 11 t) x h a Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S2]; · iexact S2
  isplitl [H19]; · iexists _; iexact H19
  isplitl [H20]; · iexists _; iexact H20
  isplitl [S0]; · iexact S0
  isplitl [S1]; · iexact S1
  iintro ⟨H2, H4, H5, H6, H7, H8, H9, H10, H11, S2, H19, H20, S0, S1⟩
  isplitl [S0 S1 S2 Hg]
  · iexists (hPut h 15 (hRow (Bk m c t) x)); iexists (amaxS (Bk m c t) x a); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun _ d => kept_14 m c t (by omega) d) _); iexact H14
  isplitl [H15]; · iapply (leave_keep m c t 15 ((idle_15 t).trans (decide_eq_true (by omega))) (fun _ d => kept_15 m c t (by omega) d) _); iexact H15
  isplitl [H16]; · iapply (leave_keep m c t 16 ((idle_16 t).trans (decide_eq_true (by omega))) (fun _ d => kept_16 m c t (by omega) d) _); iexact H16
  isplitl [H17]; · iapply (leave_keep m c t 17 ((idle_17 t).trans (decide_eq_true (by omega))) (fun _ d => kept_17 m c t (by omega) d) _); iexact H17
  isplitl [H18]; · iapply (leave_keep m c t 18 ((idle_18 t).trans (decide_eq_true (by omega))) (fun _ d => kept_18 m c t (by omega) d) _); iexact H18
  isplitl [H19]; · iapply (leave_of m c t 19 ((idle_19 t).trans (decide_eq_false (by omega))) _ ((hq_eq m c t ht hi).trans (after0_19 m c t).symm)); iexact H19
  iapply (leave_of m c t 20 ((idle_20 t).trans (decide_eq_false (by omega))) _ ((hs_eq m c t ht hi).trans (after0_20 m c t).symm)); iexact H20

end Cert.Proof.InB

end
-- ==== Proof.InBFrame.lean ====
module

public import proofs.«01_k».proof.Proof.InBBodyA
public import proofs.«01_k».proof.Proof.InBBodyB
public import proofs.«01_k».proof.Proof.InBBodyC
public import proofs.«01_k».proof.Proof.InBBodyD
public import proofs.«01_k».proof.Proof.InBBodyE

/-! The input projection (its own number formats): the run to the end, arguments and semaphores. -/

@[expose] public section

set_option maxRecDepth 16384

noncomputable section

namespace Cert.Proof.InB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProj Cert.InProj.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body keeps the invariant at every point. -/
theorem sound_body (c : Dev nD) (t : Fin cfg0.N) :
    bodyPre m c t ⊢ wp frame (wpE (defs₀ (F := F)) Variants.none c none) Set.univ (bodyAt0 t) (fun _ => bodyPost m c t) := by
  have hlt : t.val % 20 < 20 := Nat.mod_lt _ (by norm_num)
  by_cases h0 : t.val % 20 = 0
  · exact body_A m c t h0
  by_cases h1 : t.val % 20 < 3
  · exact body_B m c t ⟨h0, h1⟩
  by_cases h2 : t.val % 20 = 3
  · exact body_C m c t h2
  by_cases h3 : t.val % 20 = 19
  · exact body_E m c t h3
  · exact body_D m c t ⟨by omega, h3⟩

theorem defs₀_row (t : Fin cfg0.N) : defs₀ (F := F) .tc cfg0.body (cfg0.bodyArgs t (cfg0.slots t)) = bodyAt0 t := by
  unfold defs₀; rw [Defs.onTc_tc]

/-- So every point of the pipeline is met. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]; try exact Idealize.SL.BI.Entails.refl _

/-- The invariant gives the scratch back at the end. -/
theorem hout (c : Dev nD) : (dats m 0 c).Φ (Fin.last _) ⊢ Pipeline.ΦA spec0 c :=
  PhiS_any m c _ (Nat.le_of_lt_succ (Fin.last cfg0.N).isLt)

set_option backward.isDefEq.respectTransparency.types false in
/-- The run ends, with every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hin := hin m) (hout := hout m)

/-- The run of the kernel, in the form a value claim starts from. -/
theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.Proof.InB

end
-- ==== Proof.InICond.lean ====
module

public import proofs.«01_k».proof.Proof.Gen.InProjIdeal.Frame
public import proofs.«01_k».proof.Proof.Gen.InProjIdeal.Skeleton
public import Idealize.ShloMosaic.Lib.Claim

/-! The input projection (ideal form): the five conditions of the body, by the step. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- The condition of the first column step of a row of tiles. -/
abbrev cond1 (i : grid0.Coords) : Prop := (Scalar.cmpi .ne (Scalar.extui (Scalar.cmpi .eq (BitVec.ofNat 32 (i 1).val) 0#32)) 0#32) = 1#1

/-- Each condition of the body holds at exactly these steps. -/
theorem cond1_iff : ∀ t : Fin cfg0.N, cond1 (grid0.coords t) ↔ t.val % 20 = 0 :=
  (by decide +kernel : ∀ t : Fin grid0.N, cond1 (grid0.coords t) ↔ t.val % 20 = 0)
theorem cond2_iff : ∀ t : Fin cfg0.N, k0_cond2 (grid0.coords t) = 1#1 ↔ t.val % 20 < 3 :=
  (by decide +kernel : ∀ t : Fin grid0.N, k0_cond2 (grid0.coords t) = 1#1 ↔ t.val % 20 < 3)
theorem cond3_iff : ∀ t : Fin cfg0.N, k0_cond3 (grid0.coords t) = 1#1 ↔ t.val % 20 = 3 :=
  (by decide +kernel : ∀ t : Fin grid0.N, k0_cond3 (grid0.coords t) = 1#1 ↔ t.val % 20 = 3)
theorem cond4_iff : ∀ t : Fin cfg0.N, k0_cond4 (grid0.coords t) = 1#1 ↔ 3 < t.val % 20 :=
  (by decide +kernel : ∀ t : Fin grid0.N, k0_cond4 (grid0.coords t) = 1#1 ↔ 3 < t.val % 20)
theorem cond5_iff : ∀ t : Fin cfg0.N, k0_cond5 (grid0.coords t) = 1#1 ↔ t.val % 20 = 19 :=
  (by decide +kernel : ∀ t : Fin grid0.N, k0_cond5 (grid0.coords t) = 1#1 ↔ t.val % 20 = 19)
/-- Where a column step of the gated product stores its tile. -/
theorem off1_eq : ∀ t : Fin cfg0.N, 3 < t.val % 20 → k0_off1 (grid0.coords t) = ![t.val % 20 - 4, 0, 0] :=
  (by decide +kernel : ∀ t : Fin grid0.N, 3 < t.val % 20 → k0_off1 (grid0.coords t) = ![t.val % 20 - 4, 0, 0])

end Cert.Proof.InI

end
-- ==== Proof.InIVal.lean ====
module

public import proofs.«01_k».proof.Proof.Gen.InProjIdeal.Frame
public import proofs.«01_k».proof.Proof.Gen.InProjIdeal.Skeleton
public import Idealize.ShloMosaic.Lib.Claim
public import Idealize.ShloMosaic.Lib.WritesUnit
public import Idealize.ShloMosaic.Lib.Pipeline.ValueKit
public import Idealize.ShloMosaic.Lib.Pointwise

/-! The input projection (ideal form): the values the body stores, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- The blocks a grid point reads for its product: the row tile of codes, four column blocks of the weights, and the
    scales of those columns. -/
structure Blocks (F : FTy → Type) [FloatOps F] where
  x : Vec F S512x12288 .fp8e4m3
  w0 : Vec F S12288x128 .fp8e4m3
  w1 : Vec F S12288x128 .fp8e4m3
  w2 : Vec F S12288x128 .fp8e4m3
  w3 : Vec F S12288x128 .fp8e4m3
  s0 : Vec F S1x128 .f32
  s1 : Vec F S1x128 .f32
  s2 : Vec F S1x128 .f32
  s3 : Vec F S1x128 .f32

/-- The four scaled column blocks of the product (the last one as the unscaled block and its scale). -/
def y0 (I : Blocks F) (X : Vec F S512x128 .f32) := k0_pay71 I.w0 I.w1 I.w2 I.w3 I.x X I.s0
/-- The second tile of columns. -/
def y1 (I : Blocks F) (X : Vec F S512x128 .f32) := k0_pay72 I.w0 I.w1 I.w2 I.w3 I.x X I.s1
/-- The third tile of columns. -/
def y2 (I : Blocks F) (X : Vec F S512x128 .f32) := k0_pay73 I.w0 I.w1 I.w2 I.w3 I.x X I.s2
/-- The fourth tile of columns, before its column scale. -/
def y3u (I : Blocks F) (X : Vec F S512x128 .f32) := k0_pay74 I.w0 I.w1 I.w2 I.w3 I.x X
/-- The scale of the fourth tile of columns. -/
def y3s (I : Blocks F) := k0_pay75 I.s3

/-- The stores of the scale column: four quarters of the row of scales, each turned into a column block. -/
def xcolPieces (x5 : Vec F S1x512 .f32) : List (View.Piece (Elt F) S512x128 .f32) :=
  [⟨Rect.unit ![384, 0] S128x128.size inb_S512x128_S128x128_384_0, k0_pay69 (View.ld x5 (Rect.unit ![0, 384] S1x128.size inb_S1x512_S1x128_0_384))⟩,
   ⟨Rect.unit ![256, 0] S128x128.size inb_S512x128_S128x128_256_0, k0_pay68 (View.ld x5 (Rect.unit ![0, 256] S1x128.size inb_S1x512_S1x128_0_256))⟩,
   ⟨Rect.unit ![128, 0] S128x128.size inb_S512x128_S128x128_128_0, k0_pay67 (View.ld x5 (Rect.unit ![0, 128] S1x128.size inb_S1x512_S1x128_0_128))⟩,
   ⟨Rect.unit ![0, 0] S128x128.size inb_S512x128_S128x128_0_0, k0_pay66 (View.ld x5 (Rect.unit ![0, 0] S1x128.size inb_S1x512_S1x128_0_0))⟩]

/-- The scale column. -/
def xcol (x5 : Vec F S1x512 .f32) : Vec F S512x128 .f32 := View.canon (xcolPieces x5)

/-- The cosines and the sines, each laid along the lane pairs. -/
def cosq (cs sn : Vec F S64x512 .f32) := k0_pay14 cs sn
/-- The sine lanes for the heads. -/
def sinq (cs sn : Vec F S64x512 .f32) :=
  k0_pay17 (k0_pay13 cs sn) (iota Kind.tc S512x128 32 [1] iota_S512x128_d1_w32) (2#32) k0_pay15 k0_pay16 0#32
/-- The parity of the lanes for the heads. -/
def parq : IVec S512x128 32 := k0_pay18 (iota Kind.tc S512x128 32 [1] iota_S512x128_d1_w32)

/-- The stores of four heads. -/
def qPieces (I : Blocks F) (X : Vec F S512x128 .f32) (cs sn : Vec F S64x512 .f32) : List (View.Piece (Elt F) S4x512x128 .bf16) :=
  [⟨Rect.unit ![3, 0, 0] ![1, 512, 128] inb_S4x512x128_S1x512x128_3_0_0, k0_pay2 (k0_pay25 (k0_pay1 (y3u I X) (y3s I)) (cosq cs sn)) (k0_pay26 (k0_pay1 (y3u I X) (y3s I)) (sinq cs sn) parq k0_pay19)⟩,
   ⟨Rect.unit ![2, 0, 0] S1x512x128.size inb_S4x512x128_S1x512x128_2_0_0, k0_pay24 (y2 I X) (cosq cs sn) (sinq cs sn) parq k0_pay19⟩,
   ⟨Rect.unit ![1, 0, 0] S1x512x128.size inb_S4x512x128_S1x512x128_1_0_0, k0_pay23 (y1 I X) (cosq cs sn) (sinq cs sn) parq k0_pay19⟩,
   ⟨Rect.unit ![0, 0, 0] S1x512x128.size inb_S4x512x128_S1x512x128_0_0_0, k0_pay22 (y0 I X) (cosq cs sn) (sinq cs sn) parq k0_pay19⟩]

/-- The block of four heads. -/
def qBlk (I : Blocks F) (X : Vec F S512x128 .f32) (cs sn : Vec F S64x512 .f32) : Vec F S4x512x128 .bf16 := View.canon (qPieces I X cs sn)

/-- The cosines, sines and lane parities as the key's step computes them. -/
def cosk (cs sn : Vec F S64x512 .f32) := k0_pay28 cs sn
/-- The sine lanes for the key. -/
def sink (cs sn : Vec F S64x512 .f32) :=
  k0_pay31 (k0_pay27 cs sn) (iota Kind.tc S512x128 32 [1] iota_S512x128_d1_w32) (2#32) k0_pay29 k0_pay30 0#32
/-- The parity of the lanes for the key. -/
def park : IVec S512x128 32 := k0_pay32 (iota Kind.tc S512x128 32 [1] iota_S512x128_d1_w32)

/-- The codes of the key and of the value, the key's codes transposed and the value's codes widened. -/
def kBlk (I : Blocks F) (X : Vec F S512x128 .f32) (cs sn : Vec F S64x512 .f32) (ks : Vec F S1 .f32) : Vec F S512x128 .fp8e4m3 :=
  k0_pay34 (y0 I X) (cosk cs sn) (sink cs sn) park k0_pay33 (ks (Shape.Idx.first (numel1_S1.ge)))
/-- The value codes of a row tile. -/
def vBlk (I : Blocks F) (X : Vec F S512x128 .f32) (vs : Vec F S1 .f32) : Vec F S512x128 .fp8e4m3 :=
  k0_pay35 (y1 I X) (vs (Shape.Idx.first (numel1_S1.ge)))
/-- The key codes of a row tile, transposed. -/
def ktBlk (I : Blocks F) (X : Vec F S512x128 .f32) (cs sn : Vec F S64x512 .f32) (ks : Vec F S1 .f32) : Vec F S128x512 .bf16 :=
  k0_pay36 (y0 I X) (cosk cs sn) (sink cs sn) park k0_pay33 (ks (Shape.Idx.first (numel1_S1.ge)))
/-- The value codes of a row tile, widened. -/
def vbBlk (I : Blocks F) (X : Vec F S512x128 .f32) (vs : Vec F S1 .f32) : Vec F S512x128 .bf16 :=
  k0_pay37 (y1 I X) (vs (Shape.Idx.first (numel1_S1.ge)))

/-- The half tile of the gated product, and the magnitudes it starts the running maximum with. -/
def tail (I : Blocks F) (X : Vec F S512x128 .f32) : Vec F S1x512x128 .f32 := k0_pay4 (y2 I X) (y3u I X) (y3s I) (k0_pay38 (y2 I X))
/-- The running maximum at its first step. -/
def amax0 (I : Blocks F) (X : Vec F S512x128 .f32) : Vec F S512x128 .f32 := k0_pay5 (y2 I X) (y3u I X) (y3s I) (k0_pay38 (y2 I X))

/-- A full tile of the gated product, and the running maximum after it. -/
def hRow (I : Blocks F) (X : Vec F S512x128 .f32) : Vec F S1x512x256 .f32 := k0_pay8 (y0 I X) (y1 I X) (y2 I X) (y3u I X) (y3s I)
/-- The running maximum after a further step. -/
def amaxS (I : Blocks F) (X a : Vec F S512x128 .f32) : Vec F S512x128 .f32 := k0_pay9 (y0 I X) (y1 I X) (y2 I X) (y3u I X) (y3s I) a

/-- The scratch of gated products after a full tile is stored into row `k`. -/
def hPut (h : Vec F S17x512x256 .f32) (k : ℕ) (r : Vec F S1x512x256 .f32) : Vec F S17x512x256 .f32 :=
  fun y => if (y 0 : ℕ) = k then r (ix3 0 (y 1) (y 2)) else h y

/-- The scratch of gated products after the half tile is stored into the first half of row 16. -/
def hTail (h : Vec F S17x512x256 .f32) (r : Vec F S1x512x128 .f32) : Vec F S17x512x256 .f32 :=
  fun y => if hy : (y 0 : ℕ) = 16 ∧ (y 2 : ℕ) < 128 then r (ix3 0 (y 1) ⟨(y 2 : ℕ), hy.2⟩) else h y

/-- The stores of the row of output scales. -/
def hsPieces (a : Vec F S512x128 .f32) : List (View.Piece (Elt F) S1x512 .f32) :=
  [⟨Rect.unit ![0, 384] S1x128.size inb_S1x512_S1x128_0_384, k0_pay44 a⟩, ⟨Rect.unit ![0, 256] S1x128.size inb_S1x512_S1x128_0_256, k0_pay43 a⟩,
   ⟨Rect.unit ![0, 128] S1x128.size inb_S1x512_S1x128_0_128, k0_pay42 a⟩, ⟨Rect.unit ![0, 0] S1x128.size inb_S1x512_S1x128_0_0, k0_pay41 a⟩]

/-- The row of output scales. -/
def hsBlk (a : Vec F S512x128 .f32) : Vec F S1x512 .f32 := View.canon (hsPieces a)

/-- One row of the scratch, as it is loaded. -/
def hld (h : Vec F S17x512x256 .f32) (k : ℕ) (hk : ∀ a, (![k, 0, 0] : Fin 3 → ℕ) a + S1x512x256.size a ≤ S17x512x256.size a) : Vec F S1x512x256 .f32 :=
  View.ld h (Rect.unit ![k, 0, 0] S1x512x256.size hk)

/-- The stores of a row tile of output codes: the rows of the scratch, the last full tile `r15` taken as just computed. -/
def hqPieces (h : Vec F S17x512x256 .f32) (r15 : Vec F S1x512x256 .f32) (a : Vec F S512x128 .f32) : List (View.Piece (Elt F) S512x4224 .fp8e4m3) :=
  [⟨Rect.unit ![0, 4096] ![512, 128] inb_S512x4224_S512x128_0_4096, k0_pay12 (k0_pay45 a) (View.ld h (Rect.unit ![16, 0, 0] ![1, 512, 128] inb_S17x512x256_S1x512x128_16_0_0))⟩,
   ⟨Rect.unit ![0, 3840] ![512, 256] inb_S512x4224_S512x256_0_3840, k0_pay11 (k0_pay45 a) r15⟩,
   ⟨Rect.unit ![0, 3584] ![512, 256] inb_S512x4224_S512x256_0_3584, k0_pay10 (k0_pay45 a) (hld h 14 inb_S17x512x256_S1x512x256_14_0_0)⟩,
   ⟨Rect.unit ![0, 3328] S512x256.size inb_S512x4224_S512x256_0_3328, k0_pay65 (k0_pay45 a) (hld h 13 inb_S17x512x256_S1x512x256_13_0_0)⟩,
   ⟨Rect.unit ![0, 3072] S512x256.size inb_S512x4224_S512x256_0_3072, k0_pay64 (k0_pay45 a) (hld h 12 inb_S17x512x256_S1x512x256_12_0_0)⟩,
   ⟨Rect.unit ![0, 2816] S512x256.size inb_S512x4224_S512x256_0_2816, k0_pay63 (k0_pay45 a) (hld h 11 inb_S17x512x256_S1x512x256_11_0_0)⟩,
   ⟨Rect.unit ![0, 2560] S512x256.size inb_S512x4224_S512x256_0_2560, k0_pay62 (k0_pay60 (k0_pay45 a) (hld h 10 inb_S17x512x256_S1x512x256_10_0_0)) k0_pay61⟩,
   ⟨Rect.unit ![0, 2304] S512x256.size inb_S512x4224_S512x256_0_2304, k0_pay59 (k0_pay45 a) (hld h 9 inb_S17x512x256_S1x512x256_9_0_0)⟩,
   ⟨Rect.unit ![0, 2048] S512x256.size inb_S512x4224_S512x256_0_2048, k0_pay58 (k0_pay45 a) (hld h 8 inb_S17x512x256_S1x512x256_8_0_0)⟩,
   ⟨Rect.unit ![0, 1792] S512x256.size inb_S512x4224_S512x256_0_1792, k0_pay57 (k0_pay55 (hld h 7 inb_S17x512x256_S1x512x256_7_0_0)) (k0_pay56 (k0_pay45 a))⟩,
   ⟨Rect.unit ![0, 1536] S512x256.size inb_S512x4224_S512x256_0_1536, k0_pay54 (k0_pay45 a) (hld h 6 inb_S17x512x256_S1x512x256_6_0_0)⟩,
   ⟨Rect.unit ![0, 1280] S512x256.size inb_S512x4224_S512x256_0_1280, k0_pay53 (k0_pay45 a) (hld h 5 inb_S17x512x256_S1x512x256_5_0_0)⟩,
   ⟨Rect.unit ![0, 1024] S512x256.size inb_S512x4224_S512x256_0_1024, k0_pay52 (k0_pay45 a) (hld h 4 inb_S17x512x256_S1x512x256_4_0_0)⟩,
   ⟨Rect.unit ![0, 768] S512x256.size inb_S512x4224_S512x256_0_768, k0_pay51 (k0_pay45 a) (hld h 3 inb_S17x512x256_S1x512x256_3_0_0)⟩,
   ⟨Rect.unit ![0, 512] S512x256.size inb_S512x4224_S512x256_0_512, k0_pay50 (k0_pay45 a) (hld h 2 inb_S17x512x256_S1x512x256_2_0_0)⟩,
   ⟨Rect.unit ![0, 256] S512x256.size inb_S512x4224_S512x256_0_256, k0_pay49 (k0_pay45 a) (hld h 1 inb_S17x512x256_S1x512x256_1_0_0)⟩,
   ⟨Rect.unit ![0, 0] S512x256.size inb_S512x4224_S512x256_0_0, k0_pay48 (k0_pay46 a (hld h 0 inb_S17x512x256_S1x512x256_0_0_0)) k0_pay47⟩]

/-- The row tile of output codes. -/
def hqBlk (h : Vec F S17x512x256 .f32) (r15 : Vec F S1x512x256 .f32) (a : Vec F S512x128 .f32) : Vec F S512x4224 .fp8e4m3 := View.canon (hqPieces h r15 a)

/-- A load of a whole buffer that one store filled. -/
theorem rc_whole (v : View sig .tc .vmem S512x128 .f32) (inb inb' : ∀ a, (![0, 0] : Fin 2 → ℕ) a + (![512, 128] : Fin 2 → ℕ) a ≤ S512x128.size a)
    (w : Vec F S512x128 .f32) :
    v.readCov [⟨Rect.unit (s := S512x128) ![0, 0] ![512, 128] inb, w⟩] (Rect.unit (s := S512x128) ![0, 0] ![512, 128] inb').toLoadRect = w := by
  funext j
  refine (congrFun (View.readCov_eq_canon' v _ _) j).trans ((View.read_writes_junk_apply_eq_canon v _ _).symm.trans ?_)
  refine View.read_writes_cons_unit_of_mem v _ inb w [] _ j rfl fun a => ?_
  show (![0, 0] : Fin 2 → ℕ) a + 1 * (j a).val = _
  rw [Nat.one_mul]

/-- A load of the row of the scratch that a store at computed offsets has just filled. -/
theorem rc_row (v : View sig .tc .vmem S17x512x256 .f32) (off : Fin 3 → ℕ) (inb : ∀ a, off a + (![1, 512, 256] : Fin 3 → ℕ) a ≤ S17x512x256.size a)
    (inb' : ∀ a, (![15, 0, 0] : Fin 3 → ℕ) a + (![1, 512, 256] : Fin 3 → ℕ) a ≤ S17x512x256.size a) (w : Vec F S1x512x256 .f32) (ho : off = ![15, 0, 0]) :
    v.readCov [⟨Rect.unit (s := S17x512x256) off ![1, 512, 256] inb, w⟩] (Rect.unit (s := S17x512x256) ![15, 0, 0] ![1, 512, 256] inb').toLoadRect = w := by
  funext j
  refine (congrFun (View.readCov_eq_canon' v _ _) j).trans ((View.read_writes_junk_apply_eq_canon v _ _).symm.trans ?_)
  refine View.read_writes_cons_unit_of_mem v _ inb w [] _ j ho fun a => ?_
  show (![15, 0, 0] : Fin 3 → ℕ) a + 1 * (j a).val = _
  rw [Nat.one_mul]

/-- A load of the scale column after its four stores. -/
theorem rc_xcol (v : View sig .tc .vmem S512x128 .f32) (inb : ∀ a, (![0, 0] : Fin 2 → ℕ) a + (![512, 128] : Fin 2 → ℕ) a ≤ S512x128.size a)
    (x5 : Vec F S1x512 .f32) :
    v.readCov (xcolPieces x5) (Rect.unit (s := S512x128) ![0, 0] ![512, 128] inb).toLoadRect = xcol x5 := by
  funext j
  refine (congrFun (View.readCov_eq_canon' v _ _) j).trans (congrArg (View.canon (xcolPieces x5)) (funext fun a => Fin.ext ?_))
  show (![0, 0] : Fin 2 → ℕ) a + 1 * (j a).val = _
  match a with
  | ⟨0, _⟩ => show 0 + 1 * (j 0).val = (j 0).val; omega
  | ⟨1, _⟩ => show 0 + 1 * (j 1).val = (j 1).val; omega

/-- A load of a one-element buffer. -/
theorem ld_one (x : Vec F S1 .f32) (inb : ∀ a, (![0] : Fin 1 → ℕ) a + (![1] : Fin 1 → ℕ) a ≤ S1.size a) :
    View.ld x (Rect.unit (s := S1) ![0] ![1] inb) = x :=
  View.ld_unit_lit (S := S1) inb x (by decide)

/-- The pieces of each store cover its block. -/
theorem xcol_cover (x5 : Vec F S1x512 .f32) : ∀ y : S512x128.Idx, ∃ p ∈ xcolPieces x5, y ∈ p.1.set :=
  View.cover_of_tiledL (xcolPieces x5) ![128, 128] (by sl_kernel_rfl)
theorem q_cover (I : Blocks F) (X : Vec F S512x128 .f32) (cs sn : Vec F S64x512 .f32) : ∀ y : S4x512x128.Idx, ∃ p ∈ qPieces I X cs sn, y ∈ p.1.set :=
  View.cover_of_tiledL (qPieces I X cs sn) ![1, 512, 128] (by sl_kernel_rfl)
theorem hs_cover (a : Vec F S512x128 .f32) : ∀ y : S1x512.Idx, ∃ p ∈ hsPieces a, y ∈ p.1.set :=
  View.cover_of_tiledL (hsPieces a) ![1, 128] (by sl_kernel_rfl)
theorem hq_cover (h : Vec F S17x512x256 .f32) (r15 : Vec F S1x512x256 .f32) (a : Vec F S512x128 .f32) : ∀ y : S512x4224.Idx, ∃ p ∈ hqPieces h r15 a, y ∈ p.1.set :=
  View.cover_of_tiledBy (hqPieces h r15 a) ![512, 128] (by sl_kernel_rfl)

end Cert.Proof.InI

end
-- ==== Proof.InIDat.lean ====
module

public import proofs.«01_k».proof.Proof.InICond
public import proofs.«01_k».proof.Proof.InIVal
public import proofs.«01_k».proof.Proof.Gen.InProjIdeal.Points
public import Idealize.ShloMosaic.Lib.Pipeline.TableIdle

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point of a position. -/
def pt (n : ℕ) : Fin cfg0.N := ⟨n % 560, lt_of_lt_of_eq (Nat.mod_lt _ (by norm_num)) (show 560 = cfg0.N from N_0.symm)⟩

/-- A point is the one of its position. -/
theorem pt_val (t : Fin cfg0.N) : pt t.val = t :=
  Fin.ext (Nat.mod_eq_of_lt (lt_of_lt_of_eq t.isLt (show cfg0.N = 560 from N_0)))

/-- The blocks of a point's product. -/
def Bk (c : Dev nD) (t : Fin cfg0.N) : Blocks F :=
  ⟨iblk m c 2 t, iblk m c 4 t, iblk m c 5 t, iblk m c 6 t, iblk m c 7 t, iblk m c 8 t, iblk m c 9 t, iblk m c 10 t, iblk m c 11 t⟩

/-- The scale column after a position: laid out at the first step of a row of tiles, then kept. -/
def xAt (c : Dev nD) : ℕ → Vec F S512x128 .f32
  | 0 => xcol (iblk m c 3 (pt 0))
  | n + 1 => if (n + 1) % 20 = 0 then xcol (iblk m c 3 (pt (n + 1))) else xAt c n

/-- The running maximum after a position (from the fourth step of a row of tiles on). -/
def aAt (c : Dev nD) : ℕ → Vec F S512x128 .f32
  | 0 => View.canon []
  | n + 1 => if (n + 1) % 20 = 3 then amax0 (Bk m c (pt (n + 1))) (xAt m c (n + 1))
    else amaxS (Bk m c (pt (n + 1))) (xAt m c (n + 1)) (aAt c n)

/-- The scratch of gated products after a position, where it has been stored. -/
def hAt (c : Dev nD) : ℕ → Vec F S17x512x256 .f32
  | 0 => View.canon []
  | n + 1 => if (n + 1) % 20 = 3 then hTail (hAt c n) (tail (Bk m c (pt (n + 1))) (xAt m c (n + 1)))
    else if 3 < (n + 1) % 20 then hPut (hAt c n) ((n + 1) % 20 - 4) (hRow (Bk m c (pt (n + 1))) (xAt m c (n + 1)))
    else hAt c n

/-- Where the scratch of gated products has been stored by step `r` of a row of tiles. -/
def Stored (r : ℕ) (y : S17x512x256.Idx) : Prop := (3 ≤ r ∧ (y 0 : ℕ) = 16 ∧ (y 2 : ℕ) < 128) ∨ (y 0 : ℕ) + 4 ≤ r

/-- What the three scratch buffers hold after a position. -/
def Inv (c : Dev nD) (n : ℕ) (h : Vec F S17x512x256 .f32) (a x : Vec F S512x128 .f32) : Prop :=
  x = xAt m c n ∧ (3 ≤ n % 20 → a = aAt m c n) ∧ ∀ y, Stored (n % 20) y → h y = hAt m c n y

/-- The invariant after the first step of a row of tiles. -/
theorem inv_A (c : Dev nD) (t : Fin cfg0.N) (ht : t.val % 20 = 0) (h : Vec F S17x512x256 .f32) (a : Vec F S512x128 .f32) :
    Inv m c t.val h a (xcol (iblk m c 3 t)) := by
  refine ⟨?_, fun h3 => by omega, fun y hy => by rcases hy with h1 | h1 <;> omega⟩
  obtain ⟨n, hn⟩ := t
  cases n with
  | zero => exact congrArg (fun s => xcol (iblk m c 3 s)) (pt_val ⟨0, hn⟩).symm
  | succ n => unfold xAt; rw [if_pos ht]; exact congrArg (fun s => xcol (iblk m c 3 s)) (pt_val ⟨n + 1, hn⟩).symm

/-- The scale column stays within a row of tiles. -/
theorem xAt_succ (c : Dev nD) (n : ℕ) (h : ¬(n + 1) % 20 = 0) : xAt m c (n + 1) = xAt m c n := by
  conv_lhs => unfold xAt
  rw [if_neg h]

/-- It is kept by the other query steps. -/
theorem inv_B (c : Dev nD) (n : ℕ) (h0 : ¬(n + 1) % 20 = 0) (h1 : (n + 1) % 20 < 3) {h : Vec F S17x512x256 .f32} {a x : Vec F S512x128 .f32}
    (hi : Inv m c n h a x) : Inv m c (n + 1) h a x :=
  ⟨hi.1.trans (xAt_succ m c n h0).symm, fun h3 => by omega, fun y hy => by rcases hy with h1 | h1 <;> omega⟩

/-- It is kept by the step of the key and the value. -/
theorem inv_C (c : Dev nD) (n : ℕ) (hn : n + 1 < cfg0.N) (h0 : (n + 1) % 20 = 3) {h : Vec F S17x512x256 .f32} {a x : Vec F S512x128 .f32}
    (hi : Inv m c n h a x) : Inv m c (n + 1) (hTail h (tail (Bk m c ⟨n + 1, hn⟩) x)) (amax0 (Bk m c ⟨n + 1, hn⟩) x) x := by
  have hx := hi.1.trans (xAt_succ m c n (by omega)).symm
  have hp := pt_val ⟨n + 1, hn⟩
  dsimp only at hp
  refine ⟨hx, fun _ => ?_, fun y hy => ?_⟩
  · unfold aAt; rw [if_pos h0, hp, hx]
  · rcases hy with h1 | h1
    · unfold hAt; rw [if_pos h0, hp, hx]; unfold hTail; rw [dif_pos h1.2, dif_pos h1.2]
    · omega

/-- It is kept by a step of the gated product. -/
theorem inv_D (c : Dev nD) (n : ℕ) (hn : n + 1 < cfg0.N) (h0 : 3 < (n + 1) % 20) {h : Vec F S17x512x256 .f32} {a x : Vec F S512x128 .f32}
    (hi : Inv m c n h a x) :
    Inv m c (n + 1) (hPut h ((n + 1) % 20 - 4) (hRow (Bk m c ⟨n + 1, hn⟩) x)) (amaxS (Bk m c ⟨n + 1, hn⟩) x a) x := by
  have hx := hi.1.trans (xAt_succ m c n (by omega)).symm
  have hp := pt_val ⟨n + 1, hn⟩
  dsimp only at hp
  refine ⟨hx, fun _ => ?_, fun y hy => ?_⟩
  · unfold aAt; rw [if_neg (by omega), hp, ← hi.2.1 (by omega), hx]
  · conv_rhs => unfold hAt
    rw [if_neg (by omega), if_pos h0, hp, hx]; unfold hPut
    by_cases hy0 : (y 0 : ℕ) = (n + 1) % 20 - 4
    · rw [if_pos hy0, if_pos hy0]
    · rw [if_neg hy0, if_neg hy0]
      refine hi.2.2 y ?_
      rcases hy with h1 | h1
      · exact Or.inl ⟨by omega, h1.2⟩
      · exact Or.inr (by omega)

/-- The row tile of output codes reads the scratch only where it has been stored. -/
theorem hqBlk_congr (h h' : Vec F S17x512x256 .f32) (r15 : Vec F S1x512x256 .f32) (a : Vec F S512x128 .f32)
    (hh : ∀ y, Stored 18 y → h y = h' y) : hqBlk h r15 a = hqBlk h' r15 a := by
  have hrow : ∀ (k : ℕ) (hk : ∀ a, (![k, 0, 0] : Fin 3 → ℕ) a + S1x512x256.size a ≤ S17x512x256.size a), k ≤ 14 → hld h k hk = hld h' k hk := by
    intro k hk h14
    funext j
    refine hh _ (Or.inr ?_)
    have : (j 0).val < 1 := (j 0).isLt
    show k + 1 * (j 0).val + 4 ≤ 18
    omega
  have htl : View.ld h (Rect.unit ![16, 0, 0] ![1, 512, 128] inb_S17x512x256_S1x512x128_16_0_0)
      = View.ld h' (Rect.unit ![16, 0, 0] ![1, 512, 128] inb_S17x512x256_S1x512x128_16_0_0) := by
    funext j
    refine hh _ (Or.inl ⟨by norm_num, ?_, ?_⟩)
    · have : (j 0).val < 1 := (j 0).isLt
      show 16 + 1 * (j 0).val = 16
      omega
    · have : (j 2).val < 128 := (j 2).isLt
      show 0 + 1 * (j 2).val < 128
      omega
  unfold hqBlk hqPieces
  rw [htl, hrow 0 _ (by norm_num), hrow 1 _ (by norm_num), hrow 2 _ (by norm_num), hrow 3 _ (by norm_num), hrow 4 _ (by norm_num), hrow 5 _ (by norm_num), hrow 6 _ (by norm_num), hrow 7 _ (by norm_num), hrow 8 _ (by norm_num), hrow 9 _ (by norm_num), hrow 10 _ (by norm_num), hrow 11 _ (by norm_num), hrow 12 _ (by norm_num), hrow 13 _ (by norm_num), hrow 14 _ (by norm_num)]

/-- The last step of the heads, and the step of the key, in the row of tiles of a position. -/
def lastq (n : ℕ) : ℕ := n - (n % 20 - 2)
/-- The step of the key in the row of tiles. -/
def keyq (n : ℕ) : ℕ := n / 20 * 20 + 3

/-- What the outputs' buffers hold after a point. -/
def qAt (c : Dev nD) (n : ℕ) : Vec F S4x512x128 .bf16 :=
  qBlk (Bk m c (pt (lastq n))) (xAt m c (lastq n)) (iblk m c 12 (pt (lastq n))) (iblk m c 13 (pt (lastq n)))
/-- The key codes. -/
def kAt (c : Dev nD) (n : ℕ) : Vec F S512x128 .fp8e4m3 :=
  kBlk (Bk m c (pt (keyq n))) (xAt m c (keyq n)) (iblk m c 12 (pt (keyq n))) (iblk m c 13 (pt (keyq n))) (iblk m c 0 (pt (keyq n)))
/-- The value codes. -/
def vAt (c : Dev nD) (n : ℕ) : Vec F S512x128 .fp8e4m3 :=
  vBlk (Bk m c (pt (keyq n))) (xAt m c (keyq n)) (iblk m c 1 (pt (keyq n)))
/-- The key codes, transposed. -/
def ktAt (c : Dev nD) (n : ℕ) : Vec F S128x512 .bf16 :=
  ktBlk (Bk m c (pt (keyq n))) (xAt m c (keyq n)) (iblk m c 12 (pt (keyq n))) (iblk m c 13 (pt (keyq n))) (iblk m c 0 (pt (keyq n)))
/-- The value codes, widened. -/
def vbAt (c : Dev nD) (n : ℕ) : Vec F S512x128 .bf16 :=
  vbBlk (Bk m c (pt (keyq n))) (xAt m c (keyq n)) (iblk m c 1 (pt (keyq n)))
/-- The codes of the gated half. -/
def hqAt (c : Dev nD) (n : ℕ) : Vec F S512x4224 .fp8e4m3 :=
  hqBlk (hAt m c (n - 1)) (hRow (Bk m c (pt n)) (xAt m c n)) (aAt m c n)
/-- The scales of the gated half. -/
def hsAt (c : Dev nD) (n : ℕ) : Vec F S1x512 .f32 := hsBlk (aAt m c n)

/-- The scratch buffers. -/
abbrev scM0_0 : Memref sig .tc .vmem S17x512x256 .f32 := Memref.whole cc0_scratch0
abbrev scM0_1 : Memref sig .tc .vmem S512x128 .f32 := Memref.whole cc0_scratch1
abbrev scM0_2 : Memref sig .tc .vmem S512x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant between points: at first every scratch at anything; afterwards as `Inv` says. -/
def PhiS (c : Dev nD) : (n : ℕ) → n ≤ cfg0.N → sProp 𝕄
  | 0, _ => Pipeline.ΦA spec0 c
  | n + 1, _ => iprop(∃ h a x, ⌜Inv m c n h a x⌝ ∗ owns (c : Thread nD τ) scM0_0 fullShare h ∗ owns (c : Thread nD τ) scM0_1 fullShare a ∗ owns (c : Thread nD τ) scM0_2 fullShare x ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(∃ h a x, ⌜Inv m c n h a x⌝ ∗ owns (c : Thread nD τ) scM0_0 fullShare h ∗ owns (c : Thread nD τ) scM0_1 fullShare a ∗ owns (c : Thread nD τ) scM0_2 fullShare x ∗ (∃ r, prngReg c r)) := rfl

/-- Whatever the scratch holds, it holds something. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨%h, %a, %x, -, H0, H1, H2, Hg⟩
    isplitl [H0 H1 H2]
    · isplitl [H0]
      · iexists _; iexact H0
      isplitl [H1]
      · iexists _; iexact H1
      iexists _; iexact H2
    iexact Hg

/-- The proof data of the pipeline: the arrays as the region finds them; after the body at a point each input's buffer
    at its block and the outputs' as above; nothing owed; each input's share of the array it reads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => qAt m c t.val
    | ⟨15, _⟩ => kAt m c t.val
    | ⟨16, _⟩ => vAt m c t.val
    | ⟨17, _⟩ => ktAt m c t.val
    | ⟨18, _⟩ => vbAt m c t.val
    | ⟨19, _⟩ => hqAt m c t.val
    | ⟨20, _⟩ => hsAt m c t.val
    | ⟨_ + 21, h⟩ => absurd h (Nat.not_lt.2 (Nat.le_add_left _ _))
  Φ t := PhiS m c t.val (Nat.le_of_lt_succ t.isLt)
  q w := Pipeline.shareOf spec0 w
  owed _ := 0

/-- The arrays are as the region finds them. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each buffer, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = qAt m c t.val := by dsimp only [dats]
theorem after0_15 (c : Dev nD) (t : Fin cfg0.N) : (dats m 0 c).after 15 t = kAt m c t.val := by dsimp only [dats]
theorem after0_16 (c : Dev nD) (t : Fin cfg0.N) : (dats m 0 c).after 16 t = vAt m c t.val := by dsimp only [dats]
theorem after0_17 (c : Dev nD) (t : Fin cfg0.N) : (dats m 0 c).after 17 t = ktAt m c t.val := by dsimp only [dats]
theorem after0_18 (c : Dev nD) (t : Fin cfg0.N) : (dats m 0 c).after 18 t = vbAt m c t.val := by dsimp only [dats]
theorem after0_19 (c : Dev nD) (t : Fin cfg0.N) : (dats m 0 c).after 19 t = hqAt m c t.val := by dsimp only [dats]
theorem after0_20 (c : Dev nD) (t : Fin cfg0.N) : (dats m 0 c).after 20 t = hsAt m c t.val := by dsimp only [dats]
/-- What the body finds in each input buffer. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The idle points and the write-backs of the outputs, in the row of tiles -/

/-- When a window is idle and when it is written back, by the step. -/
theorem idle_14 : ∀ t : Fin cfg0.N, cfg0.idle 14 (cfg0.grid.coords t) = decide (3 ≤ t.val % 20) :=
  (by decide +kernel : ∀ t : Fin grid0.N, idle0 14 (grid0.coords t) = decide (3 ≤ t.val % 20))
theorem flush_14 : ∀ t : Fin cfg0.N, (cfg0.win 14).flush t = decide (t.val % 20 < 2 ∨ t.val % 20 = 19) :=
  (by decide +kernel : ∀ t : Fin grid0.N, win0_14.flush t = decide (t.val % 20 < 2 ∨ t.val % 20 = 19))
theorem idle_15 : ∀ t : Fin cfg0.N, cfg0.idle 15 (cfg0.grid.coords t) = decide (¬t.val % 20 = 3) :=
  (by decide +kernel : ∀ t : Fin grid0.N, idle0 15 (grid0.coords t) = decide (¬t.val % 20 = 3))
theorem idle_16 : ∀ t : Fin cfg0.N, cfg0.idle 16 (cfg0.grid.coords t) = decide (¬t.val % 20 = 3) :=
  (by decide +kernel : ∀ t : Fin grid0.N, idle0 16 (grid0.coords t) = decide (¬t.val % 20 = 3))
theorem idle_17 : ∀ t : Fin cfg0.N, cfg0.idle 17 (cfg0.grid.coords t) = decide (¬t.val % 20 = 3) :=
  (by decide +kernel : ∀ t : Fin grid0.N, idle0 17 (grid0.coords t) = decide (¬t.val % 20 = 3))
theorem idle_18 : ∀ t : Fin cfg0.N, cfg0.idle 18 (cfg0.grid.coords t) = decide (¬t.val % 20 = 3) :=
  (by decide +kernel : ∀ t : Fin grid0.N, idle0 18 (grid0.coords t) = decide (¬t.val % 20 = 3))
theorem idle_19 : ∀ t : Fin cfg0.N, cfg0.idle 19 (cfg0.grid.coords t) = decide (¬t.val % 20 = 19) :=
  (by decide +kernel : ∀ t : Fin grid0.N, idle0 19 (grid0.coords t) = decide (¬t.val % 20 = 19))
theorem idle_20 : ∀ t : Fin cfg0.N, cfg0.idle 20 (cfg0.grid.coords t) = decide (¬t.val % 20 = 19) :=
  (by decide +kernel : ∀ t : Fin grid0.N, idle0 20 (grid0.coords t) = decide (¬t.val % 20 = 19))
theorem flush_15 (t : Fin cfg0.N) : (cfg0.win 15).flush t = decide (t.val % 20 = 19) := by
  rw [Bool.eq_iff_iff, flush0_15, decide_eq_true_eq]
theorem flush_16 (t : Fin cfg0.N) : (cfg0.win 16).flush t = decide (t.val % 20 = 19) := by
  rw [Bool.eq_iff_iff, flush0_16, decide_eq_true_eq]
theorem flush_17 (t : Fin cfg0.N) : (cfg0.win 17).flush t = decide (t.val % 20 = 19) := by
  rw [Bool.eq_iff_iff, flush0_17, decide_eq_true_eq]
theorem flush_18 (t : Fin cfg0.N) : (cfg0.win 18).flush t = decide (t.val % 20 = 19) := by
  rw [Bool.eq_iff_iff, flush0_18, decide_eq_true_eq]
theorem flush_19 (t : Fin cfg0.N) : (cfg0.win 19).flush t = decide (t.val % 20 = 19) := by
  rw [Bool.eq_iff_iff, flush0_19, decide_eq_true_eq]
theorem flush_20 (t : Fin cfg0.N) : (cfg0.win 20).flush t = decide (t.val % 20 = 19) := by
  rw [Bool.eq_iff_iff, flush0_20, decide_eq_true_eq]

/-- When an output buffer has not been written since its last write-back. -/
theorem fresh_14 (n : ℕ) (h : n ≤ cfg0.N) : cfg0.fresh 14 n = decide (n % 20 ≤ 2) :=
  cfg0.fresh_tab 14 (fun n => decide (n % 20 ≤ 2)) (by decide)
    (fun t => by
      rw [idle_14, flush_14, Bool.eq_iff_iff]
      simp only [Bool.or_eq_true, Bool.and_eq_true, decide_eq_true_eq]
      omega) n h

/-- Past its stores in a row of tiles the output's buffer still holds what they left. -/
theorem kept_14 (c : Dev nD) (t : Fin cfg0.N) (ht : 2 < t.val % 20) (d) : (dats m 0 c).before 14 t d = (dats m 0 c).after 14 t := by
  have hc : ∀ (t : Fin cfg0.N), 2 < t.val % 20 → (dats m 0 c).after 14 t = (dats m 0 c).after 14 ⟨t.val - 1, by omega⟩ := by
    intro t ht
    rw [after0_14, after0_14]
    unfold qAt; rw [show lastq t.val = lastq (t.val - 1) from by unfold lastq; omega]
  rw [(dats m 0 c).before_out_traj 14 rfl (fun _ _ => rfl) (fun t ht0 hidle hfr => hc t (by
      rw [fresh_14 _ (Nat.le_of_lt t.isLt), decide_eq_false_iff_not] at hfr; omega)) t.val t rfl d,
    fresh_14 _ (Nat.le_of_lt t.isLt), if_neg (by rw [decide_eq_true_eq]; omega), ← hc t ht]

theorem fresh_15 (n : ℕ) (h : n ≤ cfg0.N) : cfg0.fresh 15 n = decide (n % 20 ≤ 3) :=
  cfg0.fresh_tab 15 (fun n => decide (n % 20 ≤ 3)) (by decide)
    (fun t => by
      rw [idle_15, flush_15, Bool.eq_iff_iff]
      simp only [Bool.or_eq_true, Bool.and_eq_true, decide_eq_true_eq]
      omega) n h

/-- Past its stores in a row of tiles the output's buffer still holds what they left. -/
theorem kept_15 (c : Dev nD) (t : Fin cfg0.N) (ht : 3 < t.val % 20) (d) : (dats m 0 c).before 15 t d = (dats m 0 c).after 15 t := by
  have hc : ∀ (t : Fin cfg0.N), 3 < t.val % 20 → (dats m 0 c).after 15 t = (dats m 0 c).after 15 ⟨t.val - 1, by omega⟩ := by
    intro t ht
    rw [after0_15, after0_15]
    unfold kAt; rw [show keyq t.val = keyq (t.val - 1) from by unfold keyq; omega]
  rw [(dats m 0 c).before_out_traj 15 rfl (fun _ _ => rfl) (fun t ht0 hidle hfr => hc t (by
      rw [fresh_15 _ (Nat.le_of_lt t.isLt), decide_eq_false_iff_not] at hfr; omega)) t.val t rfl d,
    fresh_15 _ (Nat.le_of_lt t.isLt), if_neg (by rw [decide_eq_true_eq]; omega), ← hc t ht]

theorem fresh_16 (n : ℕ) (h : n ≤ cfg0.N) : cfg0.fresh 16 n = decide (n % 20 ≤ 3) :=
  cfg0.fresh_tab 16 (fun n => decide (n % 20 ≤ 3)) (by decide)
    (fun t => by
      rw [idle_16, flush_16, Bool.eq_iff_iff]
      simp only [Bool.or_eq_true, Bool.and_eq_true, decide_eq_true_eq]
      omega) n h

/-- Past its stores in a row of tiles the output's buffer still holds what they left. -/
theorem kept_16 (c : Dev nD) (t : Fin cfg0.N) (ht : 3 < t.val % 20) (d) : (dats m 0 c).before 16 t d = (dats m 0 c).after 16 t := by
  have hc : ∀ (t : Fin cfg0.N), 3 < t.val % 20 → (dats m 0 c).after 16 t = (dats m 0 c).after 16 ⟨t.val - 1, by omega⟩ := by
    intro t ht
    rw [after0_16, after0_16]
    unfold vAt; rw [show keyq t.val = keyq (t.val - 1) from by unfold keyq; omega]
  rw [(dats m 0 c).before_out_traj 16 rfl (fun _ _ => rfl) (fun t ht0 hidle hfr => hc t (by
      rw [fresh_16 _ (Nat.le_of_lt t.isLt), decide_eq_false_iff_not] at hfr; omega)) t.val t rfl d,
    fresh_16 _ (Nat.le_of_lt t.isLt), if_neg (by rw [decide_eq_true_eq]; omega), ← hc t ht]

theorem fresh_17 (n : ℕ) (h : n ≤ cfg0.N) : cfg0.fresh 17 n = decide (n % 20 ≤ 3) :=
  cfg0.fresh_tab 17 (fun n => decide (n % 20 ≤ 3)) (by decide)
    (fun t => by
      rw [idle_17, flush_17, Bool.eq_iff_iff]
      simp only [Bool.or_eq_true, Bool.and_eq_true, decide_eq_true_eq]
      omega) n h

/-- Past its stores in a row of tiles the output's buffer still holds what they left. -/
theorem kept_17 (c : Dev nD) (t : Fin cfg0.N) (ht : 3 < t.val % 20) (d) : (dats m 0 c).before 17 t d = (dats m 0 c).after 17 t := by
  have hc : ∀ (t : Fin cfg0.N), 3 < t.val % 20 → (dats m 0 c).after 17 t = (dats m 0 c).after 17 ⟨t.val - 1, by omega⟩ := by
    intro t ht
    rw [after0_17, after0_17]
    unfold ktAt; rw [show keyq t.val = keyq (t.val - 1) from by unfold keyq; omega]
  rw [(dats m 0 c).before_out_traj 17 rfl (fun _ _ => rfl) (fun t ht0 hidle hfr => hc t (by
      rw [fresh_17 _ (Nat.le_of_lt t.isLt), decide_eq_false_iff_not] at hfr; omega)) t.val t rfl d,
    fresh_17 _ (Nat.le_of_lt t.isLt), if_neg (by rw [decide_eq_true_eq]; omega), ← hc t ht]

theorem fresh_18 (n : ℕ) (h : n ≤ cfg0.N) : cfg0.fresh 18 n = decide (n % 20 ≤ 3) :=
  cfg0.fresh_tab 18 (fun n => decide (n % 20 ≤ 3)) (by decide)
    (fun t => by
      rw [idle_18, flush_18, Bool.eq_iff_iff]
      simp only [Bool.or_eq_true, Bool.and_eq_true, decide_eq_true_eq]
      omega) n h

/-- Past its stores in a row of tiles the output's buffer still holds what they left. -/
theorem kept_18 (c : Dev nD) (t : Fin cfg0.N) (ht : 3 < t.val % 20) (d) : (dats m 0 c).before 18 t d = (dats m 0 c).after 18 t := by
  have hc : ∀ (t : Fin cfg0.N), 3 < t.val % 20 → (dats m 0 c).after 18 t = (dats m 0 c).after 18 ⟨t.val - 1, by omega⟩ := by
    intro t ht
    rw [after0_18, after0_18]
    unfold vbAt; rw [show keyq t.val = keyq (t.val - 1) from by unfold keyq; omega]
  rw [(dats m 0 c).before_out_traj 18 rfl (fun _ _ => rfl) (fun t ht0 hidle hfr => hc t (by
      rw [fresh_18 _ (Nat.le_of_lt t.isLt), decide_eq_false_iff_not] at hfr; omega)) t.val t rfl d,
    fresh_18 _ (Nat.le_of_lt t.isLt), if_neg (by rw [decide_eq_true_eq]; omega), ← hc t ht]

end Cert.Proof.InI

end
-- ==== Proof.InIStep.lean ====
module

public import proofs.«01_k».proof.Proof.InIDat

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)) ∗ (∃ d, owns (c : Thread nD τ) (st0_19 t) fullShare ((dats m 0 c).before 19 t d)) ∗ (∃ d, owns (c : Thread nD τ) (st0_20 t) fullShare ((dats m 0 c).before 20 t d)))

/-- What the body leaves in an output's buffer. -/
def leave (c : Dev nD) (t : Fin cfg0.N) (w : Fin cfg0.W) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

/-- A step that writes a window leaves its value. -/
theorem leave_of (c : Dev nD) (t : Fin cfg0.N) (w : Fin cfg0.W) (h : cfg0.idle w (cfg0.grid.coords t) = false)
    (X : (cfg0.win w).block.Idx → Elt F (cfg0.win w).elt) (hX : X = (dats m 0 c).after w t) :
    owns (c : Thread nD τ) ((cfg0.win w).stage (cfg0.slots t w)) fullShare X ⊢ leave m c t w := by
  subst hX; unfold leave; rw [h]

/-- A step that does not write a window leaves what was there. -/
theorem leave_keep (c : Dev nD) (t : Fin cfg0.N) (w : Fin cfg0.W) (h : cfg0.idle w (cfg0.grid.coords t) = true)
    (hk : (cfg0.win w).flush t = true → ∀ d, (dats m 0 c).before w t d = (dats m 0 c).after w t) (d) :
    owns (c : Thread nD τ) ((cfg0.win w).stage (cfg0.slots t w)) fullShare ((dats m 0 c).before w t d) ⊢ leave m c t w := by
  unfold leave; rw [h]; dsimp only
  cases hf : (cfg0.win w).flush t with
  | false => dsimp only; iintro H; iexists d; iexact H
  | true => dsimp only; rw [hk hf d]

/-- What the body leaves at a point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t)
    ∗ leave m c t 14 ∗ leave m c t 15 ∗ leave m c t 16 ∗ leave m c t 17 ∗ leave m c t 18 ∗ leave m c t 19 ∗ leave m c t 20)

/-- The invariant at a point past the first of a row of tiles. -/
theorem PhiS_pos (c : Dev nD) (t : Fin cfg0.N) (h0 : ¬t.val % 20 = 0) :
    (dats m 0 c).Φ t.castSucc = iprop(∃ h a x, ⌜Inv m c (t.val - 1) h a x⌝ ∗ owns (c : Thread nD τ) scM0_0 fullShare h ∗ owns (c : Thread nD τ) scM0_1 fullShare a ∗ owns (c : Thread nD τ) scM0_2 fullShare x ∗ (∃ r, prngReg c r)) := by
  rw [PhiS_castSucc]
  obtain ⟨n, hn⟩ := t
  cases n with
  | zero => exact absurd rfl h0
  | succ n => exact PhiS_succ m c n (Nat.lt_of_succ_lt hn)

/-- The invariant over one of the other query steps. -/
theorem stepB (c : Dev nD) (t : Fin cfg0.N) (h0 : ¬t.val % 20 = 0) (h1 : t.val % 20 < 3) {h : Vec F S17x512x256 .f32} {a x : Vec F S512x128 .f32}
    (hi : Inv m c (t.val - 1) h a x) : Inv m c t.val h a x := by
  obtain ⟨n, hn⟩ := t
  cases n with
  | zero => exact absurd rfl h0
  | succ n => exact inv_B m c n h0 h1 hi

/-- The invariant over the step of the key. -/
theorem stepC (c : Dev nD) (t : Fin cfg0.N) (h0 : t.val % 20 = 3) {h : Vec F S17x512x256 .f32} {a x : Vec F S512x128 .f32}
    (hi : Inv m c (t.val - 1) h a x) : Inv m c t.val (hTail h (tail (Bk m c t) x)) (amax0 (Bk m c t) x) x := by
  obtain ⟨n, hn⟩ := t
  cases n with
  | zero => exact absurd h0 (by norm_num)
  | succ n => exact inv_C m c n hn h0 hi

/-- The invariant over a step of the gated product. -/
theorem stepD (c : Dev nD) (t : Fin cfg0.N) (h0 : 3 < t.val % 20) {h : Vec F S17x512x256 .f32} {a x : Vec F S512x128 .f32}
    (hi : Inv m c (t.val - 1) h a x) :
    Inv m c t.val (hPut h (t.val % 20 - 4) (hRow (Bk m c t) x)) (amaxS (Bk m c t) x a) x := by
  obtain ⟨n, hn⟩ := t
  cases n with
  | zero => exact absurd h0 (by norm_num)
  | succ n => exact inv_D m c n hn h0 hi

/-! ## What a step stores is what the proof data say -/

/-- Each block a step computes is the one named after its position. -/
theorem q_eq (c : Dev nD) (t : Fin cfg0.N) (ht : t.val % 20 < 3) {x : Vec F S512x128 .f32} (hx : x = xAt m c t.val) :
    qBlk (Bk m c t) x (iblk m c 12 t) (iblk m c 13 t) = qAt m c t.val := by
  unfold qAt
  rw [show lastq t.val = t.val from by unfold lastq; omega, pt_val, hx]

theorem keyq_self (t : ℕ) (ht : t % 20 = 3) : keyq t = t := by unfold keyq; omega

theorem k_eq (c : Dev nD) (t : Fin cfg0.N) (ht : t.val % 20 = 3) {x : Vec F S512x128 .f32} (hx : x = xAt m c t.val) :
    kBlk (Bk m c t) x (iblk m c 12 t) (iblk m c 13 t) (iblk m c 0 t) = kAt m c t.val := by
  unfold kAt; rw [keyq_self t.val ht, pt_val, hx]
theorem v_eq (c : Dev nD) (t : Fin cfg0.N) (ht : t.val % 20 = 3) {x : Vec F S512x128 .f32} (hx : x = xAt m c t.val) :
    vBlk (Bk m c t) x (iblk m c 1 t) = vAt m c t.val := by
  unfold vAt; rw [keyq_self t.val ht, pt_val, hx]
theorem kt_eq (c : Dev nD) (t : Fin cfg0.N) (ht : t.val % 20 = 3) {x : Vec F S512x128 .f32} (hx : x = xAt m c t.val) :
    ktBlk (Bk m c t) x (iblk m c 12 t) (iblk m c 13 t) (iblk m c 0 t) = ktAt m c t.val := by
  unfold ktAt; rw [keyq_self t.val ht, pt_val, hx]
theorem vb_eq (c : Dev nD) (t : Fin cfg0.N) (ht : t.val % 20 = 3) {x : Vec F S512x128 .f32} (hx : x = xAt m c t.val) :
    vbBlk (Bk m c t) x (iblk m c 1 t) = vbAt m c t.val := by
  unfold vbAt; rw [keyq_self t.val ht, pt_val, hx]
theorem hq_eq (c : Dev nD) (t : Fin cfg0.N) (ht : t.val % 20 = 19) {h : Vec F S17x512x256 .f32} {a x : Vec F S512x128 .f32}
    (hi : Inv m c (t.val - 1) h a x) : hqBlk h (hRow (Bk m c t) x) (amaxS (Bk m c t) x a) = hqAt m c t.val := by
  have hd := stepD m c t (by omega) hi
  unfold hqAt
  rw [pt_val, ← hd.2.1 (by omega), ← hd.1]
  exact hqBlk_congr _ _ _ _ fun y hy => hi.2.2 y (by rw [show (t.val - 1) % 20 = 18 from by omega]; exact hy)
theorem hs_eq (c : Dev nD) (t : Fin cfg0.N) (ht : t.val % 20 = 19) {h : Vec F S17x512x256 .f32} {a x : Vec F S512x128 .f32}
    (hi : Inv m c (t.val - 1) h a x) : hsBlk (amaxS (Bk m c t) x a) = hsAt m c t.val := by
  have hd := stepD m c t (by omega) hi
  unfold hsAt; rw [hd.2.1 (by omega)]

end Cert.Proof.InI

end
-- ==== Proof.InIRunA.lean ====
module

public import proofs.«01_k».proof.Proof.InICond

/-! The input projection (ideal form): the run of the body at the first step. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

set_option maxHeartbeats 4000000 in
/-- The body at the first column step of a row of tiles (the scale column is loaded, four heads are stored): run on whole buffers, it ends with every buffer it reads as it was and every
    buffer it stores into with some pieces written, last first; the pieces are found by the run. -/
noncomputable def bodyRun_A (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    Σ' (L16 : List (View.Piece (Elt F) S4x512x128 .bf16)), { L25 : List (View.Piece (Elt F) S512x128 .f32) //
      ∀ (E : Set ℕ) (K : PUnit → sProp 𝕄),
        iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg25 fullShare d)
            ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ f, arg16.view.loc (c : Thread nD τ) ↦[arg16.view.set]{fullShare} arg16.view.writes (Elt F) f L16) ∗ (∃ f, arg25.view.loc (c : Thread nD τ) ↦[arg25.view.set]{fullShare} arg25.view.writes (Elt F) f L25)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_in_proj_eq_skeleton]; unfold cc0_in_proj_skel
    simp only [k0_part12_eq_skeleton, k0_part1_eq_skeleton, k0_part2_eq_skeleton, k0_part3_eq_skeleton]
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d25, %f25, -, H25⟩, Hk⟩
    obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]; · iexists _; iexact H16
    iexists _; iexact H25

end Cert.Proof.InI

end
-- ==== Proof.InISpecA.lean ====
module

public import proofs.«01_k».proof.Proof.InIVal
public import proofs.«01_k».proof.Proof.InIRunA

/-! The input projection (ideal form): what the first step leaves, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- What a load of a whole buffer reads. -/
theorem rdA {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listA_16 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15).1 = qPieces ⟨x4, x6, x7, x8, x9, x10, x11, x12, x13⟩ (xcol x5) x14 x15 := by
  unfold bodyRun_A
  dsimp only
  have hH : bodyRun_A.sl.H25_4 c arg5 harg5 x5 = xcolPieces x5 := by
    unfold bodyRun_A.sl.H25_4 xcolPieces
    simp only [rdA harg5]
  simp (disch := decide) only [bodyRun_A.sl.r, bodyRun_A.sl.r_1, bodyRun_A.sl.r_2, bodyRun_A.sl.r_3, bodyRun_A.sl.r_4, bodyRun_A.sl.r_5, bodyRun_A.sl.r_6, bodyRun_A.sl.r_7, bodyRun_A.sl.r_8, bodyRun_A.sl.r_9, bodyRun_A.sl.v10, bodyRun_A.sl.v53, hH, rc_xcol, rdA harg4, rdA harg5, rdA harg6, rdA harg7, rdA harg8, rdA harg9, rdA harg10, rdA harg11, rdA harg12, rdA harg13, rdA harg14, rdA harg15, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listA_25 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) :
    (bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15).2.1 = xcolPieces x5 := by
  unfold bodyRun_A
  dsimp only
  have hH : bodyRun_A.sl.H25_4 c arg5 harg5 x5 = xcolPieces x5 := by
    unfold bodyRun_A.sl.H25_4 xcolPieces
    simp only [rdA harg5]
  simp (disch := decide) only [bodyRun_A.sl.r, bodyRun_A.sl.r_1, bodyRun_A.sl.r_2, bodyRun_A.sl.r_3, bodyRun_A.sl.r_4, bodyRun_A.sl.r_5, bodyRun_A.sl.r_6, bodyRun_A.sl.r_7, bodyRun_A.sl.r_8, bodyRun_A.sl.r_9, bodyRun_A.sl.v10, bodyRun_A.sl.v53, hH, rc_xcol, rdA harg4, rdA harg5, rdA harg6, rdA harg7, rdA harg8, rdA harg9, rdA harg10, rdA harg11, rdA harg12, rdA harg13, rdA harg14, rdA harg15, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeA {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

set_option maxHeartbeats 1600000 in
/-- The body at the first column step of a row of tiles (the scale column is loaded, four heads are stored): what it leaves in every buffer it stores into. -/
theorem specA (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : cond1 i) (hc2 : k0_cond2 i = 1#1) (hc3 : ¬k0_cond3 i = 1#1) (hc4 : ¬k0_cond4 i = 1#1) (hc5 : ¬k0_cond5 i = 1#1)
    (x4 : Vec F S512x12288 .fp8e4m3) (x5 : Vec F S1x512 .f32) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32)
    (E : Set ℕ) (K : PUnit → sProp 𝕄) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ (∃ d, owns (c : Thread nD τ) arg16 fullShare d) ∗ (∃ d, owns (c : Thread nD τ) arg25 fullShare d)
        ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare (qBlk ⟨x4, x6, x7, x8, x9, x10, x11, x12, x13⟩ (xcol x5) x14 x15) ∗ owns (c : Thread nD τ) arg25 fullShare (xcol x5)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e16 := listA_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15
  have e25 := listA_25 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15
  revert e16 e25
  rcases bodyRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x5 x6 x7 x8 x9 x10 x11 x12 x13 x14 x15 with ⟨L16, L25, h⟩
  intro e16 e25
  dsimp only at e16 e25
  subst e16
  subst e25
  replace h := h E K
  iintro ⟨H4, H5, H6, H7, H8, H9, H10, H11, H12, H13, H14, H15, H16, H25, Hk⟩
  iapply h
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H25]; · iexact H25
  iintro ⟨H4, H5, H6, H7, H8, H9, H10, H11, H12, H13, H14, H15, ⟨%f16, H16⟩, ⟨%f25, H25⟩⟩
  iapply Hk
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr; swap; · iexact H16
    ipureintro; exact (View.read_writes_eq_canon _ _ _ (q_cover _ _ _ _))
  · unfold owns; iexists _; isplitr; swap; · iexact H25
    ipureintro; exact (View.read_writes_eq_canon _ _ _ (xcol_cover _))

end Cert.Proof.InI

end
-- ==== Proof.InIBodyA.lean ====
module

public import proofs.«01_k».proof.Proof.InIStep
public import proofs.«01_k».proof.Proof.InISpecA

/-! The input projection (ideal form): the body at the first step of a row of tiles. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the first column step of a row of tiles (the scale column is loaded, four heads are stored) keeps the invariant and leaves every buffer as the proof data say. -/
theorem body_A (c : Dev nD) (t : Fin cfg0.N) (ht : t.val % 20 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_castSucc]
  refine (sep_mono_left (PhiS_any m c t.val (Nat.le_of_lt t.isLt))).trans ?_
  rw [PhiA0_eq]
  iintro ⟨⟨⟨⟨%h, S0⟩, ⟨%a, S1⟩, ⟨%x, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := inv_A m c t ht h a
  iapply (specA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) ((cond1_iff t).2 (by omega)) ((cond2_iff t).2 (by omega)) (fun hc => absurd ((cond3_iff t).1 hc) (by omega)) (fun hc => absurd ((cond4_iff t).1 hc) (by omega)) (fun hc => absurd ((cond5_iff t).1 hc) (by omega)) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [S2]; · iexists _; iexact S2
  iintro ⟨H2, H3, H4, H5, H6, H7, H8, H9, H10, H11, H12, H13, H14, S2⟩
  isplitl [S0 S1 S2 Hg]
  · iexists h; iexists a; iexists (xcol (iblk m c 3 t))
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_of m c t 14 ((idle_14 t).trans (decide_eq_false (by omega))) _ ((q_eq m c t (by omega) hinv.1).trans (after0_14 m c t).symm)); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InI

end
-- ==== Proof.InIRunB.lean ====
module

public import proofs.«01_k».proof.Proof.InICond

/-! The input projection (ideal form): the run of the body at the other query steps. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

set_option maxHeartbeats 4000000 in
/-- The body at a later column step of the heads: run on whole buffers, it ends with every buffer it reads as it was and every
    buffer it stores into with some pieces written, last first; the pieces are found by the run. -/
noncomputable def bodyRun_B (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) :
    { L16 : List (View.Piece (Elt F) S4x512x128 .bf16) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg16 fullShare d)
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ f, arg16.view.loc (c : Thread nD τ) ↦[arg16.view.set]{fullShare} arg16.view.writes (Elt F) f L16)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_in_proj_eq_skeleton]; unfold cc0_in_proj_skel
    simp only [k0_part12_eq_skeleton, k0_part1_eq_skeleton, k0_part2_eq_skeleton, k0_part3_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f25, %hf25, H25⟩, ⟨%d16, %f16, -, H16⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg25.eq_unread hf25
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H25]
    · iexists _; isplitr; · ipureintro; exact harg25.read_unread _
      iexact H25
    iexists _; iexact H16

end Cert.Proof.InI

end
-- ==== Proof.InISpecB.lean ====
module

public import proofs.«01_k».proof.Proof.InIVal
public import proofs.«01_k».proof.Proof.InIRunB

/-! The input projection (ideal form): what the other query steps leave, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- What a load of a whole buffer reads. -/
theorem rdB {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listB_16 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) :
    (bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25).1 = qPieces ⟨x4, x6, x7, x8, x9, x10, x11, x12, x13⟩ x25 x14 x15 := by
  unfold bodyRun_B
  dsimp only
  simp (disch := decide) only [bodyRun_B.sl.r, bodyRun_B.sl.r_1, bodyRun_B.sl.r_2, bodyRun_B.sl.r_3, bodyRun_B.sl.r_4, bodyRun_B.sl.r_5, bodyRun_B.sl.r_6, bodyRun_B.sl.r_7, bodyRun_B.sl.r_8, bodyRun_B.sl.r_9, bodyRun_B.sl.v53, rdB harg4, rdB harg6, rdB harg7, rdB harg8, rdB harg9, rdB harg10, rdB harg11, rdB harg12, rdB harg13, rdB harg14, rdB harg15, rdB harg25, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeB {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

set_option maxHeartbeats 1600000 in
/-- The body at a later column step of the heads: what it leaves in every buffer it stores into. -/
theorem specB (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : k0_cond2 i = 1#1) (hc3 : ¬k0_cond3 i = 1#1) (hc4 : ¬k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg16 fullShare d)
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ owns (c : Thread nD τ) arg16 fullShare (qBlk ⟨x4, x6, x7, x8, x9, x10, x11, x12, x13⟩ x25 x14 x15)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e16 := listB_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25
  revert e16
  rcases bodyRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x14 x15 x25 with ⟨L16, h⟩
  intro e16
  dsimp only at e16
  subst e16
  replace h := h E K
  iintro ⟨H4, H6, H7, H8, H9, H10, H11, H12, H13, H14, H15, H25, H16, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H16]; · iexact H16
  iintro ⟨H4, H6, H7, H8, H9, H10, H11, H12, H13, H14, H15, H25, ⟨%f16, H16⟩⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  · unfold owns; iexists _; isplitr; swap; · iexact H16
    ipureintro; exact (View.read_writes_eq_canon _ _ _ (q_cover _ _ _ _))

end Cert.Proof.InI

end
-- ==== Proof.InIBodyB.lean ====
module

public import proofs.«01_k».proof.Proof.InIStep
public import proofs.«01_k».proof.Proof.InISpecB

/-! The input projection (ideal form): the body at the other query steps. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a later column step of the heads keeps the invariant and leaves every buffer as the proof data say. -/
theorem body_B (c : Dev nD) (t : Fin cfg0.N) (ht : ¬t.val % 20 = 0 ∧ t.val % 20 < 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepB m c t ht.1 ht.2 hi
  iapply (specB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) ((cond2_iff t).2 (by omega)) (fun hc => absurd ((cond3_iff t).1 hc) (by omega)) (fun hc => absurd ((cond4_iff t).1 hc) (by omega)) (fun hc => absurd ((cond5_iff t).1 hc) (by omega)) (iblk m c 2 t) (iblk m c 4 t) (iblk m c 5 t) (iblk m c 6 t) (iblk m c 7 t) (iblk m c 8 t) (iblk m c 9 t) (iblk m c 10 t) (iblk m c 11 t) (iblk m c 12 t) (iblk m c 13 t) x Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S2]; · iexact S2
  isplitl [H14]; · iexists _; iexact H14
  iintro ⟨H2, H4, H5, H6, H7, H8, H9, H10, H11, H12, H13, S2, H14⟩
  isplitl [S0 S1 S2 Hg]
  · iexists h; iexists a; iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_of m c t 14 ((idle_14 t).trans (decide_eq_false (by omega))) _ ((q_eq m c t (by omega) hinv.1).trans (after0_14 m c t).symm)); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InI

end
-- ==== Proof.InIRunC.lean ====
module

public import proofs.«01_k».proof.Proof.InICond

/-! The input projection (ideal form): the run of the body at the step of the key and the value. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

set_option maxHeartbeats 4000000 in
/-- The body at the column step of the key, the value and the half tile of the gated product: run on whole buffers, it ends with every buffer it reads as it was and every
    buffer it stores into with some pieces written, last first; the pieces are found by the run. -/
noncomputable def bodyRun_C (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    Σ' (L17 : List (View.Piece (Elt F) S512x128 .fp8e4m3)), Σ' (L18 : List (View.Piece (Elt F) S512x128 .fp8e4m3)), Σ' (L19 : List (View.Piece (Elt F) S128x512 .bf16)), Σ' (L20 : List (View.Piece (Elt F) S512x128 .bf16)), Σ' (L23 : List (View.Piece (Elt F) S17x512x256 .f32)), { L24 : List (View.Piece (Elt F) S512x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg23 fullShare x23 ∗ (∃ d, owns (c : Thread nD τ) arg24 fullShare d)
            ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19) ∗ (∃ f, arg20.view.loc (c : Thread nD τ) ↦[arg20.view.set]{fullShare} arg20.view.writes (Elt F) f L20) ∗ (arg23.view.loc (c : Thread nD τ) ↦[arg23.view.set]{fullShare} arg23.view.writes (Elt F) (harg23.unread x23) L23) ∗ (∃ f, arg24.view.loc (c : Thread nD τ) ↦[arg24.view.set]{fullShare} arg24.view.writes (Elt F) f L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_in_proj_eq_skeleton]; unfold cc0_in_proj_skel
    simp only [k0_part12_eq_skeleton, k0_part4_eq_skeleton, k0_part5_eq_skeleton, k0_part6_eq_skeleton]
    unfold owns
    iintro ⟨⟨%f2, %hf2, H2⟩, ⟨%f3, %hf3, H3⟩, ⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f25, %hf25, H25⟩, ⟨%d17, %f17, -, H17⟩, ⟨%d18, %f18, -, H18⟩, ⟨%d19, %f19, -, H19⟩, ⟨%d20, %f20, -, H20⟩, ⟨%f23, %hf23, H23⟩, ⟨%d24, %f24, -, H24⟩, Hk⟩
    obtain rfl := harg2.eq_unread hf2; obtain rfl := harg3.eq_unread hf3; obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg25.eq_unread hf25; obtain rfl := harg23.eq_unread hf23
    sl_exec (disch := first | sl_exact hc1 | sl_exact hc2 | sl_exact hc3 | sl_exact hc4 | sl_exact hc5)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H25]
    · iexists _; isplitr; · ipureintro; exact harg25.read_unread _
      iexact H25
    isplitl [H17]; · iexists _; iexact H17
    isplitl [H18]; · iexists _; iexact H18
    isplitl [H19]; · iexists _; iexact H19
    isplitl [H20]; · iexists _; iexact H20
    isplitl [H23]; · iexact H23
    iexists _; iexact H24

end Cert.Proof.InI

end
-- ==== Proof.InISpecC.lean ====
module

public import proofs.«01_k».proof.Proof.InIVal
public import proofs.«01_k».proof.Proof.InIRunC

/-! The input projection (ideal form): what the step of the key and the value leaves, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- What a load of a whole buffer reads. -/
theorem rdC {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listC_17 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).1 = [⟨Rect.unit ![0, 0] S512x128.size inb_S512x128_S512x128_0_0, kBlk ⟨x4, x6, x7, x8, x9, x10, x11, x12, x13⟩ x25 x14 x15 x2⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x2 (Rect.unit (s := S1) ![0] ![1] inb_S1_S1_0) (Shape.Idx.first (s := S1) (by decide)) = x2 (Shape.Idx.first (s := S1) (by decide)) from congrFun (ld_one x2 _) _]

set_option maxHeartbeats 1600000 in
theorem listC_18 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.1 = [⟨Rect.unit ![0, 0] S512x128.size inb_S512x128_S512x128_0_0, vBlk ⟨x4, x6, x7, x8, x9, x10, x11, x12, x13⟩ x25 x3⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x3 (Rect.unit (s := S1) ![0] ![1] inb_S1_S1_0) (Shape.Idx.first (s := S1) (by decide)) = x3 (Shape.Idx.first (s := S1) (by decide)) from congrFun (ld_one x3 _) _]

set_option maxHeartbeats 1600000 in
theorem listC_19 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.1 = [⟨Rect.unit ![0, 0] S128x512.size inb_S128x512_S128x512_0_0, ktBlk ⟨x4, x6, x7, x8, x9, x10, x11, x12, x13⟩ x25 x14 x15 x2⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x2 (Rect.unit (s := S1) ![0] ![1] inb_S1_S1_0) (Shape.Idx.first (s := S1) (by decide)) = x2 (Shape.Idx.first (s := S1) (by decide)) from congrFun (ld_one x2 _) _]

set_option maxHeartbeats 1600000 in
theorem listC_20 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.1 = [⟨Rect.unit ![0, 0] S512x128.size inb_S512x128_S512x128_0_0, vbBlk ⟨x4, x6, x7, x8, x9, x10, x11, x12, x13⟩ x25 x3⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only
  erw [show View.ld x3 (Rect.unit (s := S1) ![0] ![1] inb_S1_S1_0) (Shape.Idx.first (s := S1) (by decide)) = x3 (Shape.Idx.first (s := S1) (by decide)) from congrFun (ld_one x3 _) _]

set_option maxHeartbeats 1600000 in
theorem listC_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.2.1 = [⟨Rect.unit ![16, 0, 0] ![1, 512, 128] inb_S17x512x256_S1x512x128_16_0_0, tail ⟨x4, x6, x7, x8, x9, x10, x11, x12, x13⟩ x25⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listC_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32) :
    (bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23).2.2.2.2.2.1 = [⟨Rect.unit ![0, 0] ![512, 128] inb_S512x128_S512x128_0_0, amax0 ⟨x4, x6, x7, x8, x9, x10, x11, x12, x13⟩ x25⟩] := by
  unfold bodyRun_C
  dsimp only
  simp (disch := decide) only [bodyRun_C.sl.r, bodyRun_C.sl.r_1, bodyRun_C.sl.r_2, bodyRun_C.sl.r_3, bodyRun_C.sl.r_4, bodyRun_C.sl.r_5, bodyRun_C.sl.r_6, bodyRun_C.sl.r_7, bodyRun_C.sl.r_8, bodyRun_C.sl.r_9, bodyRun_C.sl.r_10, bodyRun_C.sl.v53, rdC harg2, rdC harg3, rdC harg4, rdC harg6, rdC harg7, rdC harg8, rdC harg9, rdC harg10, rdC harg11, rdC harg12, rdC harg13, rdC harg14, rdC harg15, rdC harg25, rdC harg23, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeC {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after the half tile is stored into its last row. -/
theorem tail_read (m : Memref sig .tc .vmem S17x512x256 .f32) (h : m.IsWhole) (x : Vec F S17x512x256 .f32) (w : Vec F S1x512x128 .f32) :
    m.view.read (Elt F) (m.view.writes (Elt F) (h.unread x) [⟨Rect.unit ![16, 0, 0] ![1, 512, 128] inb_S17x512x256_S1x512x128_16_0_0, w⟩]) = hTail x w := by
  funext y
  by_cases hy : (y 0 : ℕ) = 16 ∧ (y 2 : ℕ) < 128
  · refine (View.read_writes_cons_unit_of_mem m.view (h.unread x) inb_S17x512x256_S1x512x128_16_0_0 w [] y (ix3 0 (y 1) ⟨(y 2 : ℕ), hy.2⟩) rfl ?_).trans
      (by unfold hTail; rw [dif_pos hy])
    intro a; fin_cases a
    · show (y 0 : ℕ) = 16 + 0; omega
    · show (y 1 : ℕ) = 0 + (y 1 : ℕ); omega
    · show (y 2 : ℕ) = 0 + (y 2 : ℕ); omega
  · by_cases h0 : (y 0 : ℕ) = 16
    · refine (View.read_writes_cons_unit_of_not_mem m.view (h.unread x) inb_S17x512x256_S1x512x128_16_0_0 w [] y rfl 2 ?_).trans ?_
      · show (y 2 : ℕ) < 0 ∨ 0 + 128 ≤ (y 2 : ℕ); omega
      · unfold hTail; rw [dif_neg hy]; exact congrFun (h.read_unread x) y
    · refine (View.read_writes_cons_unit_of_not_mem m.view (h.unread x) inb_S17x512x256_S1x512x128_16_0_0 w [] y rfl 0 ?_).trans ?_
      · show (y 0 : ℕ) < 16 ∨ 16 + 1 ≤ (y 0 : ℕ); have := (y 0).isLt; omega
      · unfold hTail; rw [dif_neg hy]; exact congrFun (h.read_unread x) y

set_option maxHeartbeats 1600000 in
/-- The body at the column step of the key, the value and the half tile of the gated product: what it leaves in every buffer it stores into. -/
theorem specC (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : k0_cond3 i = 1#1) (hc4 : ¬k0_cond4 i = 1#1) (hc5 : ¬k0_cond5 i = 1#1)
    (x2 : Vec F S1 .f32) (x3 : Vec F S1 .f32) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x14 : Vec F S64x512 .f32) (x15 : Vec F S64x512 .f32) (x25 : Vec F S512x128 .f32) (x23 : Vec F S17x512x256 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg23 fullShare x23 ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg25 fullShare x25 ∗ owns (c : Thread nD τ) arg17 fullShare (kBlk ⟨x4, x6, x7, x8, x9, x10, x11, x12, x13⟩ x25 x14 x15 x2) ∗ owns (c : Thread nD τ) arg18 fullShare (vBlk ⟨x4, x6, x7, x8, x9, x10, x11, x12, x13⟩ x25 x3) ∗ owns (c : Thread nD τ) arg19 fullShare (ktBlk ⟨x4, x6, x7, x8, x9, x10, x11, x12, x13⟩ x25 x14 x15 x2) ∗ owns (c : Thread nD τ) arg20 fullShare (vbBlk ⟨x4, x6, x7, x8, x9, x10, x11, x12, x13⟩ x25 x3) ∗ owns (c : Thread nD τ) arg23 fullShare (hTail x23 (tail ⟨x4, x6, x7, x8, x9, x10, x11, x12, x13⟩ x25)) ∗ owns (c : Thread nD τ) arg24 fullShare (amax0 ⟨x4, x6, x7, x8, x9, x10, x11, x12, x13⟩ x25)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e17 := listC_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e18 := listC_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e19 := listC_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e20 := listC_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e23 := listC_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  have e24 := listC_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23
  revert e17 e18 e19 e20 e23 e24
  rcases bodyRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x2 x3 x4 x6 x7 x8 x9 x10 x11 x12 x13 x14 x15 x25 x23 with ⟨L17, L18, L19, L20, L23, L24, h⟩
  intro e17 e18 e19 e20 e23 e24
  dsimp only at e17 e18 e19 e20 e23 e24
  subst e17
  subst e18
  subst e19
  subst e20
  subst e23
  subst e24
  replace h := h E K
  iintro ⟨H2, H3, H4, H6, H7, H8, H9, H10, H11, H12, H13, H14, H15, H25, H17, H18, H19, H20, H23, H24, Hk⟩
  iapply h
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H17]; · iexact H17
  isplitl [H18]; · iexact H18
  isplitl [H19]; · iexact H19
  isplitl [H20]; · iexact H20
  isplitl [H23]; · iexact H23
  isplitl [H24]; · iexact H24
  iintro ⟨H2, H3, H4, H6, H7, H8, H9, H10, H11, H12, H13, H14, H15, H25, ⟨%f17, H17⟩, ⟨%f18, H18⟩, ⟨%f19, H19⟩, ⟨%f20, H20⟩, H23, ⟨%f24, H24⟩⟩
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H25]; · iexact H25
  isplitl [H17]
  · unfold owns; iexists _; isplitr; swap; · iexact H17
    ipureintro; exact (wholeC _ _ _ _ (by decide))
  isplitl [H18]
  · unfold owns; iexists _; isplitr; swap; · iexact H18
    ipureintro; exact (wholeC _ _ _ _ (by decide))
  isplitl [H19]
  · unfold owns; iexists _; isplitr; swap; · iexact H19
    ipureintro; exact (wholeC _ _ _ _ (by decide))
  isplitl [H20]
  · unfold owns; iexists _; isplitr; swap; · iexact H20
    ipureintro; exact (wholeC _ _ _ _ (by decide))
  isplitl [H23]
  · unfold owns; iexists _; isplitr; swap; · iexact H23
    ipureintro; exact (tail_read _ harg23 _ _)
  · unfold owns; iexists _; isplitr; swap; · iexact H24
    ipureintro; exact (wholeC _ _ _ _ (by decide))

end Cert.Proof.InI

end
-- ==== Proof.InIBodyC.lean ====
module

public import proofs.«01_k».proof.Proof.InIStep
public import proofs.«01_k».proof.Proof.InISpecC

/-! The input projection (ideal form): the body at the step of the key and the value. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the column step of the key, the value and the half tile of the gated product keeps the invariant and leaves every buffer as the proof data say. -/
theorem body_C (c : Dev nD) (t : Fin cfg0.N) (ht : t.val % 20 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepC m c t ht hi
  iapply (specC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) ((cond3_iff t).2 (by omega)) (fun hc => absurd ((cond4_iff t).1 hc) (by omega)) (fun hc => absurd ((cond5_iff t).1 hc) (by omega)) (iblk m c 0 t) (iblk m c 1 t) (iblk m c 2 t) (iblk m c 4 t) (iblk m c 5 t) (iblk m c 6 t) (iblk m c 7 t) (iblk m c 8 t) (iblk m c 9 t) (iblk m c 10 t) (iblk m c 11 t) (iblk m c 12 t) (iblk m c 13 t) x h Set.univ _)
  isplitl [H0]; · iexact H0
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [S2]; · iexact S2
  isplitl [H15]; · iexists _; iexact H15
  isplitl [H16]; · iexists _; iexact H16
  isplitl [H17]; · iexists _; iexact H17
  isplitl [H18]; · iexists _; iexact H18
  isplitl [S0]; · iexact S0
  isplitl [S1]; · iexists _; iexact S1
  iintro ⟨H0, H1, H2, H4, H5, H6, H7, H8, H9, H10, H11, H12, H13, S2, H15, H16, H17, H18, S0, S1⟩
  isplitl [S0 S1 S2 Hg]
  · iexists (hTail h (tail (Bk m c t) x)); iexists (amax0 (Bk m c t) x); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun hf => absurd (of_decide_eq_true ((flush_14 t).symm.trans hf)) (by omega)) _); iexact H14
  isplitl [H15]; · iapply (leave_of m c t 15 ((idle_15 t).trans (decide_eq_false (by omega))) _ ((k_eq m c t ht hinv.1).trans (after0_15 m c t).symm)); iexact H15
  isplitl [H16]; · iapply (leave_of m c t 16 ((idle_16 t).trans (decide_eq_false (by omega))) _ ((v_eq m c t ht hinv.1).trans (after0_16 m c t).symm)); iexact H16
  isplitl [H17]; · iapply (leave_of m c t 17 ((idle_17 t).trans (decide_eq_false (by omega))) _ ((kt_eq m c t ht hinv.1).trans (after0_17 m c t).symm)); iexact H17
  isplitl [H18]; · iapply (leave_of m c t 18 ((idle_18 t).trans (decide_eq_false (by omega))) _ ((vb_eq m c t ht hinv.1).trans (after0_18 m c t).symm)); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InI

end
-- ==== Proof.InIRunD.lean ====
module

public import proofs.«01_k».proof.Proof.InICond

/-! The input projection (ideal form): the run of the body at a step of the gated product. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

set_option maxHeartbeats 4000000 in
/-- The body at a column step of the gated product before the last: run on whole buffers, it ends with every buffer it reads as it was and every
    buffer it stores into with some pieces written, last first; the pieces are found by the run. -/
noncomputable def bodyRun_D (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    Σ' (L23 : List (View.Piece (Elt F) S17x512x256 .f32)), { L24 : List (View.Piece (Elt F) S512x128 .f32) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare x23 ∗ owns (c : Thread nD τ) arg24 fullShare x24
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_in_proj_eq_skeleton]; unfold cc0_in_proj_skel
    simp only [k0_part12_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f25, %hf25, H25⟩, ⟨%f23, %hf23, H23⟩, ⟨%f24, %hf24, H24⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg25.eq_unread hf25; obtain rfl := harg23.eq_unread hf23; obtain rfl := harg24.eq_unread hf24
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H25]
    · iexists _; isplitr; · ipureintro; exact harg25.read_unread _
      iexact H25
    isplitl [H23]; · iexact H23
    iexact H24

end Cert.Proof.InI

end
-- ==== Proof.InISpecD.lean ====
module

public import proofs.«01_k».proof.Proof.InIVal
public import proofs.«01_k».proof.Proof.InIRunD

/-! The input projection (ideal form): what a step of the gated product leaves, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

theorem b1_D (i : grid0.Coords) (h : k0_cond4 i = 1#1) : ∀ a, k0_off1 i a + (![1, 512, 256] : Fin 3 → ℕ) a ≤ S17x512x256.size a := by
  exact k0_off1_inb i h

/-- What a load of a whole buffer reads. -/
theorem rdD {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listD_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24).1 = [⟨Rect.unit (k0_off1 i) ![1, 512, 256] (b1_D i hc4), hRow ⟨x4, x6, x7, x8, x9, x10, x11, x12, x13⟩ x25⟩] := by
  unfold bodyRun_D
  dsimp only
  simp (disch := decide) only [bodyRun_D.sl.r, bodyRun_D.sl.r_1, bodyRun_D.sl.r_2, bodyRun_D.sl.r_3, bodyRun_D.sl.r_4, rdD harg4, rdD harg6, rdD harg7, rdD harg8, rdD harg9, rdD harg10, rdD harg11, rdD harg12, rdD harg13, rdD harg25, rdD harg23, rdD harg24, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listD_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1)
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24).2.1 = [⟨Rect.unit ![0, 0] ![512, 128] inb_S512x128_S512x128_0_0, amaxS ⟨x4, x6, x7, x8, x9, x10, x11, x12, x13⟩ x25 x24⟩] := by
  unfold bodyRun_D
  dsimp only
  simp (disch := decide) only [bodyRun_D.sl.r, bodyRun_D.sl.r_1, bodyRun_D.sl.r_2, bodyRun_D.sl.r_3, bodyRun_D.sl.r_4, rdD harg4, rdD harg6, rdD harg7, rdD harg8, rdD harg9, rdD harg10, rdD harg11, rdD harg12, rdD harg13, rdD harg25, rdD harg23, rdD harg24, View.ld_unit_lit', ld_one, rc_whole]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeD {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after a full tile is stored into a row of it. -/
theorem row_readD (m : Memref sig .tc .vmem S17x512x256 .f32) (h : m.IsWhole) (x : Vec F S17x512x256 .f32) (r : ℕ) (w : Vec F S1x512x256 .f32)
    (off : Fin 3 → ℕ) (inb : ∀ a, off a + (![1, 512, 256] : Fin 3 → ℕ) a ≤ S17x512x256.size a) (ho : off = ![r, 0, 0]) :
    m.view.read (Elt F) (m.view.writes (Elt F) (h.unread x) [⟨Rect.unit off ![1, 512, 256] inb, w⟩]) = hPut x r w := by
  funext y
  by_cases hy : (y 0 : ℕ) = r
  · refine (View.read_writes_cons_unit_of_mem m.view (h.unread x) inb w [] y (ix3 0 (y 1) (y 2)) ho ?_).trans (by unfold hPut; rw [if_pos hy])
    intro a; fin_cases a
    · show (y 0 : ℕ) = r + 0; omega
    · show (y 1 : ℕ) = 0 + (y 1 : ℕ); omega
    · show (y 2 : ℕ) = 0 + (y 2 : ℕ); omega
  · refine (View.read_writes_cons_unit_of_not_mem m.view (h.unread x) inb w [] y ho 0 ?_).trans ?_
    · show (y 0 : ℕ) < r ∨ r + 1 ≤ (y 0 : ℕ); omega
    · unfold hPut; rw [if_neg hy]; exact congrFun (h.read_unread x) y

set_option maxHeartbeats 1600000 in
/-- The body at a column step of the gated product before the last: what it leaves in every buffer it stores into. -/
theorem specD (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : ¬k0_cond5 i = 1#1) (r : ℕ) (ho : k0_off1 i = ![r, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare x23 ∗ owns (c : Thread nD τ) arg24 fullShare x24
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg23 fullShare (hPut x23 r (hRow ⟨x4, x6, x7, x8, x9, x10, x11, x12, x13⟩ x25)) ∗ owns (c : Thread nD τ) arg24 fullShare (amaxS ⟨x4, x6, x7, x8, x9, x10, x11, x12, x13⟩ x25 x24)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e23 := listD_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24
  have e24 := listD_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24
  revert e23 e24
  rcases bodyRun_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 x4 x6 x7 x8 x9 x10 x11 x12 x13 x25 x23 x24 with ⟨L23, L24, h⟩
  intro e23 e24
  dsimp only at e23 e24
  subst e23
  subst e24
  replace h := h E K
  iintro ⟨H4, H6, H7, H8, H9, H10, H11, H12, H13, H25, H23, H24, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H23]; · iexact H23
  isplitl [H24]; · iexact H24
  iintro ⟨H4, H6, H7, H8, H9, H10, H11, H12, H13, H25, H23, H24⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H23]
  · unfold owns; iexists _; isplitr; swap; · iexact H23
    ipureintro; exact (row_readD _ harg23 _ _ _ _ _ ho)
  · unfold owns; iexists _; isplitr; swap; · iexact H24
    ipureintro; exact (wholeD _ _ _ _ (by decide))

end Cert.Proof.InI

end
-- ==== Proof.InIBodyD.lean ====
module

public import proofs.«01_k».proof.Proof.InIStep
public import proofs.«01_k».proof.Proof.InISpecD

/-! The input projection (ideal form): the body at a step of the gated product. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at a column step of the gated product before the last keeps the invariant and leaves every buffer as the proof data say. -/
theorem body_D (c : Dev nD) (t : Fin cfg0.N) (ht : 3 < t.val % 20 ∧ ¬t.val % 20 = 19) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepD m c t ht.1 hi
  iapply (specD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) (fun hc => absurd ((cond3_iff t).1 hc) (by omega)) ((cond4_iff t).2 (by omega)) (fun hc => absurd ((cond5_iff t).1 hc) (by omega)) (t.val % 20 - 4) (off1_eq t ht.1) (iblk m c 2 t) (iblk m c 4 t) (iblk m c 5 t) (iblk m c 6 t) (iblk m c 7 t) (iblk m c 8 t) (iblk m c 9 t) (iblk m c 10 t) (iblk m c 11 t) x h a Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S2]; · iexact S2
  isplitl [S0]; · iexact S0
  isplitl [S1]; · iexact S1
  iintro ⟨H2, H4, H5, H6, H7, H8, H9, H10, H11, S2, S0, S1⟩
  isplitl [S0 S1 S2 Hg]
  · iexists (hPut h (t.val % 20 - 4) (hRow (Bk m c t) x)); iexists (amaxS (Bk m c t) x a); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun hf => absurd (of_decide_eq_true ((flush_14 t).symm.trans hf)) (by omega)) _); iexact H14
  isplitl [H15]; · iapply (leave_keep m c t 15 ((idle_15 t).trans (decide_eq_true (by omega))) (fun hf => absurd (of_decide_eq_true ((flush_15 t).symm.trans hf)) (by omega)) _); iexact H15
  isplitl [H16]; · iapply (leave_keep m c t 16 ((idle_16 t).trans (decide_eq_true (by omega))) (fun hf => absurd (of_decide_eq_true ((flush_16 t).symm.trans hf)) (by omega)) _); iexact H16
  isplitl [H17]; · iapply (leave_keep m c t 17 ((idle_17 t).trans (decide_eq_true (by omega))) (fun hf => absurd (of_decide_eq_true ((flush_17 t).symm.trans hf)) (by omega)) _); iexact H17
  isplitl [H18]; · iapply (leave_keep m c t 18 ((idle_18 t).trans (decide_eq_true (by omega))) (fun hf => absurd (of_decide_eq_true ((flush_18 t).symm.trans hf)) (by omega)) _); iexact H18
  isplitl [H19]; · iapply (leave_keep m c t 19 ((idle_19 t).trans (decide_eq_true (by omega))) (fun hf => absurd (of_decide_eq_true ((flush_19 t).symm.trans hf)) (by omega)) _); iexact H19
  iapply (leave_keep m c t 20 ((idle_20 t).trans (decide_eq_true (by omega))) (fun hf => absurd (of_decide_eq_true ((flush_20 t).symm.trans hf)) (by omega)) _); iexact H20

end Cert.Proof.InI

end
-- ==== Proof.InIRunE.lean ====
module

public import proofs.«01_k».proof.Proof.InICond

/-! The input projection (ideal form): the run of the body at the last step. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

/-- At the last column step the tile of the gated product goes to row 15 of its scratch. -/
instance closedOff1 (i : grid0.Coords) [h : Fact (k0_off1 i = ![15, 0, 0])] : ClosedOff (k0_off1 i) := ⟨![15, 0, 0], h.out⟩

set_option maxHeartbeats 4000000 in
/-- The body at the last column step (the row is quantised): run on whole buffers, it ends with every buffer it reads as it was and every
    buffer it stores into with some pieces written, last first; the pieces are found by the run. -/
noncomputable def bodyRun_E (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1)
    (ho : k0_off1 i = ![15, 0, 0]) (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    Σ' (L21 : List (View.Piece (Elt F) S512x4224 .fp8e4m3)), Σ' (L22 : List (View.Piece (Elt F) S1x512 .f32)), Σ' (L23 : List (View.Piece (Elt F) S17x512x256 .f32)), { L24 : List (View.Piece (Elt F) S512x128 .f32) //
      ∀ (E : Set ℕ) (K : PUnit → sProp 𝕄),
        iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ d, owns (c : Thread nD τ) arg21 fullShare d) ∗ (∃ d, owns (c : Thread nD τ) arg22 fullShare d) ∗ owns (c : Thread nD τ) arg23 fullShare x23 ∗ owns (c : Thread nD τ) arg24 fullShare x24
            ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ f, arg21.view.loc (c : Thread nD τ) ↦[arg21.view.set]{fullShare} arg21.view.writes (Elt F) f L21) ∗ (∃ f, arg22.view.loc (c : Thread nD τ) ↦[arg22.view.set]{fullShare} arg22.view.writes (Elt F) f L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24)) -∗ K ⟨⟩))
          ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, fun E K => ?run⟩
  case run =>
    simp only [cc0_in_proj_eq_skeleton]; unfold cc0_in_proj_skel
    simp only [k0_part12_eq_skeleton, k0_part7_eq_skeleton, k0_part8_eq_skeleton, k0_part9_eq_skeleton, k0_part10_eq_skeleton, k0_part11_eq_skeleton]
    unfold owns
    iintro ⟨⟨%f4, %hf4, H4⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f25, %hf25, H25⟩, ⟨%d21, %f21, -, H21⟩, ⟨%d22, %f22, -, H22⟩, ⟨%f23, %hf23, H23⟩, ⟨%f24, %hf24, H24⟩, Hk⟩
    obtain rfl := harg4.eq_unread hf4; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg25.eq_unread hf25; obtain rfl := harg23.eq_unread hf23; obtain rfl := harg24.eq_unread hf24
    haveI := Fact.mk ho
    sl_exec (disch := first | sl_exact hc1 | sl_exact hc2 | sl_exact hc3 | sl_exact hc4 | sl_exact hc5)
    sl_step
    iapply Hk
    isplitl [H4]
    · iexists _; isplitr; · ipureintro; exact harg4.read_unread _
      iexact H4
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H25]
    · iexists _; isplitr; · ipureintro; exact harg25.read_unread _
      iexact H25
    isplitl [H21]; · iexists _; iexact H21
    isplitl [H22]; · iexists _; iexact H22
    isplitl [H23]; · iexact H23
    iexact H24

end Cert.Proof.InI

end
-- ==== Proof.InISpecE.lean ====
module

public import proofs.«01_k».proof.Proof.InIVal
public import proofs.«01_k».proof.Proof.InIRunE

/-! The input projection (ideal form): what the last step leaves, by name. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

theorem b1_E (i : grid0.Coords) (h : k0_cond4 i = 1#1) : ∀ a, k0_off1 i a + (![1, 512, 256] : Fin 3 → ℕ) a ≤ S17x512x256.size a := by
  exact k0_off1_inb i h

/-- What a load of a whole buffer reads. -/
theorem rdE {sp : Space} {s : Shape} {e : EltTy} {m : Memref sig .tc sp s e} (h : m.IsWhole) (x : Vec F s e) (B : Rect s) :
    View.readAt (Elt F) m.view B.toLoadRect (h.unread x) = View.ld x B := by
  rw [View.readAt_eq_ld, h.read_unread]

set_option maxHeartbeats 1600000 in
theorem listE_21 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).1 = hqPieces x23 (hRow ⟨x4, x6, x7, x8, x9, x10, x11, x12, x13⟩ x25) (amaxS ⟨x4, x6, x7, x8, x9, x10, x11, x12, x13⟩ x25 x24) := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_22 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.1 = hsPieces (amaxS ⟨x4, x6, x7, x8, x9, x10, x11, x12, x13⟩ x25 x24) := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_23 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.2.1 = [⟨Rect.unit (k0_off1 i) ![1, 512, 256] (b1_E i hc4), hRow ⟨x4, x6, x7, x8, x9, x10, x11, x12, x13⟩ x25⟩] := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

set_option maxHeartbeats 1600000 in
theorem listE_24 (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32) :
    (bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24).2.2.2.1 = [⟨Rect.unit ![0, 0] ![512, 128] inb_S512x128_S512x128_0_0, amaxS ⟨x4, x6, x7, x8, x9, x10, x11, x12, x13⟩ x25 x24⟩] := by
  unfold bodyRun_E
  dsimp only
  simp (disch := decide) only [bodyRun_E.sl.r, bodyRun_E.sl.r_1, bodyRun_E.sl.r_2, bodyRun_E.sl.r_3, bodyRun_E.sl.r_4, bodyRun_E.sl.r_5, bodyRun_E.sl.r_6, bodyRun_E.sl.r_7, bodyRun_E.sl.r_8, bodyRun_E.sl.r_9, bodyRun_E.sl.v47, bodyRun_E.sl.v76, bodyRun_E.sl.v86, bodyRun_E.sl.v96, bodyRun_E.sl.v106, bodyRun_E.sl.v116, bodyRun_E.sl.v126, bodyRun_E.sl.v136, bodyRun_E.sl.v146, bodyRun_E.sl.v156, bodyRun_E.sl.v166, bodyRun_E.sl.v176, bodyRun_E.sl.v186, bodyRun_E.sl.v196, bodyRun_E.sl.v206, bodyRun_E.sl.v216, bodyRun_E.sl.v226, bodyRun_E.sl.v236, bodyRun_E.sl.H23_1, bodyRun_E.sl.H24_1, rdE harg4, rdE harg6, rdE harg7, rdE harg8, rdE harg9, rdE harg10, rdE harg11, rdE harg12, rdE harg13, rdE harg25, rdE harg23, rdE harg24, View.ld_unit_lit', ld_one, rc_whole, rc_row _ _ _ _ _ ho]
  try unfold qBlk
  try unfold hqBlk
  try unfold hsBlk
  try unfold qPieces
  try unfold kBlk
  try unfold vBlk
  try unfold ktBlk
  try unfold vbBlk
  try unfold tail
  try unfold amax0
  try unfold amaxS
  try unfold hRow
  try unfold hqPieces
  try unfold hsPieces
  try unfold hld
  try unfold y0
  try unfold y1
  try unfold y2
  try unfold y3u
  try unfold y3s
  try unfold cosq
  try unfold sinq
  try unfold parq
  try unfold cosk
  try unfold sink
  try unfold park
  try dsimp only

/-- A store through the whole of a buffer leaves its payload. -/
theorem wholeE {sp : Space} {s : Shape} {e : EltTy} (v : View sig .tc sp s e) (f : v.ty.Contents (Elt F)) {off : Fin s.rank → ℕ}
    (inb : ∀ a, off a + s.size a ≤ s.size a) (w : s.Idx → Elt F e) (h : ∀ a, off a = 0) :
    v.read (Elt F) (v.writes (Elt F) f [⟨Rect.unit off s.size inb, w⟩]) = w := by
  funext y
  exact View.read_writes_cons_unit_of_mem v f inb w [] y y (funext h) fun a => (Nat.zero_add _).symm

/-- The scratch of gated products after a full tile is stored into a row of it. -/
theorem row_readE (m : Memref sig .tc .vmem S17x512x256 .f32) (h : m.IsWhole) (x : Vec F S17x512x256 .f32) (r : ℕ) (w : Vec F S1x512x256 .f32)
    (off : Fin 3 → ℕ) (inb : ∀ a, off a + (![1, 512, 256] : Fin 3 → ℕ) a ≤ S17x512x256.size a) (ho : off = ![r, 0, 0]) :
    m.view.read (Elt F) (m.view.writes (Elt F) (h.unread x) [⟨Rect.unit off ![1, 512, 256] inb, w⟩]) = hPut x r w := by
  funext y
  by_cases hy : (y 0 : ℕ) = r
  · refine (View.read_writes_cons_unit_of_mem m.view (h.unread x) inb w [] y (ix3 0 (y 1) (y 2)) ho ?_).trans (by unfold hPut; rw [if_pos hy])
    intro a; fin_cases a
    · show (y 0 : ℕ) = r + 0; omega
    · show (y 1 : ℕ) = 0 + (y 1 : ℕ); omega
    · show (y 2 : ℕ) = 0 + (y 2 : ℕ); omega
  · refine (View.read_writes_cons_unit_of_not_mem m.view (h.unread x) inb w [] y ho 0 ?_).trans ?_
    · show (y 0 : ℕ) < r ∨ r + 1 ≤ (y 0 : ℕ); omega
    · unfold hPut; rw [if_neg hy]; exact congrFun (h.read_unread x) y

set_option maxHeartbeats 1600000 in
/-- The body at the last column step (the row is quantised): what it leaves in every buffer it stores into. -/
theorem specE (c : Dev nD) (i : grid0.Coords) (arg2 : Memref sig .tc .smem S1 .f32) (harg2 : arg2.IsWhole) (arg3 : Memref sig .tc .smem S1 .f32) (harg3 : arg3.IsWhole) (arg4 : Memref sig .tc .vmem S512x12288 .fp8e4m3) (harg4 : arg4.IsWhole) (arg5 : Memref sig .tc .vmem S1x512 .f32) (harg5 : arg5.IsWhole) (arg6 : Memref sig .tc .vmem S12288x128 .fp8e4m3) (harg6 : arg6.IsWhole) (arg7 : Memref sig .tc .vmem S12288x128 .fp8e4m3) (harg7 : arg7.IsWhole) (arg8 : Memref sig .tc .vmem S12288x128 .fp8e4m3) (harg8 : arg8.IsWhole) (arg9 : Memref sig .tc .vmem S12288x128 .fp8e4m3) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S64x512 .f32) (harg14 : arg14.IsWhole) (arg15 : Memref sig .tc .vmem S64x512 .f32) (harg15 : arg15.IsWhole) (arg16 : Memref sig .tc .vmem S4x512x128 .bf16) (harg16 : arg16.IsWhole) (arg17 : Memref sig .tc .vmem S512x128 .fp8e4m3) (harg17 : arg17.IsWhole) (arg18 : Memref sig .tc .vmem S512x128 .fp8e4m3) (harg18 : arg18.IsWhole) (arg19 : Memref sig .tc .vmem S128x512 .bf16) (harg19 : arg19.IsWhole) (arg20 : Memref sig .tc .vmem S512x128 .bf16) (harg20 : arg20.IsWhole) (arg21 : Memref sig .tc .vmem S512x4224 .fp8e4m3) (harg21 : arg21.IsWhole) (arg22 : Memref sig .tc .vmem S1x512 .f32) (harg22 : arg22.IsWhole) (arg23 : Memref sig .tc .vmem S17x512x256 .f32) (harg23 : arg23.IsWhole) (arg24 : Memref sig .tc .vmem S512x128 .f32) (harg24 : arg24.IsWhole) (arg25 : Memref sig .tc .vmem S512x128 .f32) (harg25 : arg25.IsWhole) (hc1 : ¬cond1 i) (hc2 : ¬k0_cond2 i = 1#1) (hc3 : ¬k0_cond3 i = 1#1) (hc4 : k0_cond4 i = 1#1) (hc5 : k0_cond5 i = 1#1) (ho : k0_off1 i = ![15, 0, 0])
    (x4 : Vec F S512x12288 .fp8e4m3) (x6 : Vec F S12288x128 .fp8e4m3) (x7 : Vec F S12288x128 .fp8e4m3) (x8 : Vec F S12288x128 .fp8e4m3) (x9 : Vec F S12288x128 .fp8e4m3) (x10 : Vec F S1x128 .f32) (x11 : Vec F S1x128 .f32) (x12 : Vec F S1x128 .f32) (x13 : Vec F S1x128 .f32) (x25 : Vec F S512x128 .f32) (x23 : Vec F S17x512x256 .f32) (x24 : Vec F S512x128 .f32)
    (E : Set ℕ) (K : PUnit → sProp 𝕄) :
    iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ (∃ d, owns (c : Thread nD τ) arg21 fullShare d) ∗ (∃ d, owns (c : Thread nD τ) arg22 fullShare d) ∗ owns (c : Thread nD τ) arg23 fullShare x23 ∗ owns (c : Thread nD τ) arg24 fullShare x24
        ∗ (iprop(owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg25 fullShare x25 ∗ owns (c : Thread nD τ) arg21 fullShare (hqBlk x23 (hRow ⟨x4, x6, x7, x8, x9, x10, x11, x12, x13⟩ x25) (amaxS ⟨x4, x6, x7, x8, x9, x10, x11, x12, x13⟩ x25 x24)) ∗ owns (c : Thread nD τ) arg22 fullShare (hsBlk (amaxS ⟨x4, x6, x7, x8, x9, x10, x11, x12, x13⟩ x25 x24)) ∗ owns (c : Thread nD τ) arg23 fullShare (hPut x23 15 (hRow ⟨x4, x6, x7, x8, x9, x10, x11, x12, x13⟩ x25)) ∗ owns (c : Thread nD τ) arg24 fullShare (amaxS ⟨x4, x6, x7, x8, x9, x10, x11, x12, x13⟩ x25 x24)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  have e21 := listE_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e22 := listE_22 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e23 := listE_23 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  have e24 := listE_24 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24
  revert e21 e22 e23 e24
  rcases bodyRun_E c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc1 hc2 hc3 hc4 hc5 ho x4 x6 x7 x8 x9 x10 x11 x12 x13 x25 x23 x24 with ⟨L21, L22, L23, L24, h⟩
  intro e21 e22 e23 e24
  dsimp only at e21 e22 e23 e24
  subst e21
  subst e22
  subst e23
  subst e24
  replace h := h E K
  iintro ⟨H4, H6, H7, H8, H9, H10, H11, H12, H13, H25, H21, H22, H23, H24, Hk⟩
  iapply h
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H21]; · iexact H21
  isplitl [H22]; · iexact H22
  isplitl [H23]; · iexact H23
  isplitl [H24]; · iexact H24
  iintro ⟨H4, H6, H7, H8, H9, H10, H11, H12, H13, H25, ⟨%f21, H21⟩, ⟨%f22, H22⟩, H23, H24⟩
  iapply Hk
  isplitl [H4]; · iexact H4
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H25]; · iexact H25
  isplitl [H21]
  · unfold owns; iexists _; isplitr; swap; · iexact H21
    ipureintro; exact (View.read_writes_eq_canon _ _ _ (hq_cover _ _ _))
  isplitl [H22]
  · unfold owns; iexists _; isplitr; swap; · iexact H22
    ipureintro; exact (View.read_writes_eq_canon _ _ _ (hs_cover _))
  isplitl [H23]
  · unfold owns; iexists _; isplitr; swap; · iexact H23
    ipureintro; exact (row_readE _ harg23 _ _ _ _ _ ho)
  · unfold owns; iexists _; isplitr; swap; · iexact H24
    ipureintro; exact (wholeE _ _ _ _ (by decide))

end Cert.Proof.InI

end
-- ==== Proof.InIBodyE.lean ====
module

public import proofs.«01_k».proof.Proof.InIStep
public import proofs.«01_k».proof.Proof.InISpecE

/-! The input projection (ideal form): the body at the last step of a row of tiles. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 3200000 in
/-- The body at the last column step (the row is quantised) keeps the invariant and leaves every buffer as the proof data say. -/
theorem body_E (c : Dev nD) (t : Fin cfg0.N) (ht : t.val % 20 = 19) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl, after0_0, after0_1, after0_2, after0_3, after0_4, after0_5, after0_6, after0_7, after0_8, after0_9, after0_10, after0_11, after0_12, after0_13]
  rw [show (dats m 0 c).Φ t.succ = PhiS m c (t.val + 1) t.isLt from rfl, PhiS_succ m c t.val t.isLt]
  rw [PhiS_pos m c t (by omega)]
  iintro ⟨⟨%h, %a, %x, %hi, S0, S1, S2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hinv := stepD m c t (by omega) hi
  rw [show t.val % 20 - 4 = 15 from by omega] at hinv
  iapply (specE c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) scM0_0 (Memref.isWhole_whole _) scM0_1 (Memref.isWhole_whole _) scM0_2 (Memref.isWhole_whole _) (fun hc => absurd ((cond1_iff t).1 hc) (by omega)) (fun hc => absurd ((cond2_iff t).1 hc) (by omega)) (fun hc => absurd ((cond3_iff t).1 hc) (by omega)) ((cond4_iff t).2 (by omega)) ((cond5_iff t).2 (by omega)) ((off1_eq t (by omega)).trans (by rw [show t.val % 20 - 4 = 15 from by omega])) (iblk m c 2 t) (iblk m c 4 t) (iblk m c 5 t) (iblk m c 6 t) (iblk m c 7 t) (iblk m c 8 t) (iblk m c 9 t) (iblk m c 10 t) (iblk m c 11 t) x h a Set.univ _)
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S2]; · iexact S2
  isplitl [H19]; · iexists _; iexact H19
  isplitl [H20]; · iexists _; iexact H20
  isplitl [S0]; · iexact S0
  isplitl [S1]; · iexact S1
  iintro ⟨H2, H4, H5, H6, H7, H8, H9, H10, H11, S2, H19, H20, S0, S1⟩
  isplitl [S0 S1 S2 Hg]
  · iexists (hPut h 15 (hRow (Bk m c t) x)); iexists (amaxS (Bk m c t) x a); iexists x
    isplitr; · ipureintro; exact hinv
    isplitl [S0]; · iexact S0
    isplitl [S1]; · iexact S1
    isplitl [S2]; · iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (leave_keep m c t 14 ((idle_14 t).trans (decide_eq_true (by omega))) (fun _ d => kept_14 m c t (by omega) d) _); iexact H14
  isplitl [H15]; · iapply (leave_keep m c t 15 ((idle_15 t).trans (decide_eq_true (by omega))) (fun _ d => kept_15 m c t (by omega) d) _); iexact H15
  isplitl [H16]; · iapply (leave_keep m c t 16 ((idle_16 t).trans (decide_eq_true (by omega))) (fun _ d => kept_16 m c t (by omega) d) _); iexact H16
  isplitl [H17]; · iapply (leave_keep m c t 17 ((idle_17 t).trans (decide_eq_true (by omega))) (fun _ d => kept_17 m c t (by omega) d) _); iexact H17
  isplitl [H18]; · iapply (leave_keep m c t 18 ((idle_18 t).trans (decide_eq_true (by omega))) (fun _ d => kept_18 m c t (by omega) d) _); iexact H18
  isplitl [H19]; · iapply (leave_of m c t 19 ((idle_19 t).trans (decide_eq_false (by omega))) _ ((hq_eq m c t ht hi).trans (after0_19 m c t).symm)); iexact H19
  iapply (leave_of m c t 20 ((idle_20 t).trans (decide_eq_false (by omega))) _ ((hs_eq m c t ht hi).trans (after0_20 m c t).symm)); iexact H20

end Cert.Proof.InI

end
-- ==== Proof.InIFrame.lean ====
module

public import proofs.«01_k».proof.Proof.InIBodyA
public import proofs.«01_k».proof.Proof.InIBodyB
public import proofs.«01_k».proof.Proof.InIBodyC
public import proofs.«01_k».proof.Proof.InIBodyD
public import proofs.«01_k».proof.Proof.InIBodyE

/-! The input projection (ideal form): the run to the end, arguments and semaphores. -/

@[expose] public section

set_option maxRecDepth 16384

noncomputable section

namespace Cert.Proof.InI

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InProjIdeal Cert.InProjIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body keeps the invariant at every point. -/
theorem sound_body (c : Dev nD) (t : Fin cfg0.N) :
    bodyPre m c t ⊢ wp frame (wpE (defs₀ (F := F)) Variants.none c none) Set.univ (bodyAt0 t) (fun _ => bodyPost m c t) := by
  have hlt : t.val % 20 < 20 := Nat.mod_lt _ (by norm_num)
  by_cases h0 : t.val % 20 = 0
  · exact body_A m c t h0
  by_cases h1 : t.val % 20 < 3
  · exact body_B m c t ⟨h0, h1⟩
  by_cases h2 : t.val % 20 = 3
  · exact body_C m c t h2
  by_cases h3 : t.val % 20 = 19
  · exact body_E m c t h3
  · exact body_D m c t ⟨by omega, h3⟩

theorem defs₀_row (t : Fin cfg0.N) : defs₀ (F := F) .tc cfg0.body (cfg0.bodyArgs t (cfg0.slots t)) = bodyAt0 t := by
  unfold defs₀; rw [Defs.onTc_tc]

/-- So every point of the pipeline is met. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]; try exact Idealize.SL.BI.Entails.refl _

/-- The invariant gives the scratch back at the end. -/
theorem hout (c : Dev nD) : (dats m 0 c).Φ (Fin.last _) ⊢ Pipeline.ΦA spec0 c :=
  PhiS_any m c _ (Nat.le_of_lt_succ (Fin.last cfg0.N).isLt)

set_option backward.isDefEq.respectTransparency.types false in
/-- The run ends, with every semaphore at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hin := hin m) (hout := hout m)

/-- The run of the kernel, in the form a value claim starts from. -/
theorem run_main : θ_run defs (onTc (τ := τ) (main (F := F))) (s₀ m ρ) (Pipeline.FramePost cfgs (dats m) 0 (V m)) :=
  (θ_run defs _ _).mono (fun _ h => h.1) (run_main_quiescent m ρ)

/-- The run ends with the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ (dats m) (A_eq m) (run_main m ρ)) ((θ_run defs _ _).mono (fun _ h => h.2) (run_main_quiescent m ρ))

end Cert.Proof.InI

end
-- ==== Proof.InVBlk.lean ====
module

public import proofs.«01_k».proof.Proof.InIDat
public import Idealize.ShloMosaic.Lib.Pipeline.ValueKit
public import Idealize.ShloMosaic.Lib.Pointwise

/-! The blocks a point reads, as parts of the arguments. -/

@[expose] public section

set_option maxRecDepth 16384

noncomputable section

open Idealize.ShloMosaic Idealize.ShloMosaic.TcCoe Idealize.SL.Sem

namespace Cert.Proof.InI

open Cert.InProjIdeal Cert.InProjIdeal.Gen

variable (m : (ℓ : Loc nD τ sig) → Buf (Elt Ideal) ℓ)

/-- The column blocks of the four windows of weights at a step of a row of tiles. -/
def cb0 (n : ℕ) : ℕ := if n < 3 then 4 * n + 0 else if n = 3 then 12 else 2 * n + 6
theorem cb0_lt (n : ℕ) (h : n < 20) : cb0 n < 80 := by unfold cb0; split_ifs <;> omega
/-- The column tile each of the four weight windows reads. -/
def cb1 (n : ℕ) : ℕ := if n < 3 then 4 * n + 1 else if n = 3 then 13 else 2 * n + 7
theorem cb1_lt (n : ℕ) (h : n < 20) : cb1 n < 80 := by unfold cb1; split_ifs <;> omega
def cb2 (n : ℕ) : ℕ := if n < 3 then 4 * n + 2 else if n = 3 then 46 else 2 * n + 39
theorem cb2_lt (n : ℕ) (h : n < 20) : cb2 n < 80 := by unfold cb2; split_ifs <;> omega
def cb3 (n : ℕ) : ℕ := if n < 3 then 4 * n + 3 else if n = 3 then 79 else 2 * n + 40
theorem cb3_lt (n : ℕ) (h : n < 20) : cb3 n < 80 := by unfold cb3; split_ifs <;> omega

/-- Where each window's block stands at a point: the row tile `t / 20`, the step `t % 20`. -/
theorem idx : ∀ t : Fin cfg0.N, win0_0.index t = ![0] ∧ win0_1.index t = ![0] ∧ win0_2.index t = ![t.val / 20, 0] ∧ win0_3.index t = ![0, t.val / 20]
    ∧ win0_12.index t = ![0, t.val / 20] ∧ win0_13.index t = ![0, t.val / 20] ∧ win0_14.index t = ![min (t.val % 20) 2, t.val / 20, 0]
    ∧ win0_15.index t = ![t.val / 20, 0] ∧ win0_16.index t = ![t.val / 20, 0] ∧ win0_17.index t = ![0, t.val / 20] ∧ win0_18.index t = ![t.val / 20, 0]
    ∧ win0_19.index t = ![t.val / 20, 0] ∧ win0_20.index t = ![0, t.val / 20] :=
  (by decide +kernel : ∀ t : Fin grid0.N, _)
theorem idxw : ∀ t : Fin cfg0.N, win0_4.index t = ![0, cb0 (t.val % 20)] ∧ win0_5.index t = ![0, cb1 (t.val % 20)] ∧ win0_6.index t = ![0, cb2 (t.val % 20)] ∧ win0_7.index t = ![0, cb3 (t.val % 20)]
    ∧ win0_8.index t = ![0, cb0 (t.val % 20)] ∧ win0_9.index t = ![0, cb1 (t.val % 20)] ∧ win0_10.index t = ![0, cb2 (t.val % 20)] ∧ win0_11.index t = ![0, cb3 (t.val % 20)] :=
  (by decide +kernel : ∀ t : Fin grid0.N, _)
/-- The grid has 560 points. -/
theorem points : ∀ t : Fin cfg0.N, t.val < 560 := (by decide +kernel : ∀ t : Fin grid0.N, _)

/-- The row of an element of a point's row tile. -/
def row (t : Fin cfg0.N) (r : Fin 512) : Fin 14336 := ⟨t.val / 20 * 512 + r.val, by have := points t; omega⟩
/-- The row a lane of a point stands for. -/
theorem row_val (t : Fin cfg0.N) (r : Fin 512) : (row t r : ℕ) = t.val / 20 * 512 + r.val := rfl
/-- The column of the weight a lane of each tile reads. -/
def col0 (t : Fin cfg0.N) (l : Fin 128) : Fin 10240 := ⟨cb0 (t.val % 20) * 128 + l.val, by have := cb0_lt (t.val % 20) (by omega); omega⟩
theorem col0_val (t : Fin cfg0.N) (l : Fin 128) : (col0 t l : ℕ) = cb0 (t.val % 20) * 128 + l.val := rfl
def col1 (t : Fin cfg0.N) (l : Fin 128) : Fin 10240 := ⟨cb1 (t.val % 20) * 128 + l.val, by have := cb1_lt (t.val % 20) (by omega); omega⟩
theorem col1_val (t : Fin cfg0.N) (l : Fin 128) : (col1 t l : ℕ) = cb1 (t.val % 20) * 128 + l.val := rfl
def col2 (t : Fin cfg0.N) (l : Fin 128) : Fin 10240 := ⟨cb2 (t.val % 20) * 128 + l.val, by have := cb2_lt (t.val % 20) (by omega); omega⟩
theorem col2_val (t : Fin cfg0.N) (l : Fin 128) : (col2 t l : ℕ) = cb2 (t.val % 20) * 128 + l.val := rfl
def col3 (t : Fin cfg0.N) (l : Fin 128) : Fin 10240 := ⟨cb3 (t.val % 20) * 128 + l.val, by have := cb3_lt (t.val % 20) (by omega); omega⟩
theorem col3_val (t : Fin cfg0.N) (l : Fin 128) : (col3 t l : ℕ) = cb3 (t.val % 20) * 128 + l.val := rfl

/-- Each block at an index is the argument at the place the point reads. -/
theorem x_at (c : Dev nD) (t : Fin cfg0.N) (r : Fin 512) (k : Fin 12288) :
    iblk m c 2 t (ix2 r k) = m ((c : Thread nD τ).loc main_arg0) (ix2 (row t r) k) := by
  have hr := row_val t r
  blk_ext [iblk, V, idx t]
theorem xs_at (c : Dev nD) (t : Fin cfg0.N) (r : Fin 512) :
    iblk m c 3 t (ix2 0 r) = m ((c : Thread nD τ).loc main_arg1) (ix2 0 (row t r)) := by
  have hr := row_val t r
  blk_ext [iblk, V, idx t]
theorem cs_at (c : Dev nD) (t : Fin cfg0.N) (j : Fin 64) (r : Fin 512) :
    iblk m c 12 t (ix2 j r) = m ((c : Thread nD τ).loc main_arg4) (ix2 (row t r) j) := by
  have hr := row_val t r
  blk_simp [iblk, idx t]
  entry_read
  pointwise
  blk_ext [idx t]
theorem sn_at (c : Dev nD) (t : Fin cfg0.N) (j : Fin 64) (r : Fin 512) :
    iblk m c 13 t (ix2 j r) = m ((c : Thread nD τ).loc main_arg5) (ix2 (row t r) j) := by
  have hr := row_val t r
  blk_simp [iblk, idx t]
  entry_read
  pointwise
  blk_ext [idx t]
theorem ks_at (c : Dev nD) (t : Fin cfg0.N) (h) :
    iblk m c 0 t (Shape.Idx.first (s := S1) h) = m ((c : Thread nD τ).loc main_arg6) (ix1 0) := by
  blk_ext [iblk, V, idx t]
theorem vs_at (c : Dev nD) (t : Fin cfg0.N) (h) :
    iblk m c 1 t (Shape.Idx.first (s := S1) h) = m ((c : Thread nD τ).loc main_arg7) (ix1 0) := by
  blk_ext [iblk, V, idx t]
theorem w0_at (c : Dev nD) (t : Fin cfg0.N) (k : Fin 12288) (l : Fin 128) :
    iblk m c 4 t (ix2 k l) = m ((c : Thread nD τ).loc main_arg2) (ix2 k (col0 t l)) := by
  have hr := col0_val t l
  blk_ext [iblk, V, idxw t]
theorem s0_at (c : Dev nD) (t : Fin cfg0.N) (l : Fin 128) :
    iblk m c 8 t (ix2 0 l) = m ((c : Thread nD τ).loc main_arg3) (ix1 (col0 t l)) := by
  have hr := col0_val t l
  blk_simp [iblk, idxw t]
  entry_read
  pointwise
  blk_ext [idxw t]
theorem w1_at (c : Dev nD) (t : Fin cfg0.N) (k : Fin 12288) (l : Fin 128) :
    iblk m c 5 t (ix2 k l) = m ((c : Thread nD τ).loc main_arg2) (ix2 k (col1 t l)) := by
  have hr := col1_val t l
  blk_ext [iblk, V, idxw t]
theorem s1_at (c : Dev nD) (t : Fin cfg0.N) (l : Fin 128) :
    iblk m c 9 t (ix2 0 l) = m ((c : Thread nD τ).loc main_arg3) (ix1 (col1 t l)) := by
  have hr := col1_val t l
  blk_simp [iblk, idxw t]
  entry_read
  pointwise
  blk_ext [idxw t]
theorem w2_at (c : Dev nD) (t : Fin cfg0.N) (k : Fin 12288) (l : Fin 128) :
    iblk m c 6 t (ix2 k l) = m ((c : Thread nD τ).loc main_arg2) (ix2 k (col2 t l)) := by
  have hr := col2_val t l
  blk_ext [iblk, V, idxw t]
theorem s2_at (c : Dev nD) (t : Fin cfg0.N) (l : Fin 128) :
    iblk m c 10 t (ix2 0 l) = m ((c : Thread nD τ).loc main_arg3) (ix1 (col2 t l)) := by
  have hr := col2_val t l
  blk_simp [iblk, idxw t]
  entry_read
  pointwise
  blk_ext [idxw t]
theorem w3_at (c : Dev nD) (t : Fin cfg0.N) (k : Fin 12288) (l : Fin 128) :
    iblk m c 7 t (ix2 k l) = m ((c : Thread nD τ).loc main_arg2) (ix2 k (col3 t l)) := by
  have hr := col3_val t l
  blk_ext [iblk, V, idxw t]
theorem s3_at (c : Dev nD) (t : Fin cfg0.N) (l : Fin 128) :
    iblk m c 11 t (ix2 0 l) = m ((c : Thread nD τ).loc main_arg3) (ix1 (col3 t l)) := by
  have hr := col3_val t l
  blk_simp [iblk, idxw t]
  entry_read
  pointwise
  blk_ext [idxw t]

end Cert.Proof.InI

end
-- ==== Proof.InVMath.lean ====
module

public import Idealize.ShloMosaic.Lib.Pipeline.ValueKit
public import Idealize.ShloMosaic.Lib.Pointwise

/-! Arithmetic shared by the kernel and the reference: the rotation, the clipping, the gate, the scale. -/

@[expose] public section

set_option maxRecDepth 16384

noncomputable section

open Idealize.ShloMosaic Idealize.ShloMosaic.TcCoe Idealize.SL.Sem

namespace Cert.Proof.InM

/-- One rotated lane: the pair partner enters with the sine, negated on the even lanes. -/
def ropeE (y : Fin 128 → EReal) (c s : Fin 64 → EReal) (l : Fin 128) : EReal :=
  if (l : ℕ) % 2 = 0 then y l * c ⟨(l : ℕ) / 2, by omega⟩ - y ⟨((l : ℕ) + 1) % 128, Nat.mod_lt _ (by norm_num)⟩ * s ⟨(l : ℕ) / 2, by omega⟩
  else y ⟨(l : ℕ) - 1, by omega⟩ * s ⟨(l : ℕ) / 2, by omega⟩ + y l * c ⟨(l : ℕ) / 2, by omega⟩

/-- The rotation as a product with the gathered cosine and a product of the rolled lane with the signed sine. -/
theorem rope_core (y : Fin 128 → EReal) (c s : Fin 64 → EReal) (l : Fin 128) (p : BitVec 1) (hp : p = if (l : ℕ) % 2 = 0 then 1#1 else 0#1)
    (h1 : ((l : ℕ) + 128 - 127) % 128 < 128) (h2 : ((l : ℕ) + 128 - 1) % 128 < 128) :
    y l * c ⟨(l : ℕ) / 2, by omega⟩ +
      Scalar.select p (y ⟨((l : ℕ) + 128 - 127) % 128, h1⟩) (y ⟨((l : ℕ) + 128 - 1) % 128, h2⟩) *
        Scalar.select p (0 - s ⟨(l : ℕ) / 2, by omega⟩) (s ⟨(l : ℕ) / 2, by omega⟩) = ropeE y c s l := by
  subst hp
  unfold ropeE
  by_cases h : (l : ℕ) % 2 = 0
  · rw [if_pos h, if_pos h]
    show _ + y _ * (0 - _) = _
    rw [zero_sub, mul_neg, sub_eq_add_neg]
    congr 5
  · rw [if_neg h, if_neg h]
    show _ + y _ * s _ = _
    rw [add_comm]
    congr 4
    omega

/-- The clipping of the quantiser. -/
def clipE (z : EReal) : EReal := min (Ideal.ofBits FTy.f32 1138753536#32) (max (Ideal.ofBits FTy.f32 3286237184#32) z)

/-- The gated product of one column. -/
def siluE (g u : EReal) : EReal := g * Ideal.logistic g * u

/-- The magnitude. -/
def absE (z : EReal) : EReal := FloatOps.absf (F := Ideal) (φ := .f32) z

/-- The scale of a row whose largest magnitude is `m`. -/
def scaleE (m : EReal) : EReal := if m = 0 then 1 else Ideal.div m (Ideal.ofBits .f32 0x43E00000#32)

/-- The word of 448. -/
theorem ofBits_448 : Ideal.ofBits .f32 0x43E00000#32 = ((448 : ℝ) : EReal) := by
  simp [Ideal.ofBits, Ideal.ieee, -EReal.coe_mul]; norm_num

/-- The quotient by 448 is the product with its exact reciprocal. -/
theorem scaleE_mul (m : EReal) : (if m = 0 then 1 else m * ((1 / 448 : ℝ) : EReal)) = scaleE m := by
  unfold scaleE
  rw [ofBits_448, Ideal.div_coe (by norm_num)]

/-- A scale is never zero. -/
theorem scaleE_ne (m : EReal) : scaleE m ≠ 0 := by
  rw [← scaleE_mul]
  split_ifs with h
  · exact one_ne_zero
  · refine mul_ne_zero h ?_
    norm_num

/-- The product with the reciprocal of a scale is the quotient by it. -/
theorem mul_recip (h m : EReal) : h * Ideal.div 1 (scaleE m) = Ideal.div h (scaleE m) := by
  unfold Ideal.div
  rw [if_neg (scaleE_ne m), if_neg (scaleE_ne m), one_mul]

end Cert.Proof.InM

end
-- ==== Proof.InVProd.lean ====
module

public import proofs.«01_k».proof.Proof.InIVal
public import proofs.«01_k».proof.Proof.InVMath
public import Idealize.ShloMosaic.Lib.Pipeline.ValueKit
public import Idealize.ShloMosaic.Lib.Pointwise

/-! The products of one step of the kernel at an index. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

/-- The scale column at an index. -/
theorem xcol_at (x5 : Vec Ideal S1x512 .f32) (y : S512x128.Idx) :
    xcol x5 y = x5 (ix2 0 (y 0)) := by
  unfold xcol xcolPieces
  canon_tiles x h
  all_goals idx_vars x
  all_goals pointwise [k0_pay66, k0_pay67, k0_pay68, k0_pay69]
  all_goals blk_ext

/-- Each tile of columns at an index. -/
theorem y0_at (I : Blocks Ideal) (X : Vec Ideal S512x128 .f32) (r : Fin 512) (l : Fin 128) :
    y0 I X (ix2 r l) = (∑ k : Fin 12288, I.x (ix2 r k) * I.w0 (ix2 k l)) * X (ix2 r l) * I.s0 (ix2 0 l) := by
  pointwise [y0, k0_pay71, k0_pay70]
theorem y1_at (I : Blocks Ideal) (X : Vec Ideal S512x128 .f32) (r : Fin 512) (l : Fin 128) :
    y1 I X (ix2 r l) = (∑ k : Fin 12288, I.x (ix2 r k) * I.w1 (ix2 k l)) * X (ix2 r l) * I.s1 (ix2 0 l) := by
  pointwise [y1, k0_pay72, k0_pay70]
theorem y2_at (I : Blocks Ideal) (X : Vec Ideal S512x128 .f32) (r : Fin 512) (l : Fin 128) :
    y2 I X (ix2 r l) = (∑ k : Fin 12288, I.x (ix2 r k) * I.w2 (ix2 k l)) * X (ix2 r l) * I.s2 (ix2 0 l) := by
  pointwise [y2, k0_pay73, k0_pay70]
  simp only [dif_neg (show ¬ 256 + (l : ℕ) < 128 by omega), dif_neg (show ¬ 256 + (l : ℕ) - 128 < 128 by omega), dif_pos (show 256 + (l : ℕ) - 128 - 128 < 128 by omega), show 256 + (l : ℕ) - 128 - 128 = l by omega]
  simp only [dif_pos (show (l : ℕ) < 128 from l.isLt)]

/-- The fourth column block, scaled. -/
def y3 (I : Blocks Ideal) (X : Vec Ideal S512x128 .f32) : FVec Ideal S512x128 .f32 := k0_pay1 (y3u I X) (y3s I)
theorem y3_at (I : Blocks Ideal) (X : Vec Ideal S512x128 .f32) (r : Fin 512) (l : Fin 128) :
    y3 I X (ix2 r l) = (∑ k : Fin 12288, I.x (ix2 r k) * I.w3 (ix2 k l)) * X (ix2 r l) * I.s3 (ix2 0 l) := by
  pointwise [y3, y3u, y3s, k0_pay1, k0_pay74, k0_pay75, k0_pay70]
  simp only [dif_neg (show ¬ 384 + (l : ℕ) < 128 by omega), dif_neg (show ¬ 384 + (l : ℕ) - 128 < 128 by omega), dif_neg (show ¬ 384 + (l : ℕ) - 128 - 128 < 128 by omega), show 384 + (l : ℕ) - 128 - 128 - 128 = l by omega]

/-- The scaled product at an index. -/
theorem p6_at (y u : FVec Ideal S512x128 .f32) (r : Fin 512) (l : Fin 128) :
    k0_pay6 y u (ix2 r l) = siluE (y (ix2 r l)) (u (ix2 r l)) := by
  pointwise [k0_pay6]
  rw [zero_sub]
  rfl
/-- The last tile of gated products at an index. -/
theorem tail_at (I : Blocks Ideal) (X : Vec Ideal S512x128 .f32) (r : Fin 512) (l : Fin 128) :
    tail I X (ix3 0 r l) = siluE (y2 I X (ix2 r l)) (y3 I X (ix2 r l)) := by
  pointwise [tail, k0_pay4, k0_pay3, k0_pay38]
  rw [zero_sub]
  rfl
/-- The first running maximum at an index. -/
theorem amax0_at (I : Blocks Ideal) (X : Vec Ideal S512x128 .f32) (r : Fin 512) (l : Fin 128) :
    amax0 I X (ix2 r l) = absE (siluE (y2 I X (ix2 r l)) (y3 I X (ix2 r l))) := by
  pointwise [amax0, k0_pay5, k0_pay3, k0_pay38]
  rw [zero_sub]
  rfl
/-- A step's gated products at an index, first half. -/
theorem hRow_at (I : Blocks Ideal) (X : Vec Ideal S512x128 .f32) (r : Fin 512) (l : Fin 128) :
    hRow I X (ix3 0 r ⟨(l : ℕ), by omega⟩) = siluE (y0 I X (ix2 r l)) (y2 I X (ix2 r l)) := by
  pointwise [hRow, k0_pay8, k0_pay6, k0_pay7]
  rw [zero_sub]
  rfl
/-- A step's gated products at an index, second half. -/
theorem hRow_hi (I : Blocks Ideal) (X : Vec Ideal S512x128 .f32) (r : Fin 512) (l : Fin 128) :
    hRow I X (ix3 0 r ⟨128 + (l : ℕ), by omega⟩) = siluE (y1 I X (ix2 r l)) (y3 I X (ix2 r l)) := by
  pointwise [hRow, k0_pay8, k0_pay6, k0_pay7]
  rw [zero_sub]
  rfl
/-- A further running maximum at an index. -/
theorem amaxS_at (I : Blocks Ideal) (X a : Vec Ideal S512x128 .f32) (r : Fin 512) (l : Fin 128) :
    amaxS I X a (ix2 r l) = max (a (ix2 r l)) (max (absE (siluE (y0 I X (ix2 r l)) (y2 I X (ix2 r l)))) (absE (siluE (y1 I X (ix2 r l)) (y3 I X (ix2 r l))))) := by
  pointwise [amaxS, k0_pay9, k0_pay6, k0_pay7]
  rw [zero_sub, zero_sub]
  rfl

end Cert.Proof.InI

end
-- ==== Proof.InVPoint.lean ====
module

public import proofs.«01_k».proof.Proof.InVBlk
public import proofs.«01_k».proof.Proof.InVProd
public import Idealize.ShloMosaic.Lib.Pipeline.ValueKit
public import Idealize.ShloMosaic.Lib.Pointwise

/-! The products of a point from the arguments. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

/-- The argument arrays: the codes and their row scales, the weights and their column scales, the cosines and the sines, the scales of the key and of the value. -/
def A0 (c : Dev nD) : Vec Ideal S14336x12288 .fp8e4m3 := m ((c : Thread nD τ).loc main_arg0)
/-- The row scales. -/
def A1 (c : Dev nD) : Vec Ideal S1x14336 .f32 := m ((c : Thread nD τ).loc main_arg1)
/-- The weight. -/
def A2 (c : Dev nD) : Vec Ideal S12288x10240 .fp8e4m3 := m ((c : Thread nD τ).loc main_arg2)
/-- The column scales. -/
def A3 (c : Dev nD) : Vec Ideal S10240 .f32 := m ((c : Thread nD τ).loc main_arg3)
/-- The cosines. -/
def A4 (c : Dev nD) : Vec Ideal S14336x64 .f32 := m ((c : Thread nD τ).loc main_arg4)
/-- The sines. -/
def A5 (c : Dev nD) : Vec Ideal S14336x64 .f32 := m ((c : Thread nD τ).loc main_arg5)
/-- The key scale. -/
def A6 (c : Dev nD) : Vec Ideal S1 .f32 := m ((c : Thread nD τ).loc main_arg6)
/-- The value scale. -/
def A7 (c : Dev nD) : Vec Ideal S1 .f32 := m ((c : Thread nD τ).loc main_arg7)

/-- One element of the projection: the scaled product. -/
def YY (c : Dev nD) (i : Fin 14336) (n : Fin 10240) : EReal :=
  (∑ k : Fin 12288, A0 m c (ix2 i k) * A2 m c (ix2 k n)) * A1 m c (ix2 0 i) * A3 m c (ix1 n)

/-- One element of the gated product. -/
def HH (c : Dev nD) (i : Fin 14336) (j : Fin 4224) : EReal :=
  siluE (YY m c i ⟨1792 + (j : ℕ), by omega⟩) (YY m c i ⟨6016 + (j : ℕ), by omega⟩)

/-- The scale column a point reads is its row tile's. -/
theorem xAt_at (c : Dev nD) : ∀ (n : ℕ) (y : S512x128.Idx), n < 560 → xAt m c n y = A1 m c (ix2 0 (row (pt n) (y 0)))
  | 0, y, _ => by
    unfold xAt
    rw [xcol_at]
    exact xs_at m c (pt 0) (y 0)
  | n + 1, y, hn => by
    by_cases h0 : (n + 1) % 20 = 0
    · unfold xAt
      rw [if_pos h0, xcol_at]
      exact xs_at m c (pt (n + 1)) (y 0)
    · rw [xAt_succ m c n h0, xAt_at c n y (by omega)]
      refine congrArg (fun i => A1 m c (ix2 0 i)) (Fin.ext ?_)
      show (n % 560) / 20 * 512 + _ = ((n + 1) % 560) / 20 * 512 + _
      rw [Nat.mod_eq_of_lt (by omega : n < 560), Nat.mod_eq_of_lt hn, show (n + 1) / 20 = n / 20 by omega]

/-- Each tile of a point at an index is the scaled product at its column. -/
theorem y0_pt (c : Dev nD) (n : ℕ) (hn : n < 560) (r : Fin 512) (l : Fin 128) :
    y0 (Bk m c (pt n)) (xAt m c n) (ix2 r l) = YY m c (row (pt n) r) (col0 (pt n) l) := by
  rw [y0_at, xAt_at m c n _ hn]
  unfold YY
  refine Ideal.mul_congr (Ideal.mul_congr (Finset.sum_congr rfl fun k _ => Ideal.mul_congr ?_ ?_) rfl) ?_
  · exact x_at m c (pt n) r k
  · exact w0_at m c (pt n) k l
  · exact s0_at m c (pt n) l
theorem y1_pt (c : Dev nD) (n : ℕ) (hn : n < 560) (r : Fin 512) (l : Fin 128) :
    y1 (Bk m c (pt n)) (xAt m c n) (ix2 r l) = YY m c (row (pt n) r) (col1 (pt n) l) := by
  rw [y1_at, xAt_at m c n _ hn]
  unfold YY
  refine Ideal.mul_congr (Ideal.mul_congr (Finset.sum_congr rfl fun k _ => Ideal.mul_congr ?_ ?_) rfl) ?_
  · exact x_at m c (pt n) r k
  · exact w1_at m c (pt n) k l
  · exact s1_at m c (pt n) l
theorem y2_pt (c : Dev nD) (n : ℕ) (hn : n < 560) (r : Fin 512) (l : Fin 128) :
    y2 (Bk m c (pt n)) (xAt m c n) (ix2 r l) = YY m c (row (pt n) r) (col2 (pt n) l) := by
  rw [y2_at, xAt_at m c n _ hn]
  unfold YY
  refine Ideal.mul_congr (Ideal.mul_congr (Finset.sum_congr rfl fun k _ => Ideal.mul_congr ?_ ?_) rfl) ?_
  · exact x_at m c (pt n) r k
  · exact w2_at m c (pt n) k l
  · exact s2_at m c (pt n) l
theorem y3_pt (c : Dev nD) (n : ℕ) (hn : n < 560) (r : Fin 512) (l : Fin 128) :
    y3 (Bk m c (pt n)) (xAt m c n) (ix2 r l) = YY m c (row (pt n) r) (col3 (pt n) l) := by
  rw [y3_at, xAt_at m c n _ hn]
  unfold YY
  refine Ideal.mul_congr (Ideal.mul_congr (Finset.sum_congr rfl fun k _ => Ideal.mul_congr ?_ ?_) rfl) ?_
  · exact x_at m c (pt n) r k
  · exact w3_at m c (pt n) k l
  · exact s3_at m c (pt n) l

end Cert.Proof.InI

end
-- ==== Proof.InVRope.lean ====
module

public import proofs.«01_k».proof.Proof.InIVal
public import proofs.«01_k».proof.Proof.InVMath
public import Idealize.ShloMosaic.Lib.Pipeline.ValueKit
public import Idealize.ShloMosaic.Lib.Pointwise

/-! The rotated tiles of the kernel at an index. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

/-- Half of a lane index, as the kernel computes it. -/
def halfIdx (v : BitVec 32) : BitVec 32 :=
  Scalar.select
    (IntOp.andi
      (IntOp.cmpi CmpIPredicate.ne
        (IntOp.subi (BitVec.setWidth 32 (IntOp.cmpi CmpIPredicate.sgt v 0#32)) (BitVec.setWidth 32 (IntOp.cmpi CmpIPredicate.slt v 0#32)))
        (Scalar.subi (Scalar.extui (Scalar.cmpi CmpIPredicate.sgt 2#32 0#32)) (Scalar.extui (Scalar.cmpi CmpIPredicate.slt 2#32 0#32))))
      (IntOp.cmpi CmpIPredicate.ne (IntOp.remsi ArithUnit.vector v 2#32) 0#32))
    (IntOp.subi (IntOp.divsi ArithUnit.vector v 2#32) 1#32)
    (IntOp.divsi ArithUnit.vector v 2#32)
/-- The lane the kernel gathers from, at an offset. -/
def wrapIdx (w : BitVec 32) : BitVec 32 := Scalar.select (IntOp.cmpi CmpIPredicate.slt w 0#32) (IntOp.addi w 128#32) w
/-- The gather's lane is half the lane. -/
theorem wrap_half : ∀ l : Fin 128, (wrapIdx (halfIdx (BitVec.ofNat 32 (l : ℕ)))).toNat % 128 = (l : ℕ) / 2 := by decide +kernel
theorem wrap_half64 : ∀ l : Fin 128, (wrapIdx (IntOp.addi (halfIdx (BitVec.ofNat 32 (l : ℕ))) 64#32)).toNat % 128 = 64 + (l : ℕ) / 2 := by decide +kernel

/-- The cosine lanes at an index. -/
theorem cosq_at (cs sn : Vec Ideal S64x512 .f32) (r : Fin 512) (l : Fin 128) :
    cosq cs sn (ix2 r l) = cs (ix2 ⟨(l : ℕ) / 2, by omega⟩ r) := by
  have key := wrap_half l
  unfold wrapIdx halfIdx at key
  pointwise [cosq, k0_pay14, k0_pay13]
  simp only [key]
  rw [dif_pos (by omega)]
theorem pay13_hi (cs sn : Vec Ideal S64x512 .f32) (r : Fin 512) (l : Fin 64) :
    k0_pay13 cs sn (ix2 r ⟨64 + (l : ℕ), by omega⟩) = sn (ix2 l r) := by
  pointwise [k0_pay13]
/-- The sine lanes at an index. -/
theorem sinq_at (cs sn : Vec Ideal S64x512 .f32) (r : Fin 512) (l : Fin 128) :
    sinq cs sn (ix2 r l) = sn (ix2 ⟨(l : ℕ) / 2, by omega⟩ r) := by
  have key := wrap_half64 l
  unfold wrapIdx halfIdx at key
  pointwise [sinq, k0_pay17, k0_pay15, k0_pay16]
  simp only [key]
  exact pay13_hi cs sn r ⟨(l : ℕ) / 2, by omega⟩
/-- The cosine lanes for the key at an index. -/
theorem cosk_at (cs sn : Vec Ideal S64x512 .f32) (r : Fin 512) (l : Fin 128) :
    cosk cs sn (ix2 r l) = cs (ix2 ⟨(l : ℕ) / 2, by omega⟩ r) := by
  have key := wrap_half l
  unfold wrapIdx halfIdx at key
  pointwise [cosk, k0_pay28, k0_pay27]
  simp only [key]
  rw [dif_pos (by omega)]
theorem pay27_hi (cs sn : Vec Ideal S64x512 .f32) (r : Fin 512) (l : Fin 64) :
    k0_pay27 cs sn (ix2 r ⟨64 + (l : ℕ), by omega⟩) = sn (ix2 l r) := by
  pointwise [k0_pay27]
/-- The sine lanes for the key at an index. -/
theorem sink_at (cs sn : Vec Ideal S64x512 .f32) (r : Fin 512) (l : Fin 128) :
    sink cs sn (ix2 r l) = sn (ix2 ⟨(l : ℕ) / 2, by omega⟩ r) := by
  have key := wrap_half64 l
  unfold wrapIdx halfIdx at key
  pointwise [sink, k0_pay31, k0_pay29, k0_pay30]
  simp only [key]
  exact pay27_hi cs sn r ⟨(l : ℕ) / 2, by omega⟩

/-- The parity at an index. -/
theorem parq_at (r : Fin 512) (l : Fin 128) :
    k0_pay20 parq k0_pay19 (ix2 r l) = if (l : ℕ) % 2 = 0 then 1#1 else 0#1 := by
  pointwise [parq, k0_pay18, k0_pay19, k0_pay20]
  revert l
  decide +kernel
theorem park_at (r : Fin 512) (l : Fin 128) :
    IntOp.cmpi CmpIPredicate.eq (park (ix2 r l)) (k0_pay33 (ix2 r l)) = if (l : ℕ) % 2 = 0 then 1#1 else 0#1 := by
  pointwise [park, k0_pay32, k0_pay33]
  revert l
  decide +kernel

/-- Each of the four rotated heads at an index. -/
theorem p22_at (y c s : FVec Ideal S512x128 .f32) (cf sf : Fin 64 → EReal) (r : Fin 512) (l : Fin 128)
    (hc : ∀ l : Fin 128, c (ix2 r l) = cf ⟨(l : ℕ) / 2, by omega⟩) (hs : ∀ l : Fin 128, s (ix2 r l) = sf ⟨(l : ℕ) / 2, by omega⟩) :
    k0_pay22 y c s parq k0_pay19 (ix3 0 r l) = ropeE (fun l => y (ix2 r l)) cf sf l := by
  pointwise [k0_pay22, k0_pay21]
  rw [hc, hs]
  exact rope_core (fun l => y (ix2 r l)) cf sf l _ (parq_at r l) _ _
theorem p23_at (y c s : FVec Ideal S512x128 .f32) (cf sf : Fin 64 → EReal) (r : Fin 512) (l : Fin 128)
    (hc : ∀ l : Fin 128, c (ix2 r l) = cf ⟨(l : ℕ) / 2, by omega⟩) (hs : ∀ l : Fin 128, s (ix2 r l) = sf ⟨(l : ℕ) / 2, by omega⟩) :
    k0_pay23 y c s parq k0_pay19 (ix3 0 r l) = ropeE (fun l => y (ix2 r l)) cf sf l := by
  pointwise [k0_pay23, k0_pay21]
  rw [hc, hs]
  exact rope_core (fun l => y (ix2 r l)) cf sf l _ (parq_at r l) _ _
theorem p24_at (y c s : FVec Ideal S512x128 .f32) (cf sf : Fin 64 → EReal) (r : Fin 512) (l : Fin 128)
    (hc : ∀ l : Fin 128, c (ix2 r l) = cf ⟨(l : ℕ) / 2, by omega⟩) (hs : ∀ l : Fin 128, s (ix2 r l) = sf ⟨(l : ℕ) / 2, by omega⟩) :
    k0_pay24 y c s parq k0_pay19 (ix3 0 r l) = ropeE (fun l => y (ix2 r l)) cf sf l := by
  pointwise [k0_pay24, k0_pay21]
  rw [hc, hs]
  exact rope_core (fun l => y (ix2 r l)) cf sf l _ (parq_at r l) _ _
theorem p25_at (y c s : FVec Ideal S512x128 .f32) (cf sf : Fin 64 → EReal) (r : Fin 512) (l : Fin 128)
    (hc : ∀ l : Fin 128, c (ix2 r l) = cf ⟨(l : ℕ) / 2, by omega⟩) (hs : ∀ l : Fin 128, s (ix2 r l) = sf ⟨(l : ℕ) / 2, by omega⟩) :
    k0_pay2 (k0_pay25 y c) (k0_pay26 y s parq k0_pay19) (ix3 0 r l) = ropeE (fun l => y (ix2 r l)) cf sf l := by
  pointwise [k0_pay2, k0_pay25, k0_pay26, k0_pay21]
  rw [hc, hs]
  exact rope_core (fun l => y (ix2 r l)) cf sf l _ (parq_at r l) _ _

theorem p34_at (y c s : FVec Ideal S512x128 .f32) (ks : EReal) (cf sf : Fin 64 → EReal) (r : Fin 512) (l : Fin 128)
    (hc : ∀ l : Fin 128, c (ix2 r l) = cf ⟨(l : ℕ) / 2, by omega⟩) (hs : ∀ l : Fin 128, s (ix2 r l) = sf ⟨(l : ℕ) / 2, by omega⟩) :
    k0_pay34 (F := Ideal) y c s park k0_pay33 ks (ix2 r l) = clipE (Ideal.div (ropeE (fun l => y (ix2 r l)) cf sf l) ks) := by
  pointwise [k0_pay34]
  rw [hc, hs]
  rw [rope_core (fun l => y (ix2 r l)) cf sf l _ (park_at r l) _ _]
  rfl
theorem p36_at (y c s : FVec Ideal S512x128 .f32) (ks : EReal) (r : Fin 512) (l : Fin 128) :
    k0_pay36 (F := Ideal) y c s park k0_pay33 ks (ix2 l r) = k0_pay34 (F := Ideal) y c s park k0_pay33 ks (ix2 r l) := by
  pointwise [k0_pay36]
theorem p35_at (y : FVec Ideal S512x128 .f32) (ks : EReal) (r : Fin 512) (l : Fin 128) :
    k0_pay35 (F := Ideal) y ks (ix2 r l) = clipE (Ideal.div (y (ix2 r l)) ks) := by
  pointwise [k0_pay35]
  rfl
theorem p37_at (y : FVec Ideal S512x128 .f32) (ks : EReal) (r : Fin 512) (l : Fin 128) :
    k0_pay37 (F := Ideal) y ks (ix2 r l) = k0_pay35 (F := Ideal) y ks (ix2 r l) := by
  pointwise [k0_pay37]

end Cert.Proof.InI

end
-- ==== Proof.InVHeads.lean ====
module

public import proofs.«01_k».proof.Proof.InVRope
public import proofs.«01_k».proof.Proof.InVProd
public import Idealize.ShloMosaic.Lib.Pipeline.ValueKit
public import Idealize.ShloMosaic.Lib.Pointwise

/-! The blocks of heads, key and value at an index. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

/-- The block of four heads at an index. -/
theorem q_at (I : Blocks Ideal) (X : Vec Ideal S512x128 .f32) (cs sn : Vec Ideal S64x512 .f32) (y : S4x512x128.Idx) (Y : Fin 4 → Fin 512 → Fin 128 → EReal)
    (H0 : ∀ r l, y0 I X (ix2 r l) = Y 0 r l) (H1 : ∀ r l, y1 I X (ix2 r l) = Y 1 r l) (H2 : ∀ r l, y2 I X (ix2 r l) = Y 2 r l) (H3 : ∀ r l, y3 I X (ix2 r l) = Y 3 r l) :
    qBlk I X cs sn y = ropeE (Y (y 0) (y 1)) (fun j => cs (ix2 j (y 1))) (fun j => sn (ix2 j (y 1))) (y 2) := by
  unfold qBlk qPieces
  rw [show k0_pay1 (y3u I X) (y3s I) = y3 I X from rfl]
  canon_tiles x h
  case piece0 =>
    idx_vars x
    have e0 : y 0 = (3 : Fin 4) := Fin.ext (by show (y 0 : ℕ) = 3; omega)
    have e1 : y 1 = x1 := Fin.ext (by omega)
    have e2 : y 2 = x2 := Fin.ext (by omega)
    obtain rfl : x0 = 0 := Fin.ext (by show (x0 : ℕ) = 0; omega)
    rw [e0, e1, e2]
    refine (p25_at (y3 I X) _ _ (fun j => cs (ix2 j x1)) (fun j => sn (ix2 j x1)) x1 x2 (fun l => cosq_at cs sn x1 l) (fun l => sinq_at cs sn x1 l)).trans ?_
    simp only [H3]
  case piece1 =>
    idx_vars x
    have e0 : y 0 = (2 : Fin 4) := Fin.ext (by show (y 0 : ℕ) = 2; omega)
    have e1 : y 1 = x1 := Fin.ext (by omega)
    have e2 : y 2 = x2 := Fin.ext (by omega)
    obtain rfl : x0 = 0 := Fin.ext (by show (x0 : ℕ) = 0; omega)
    rw [e0, e1, e2]
    refine (p24_at (y2 I X) _ _ (fun j => cs (ix2 j x1)) (fun j => sn (ix2 j x1)) x1 x2 (fun l => cosq_at cs sn x1 l) (fun l => sinq_at cs sn x1 l)).trans ?_
    simp only [H2]
  case piece2 =>
    idx_vars x
    have e0 : y 0 = (1 : Fin 4) := Fin.ext (by show (y 0 : ℕ) = 1; omega)
    have e1 : y 1 = x1 := Fin.ext (by omega)
    have e2 : y 2 = x2 := Fin.ext (by omega)
    obtain rfl : x0 = 0 := Fin.ext (by show (x0 : ℕ) = 0; omega)
    rw [e0, e1, e2]
    refine (p23_at (y1 I X) _ _ (fun j => cs (ix2 j x1)) (fun j => sn (ix2 j x1)) x1 x2 (fun l => cosq_at cs sn x1 l) (fun l => sinq_at cs sn x1 l)).trans ?_
    simp only [H1]
  case piece3 =>
    idx_vars x
    have e0 : y 0 = (0 : Fin 4) := Fin.ext (by show (y 0 : ℕ) = 0; omega)
    have e1 : y 1 = x1 := Fin.ext (by omega)
    have e2 : y 2 = x2 := Fin.ext (by omega)
    obtain rfl : x0 = 0 := Fin.ext (by show (x0 : ℕ) = 0; omega)
    rw [e0, e1, e2]
    refine (p22_at (y0 I X) _ _ (fun j => cs (ix2 j x1)) (fun j => sn (ix2 j x1)) x1 x2 (fun l => cosq_at cs sn x1 l) (fun l => sinq_at cs sn x1 l)).trans ?_
    simp only [H0]

end Cert.Proof.InI

end
-- ==== Proof.InVHeadsAt.lean ====
module

public import proofs.«01_k».proof.Proof.InVPoint
public import proofs.«01_k».proof.Proof.InVHeads
public import Idealize.ShloMosaic.Lib.Pipeline.ValueKit
public import Idealize.ShloMosaic.Lib.Pointwise

/-! The heads, keys and values a point leaves, from the arguments. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

theorem pt_v (n : ℕ) (hn : n < 560) : (pt n).val = n := Nat.mod_eq_of_lt hn

/-- The rows of a tile are the same at all its steps. -/
theorem row_eq (t t' : Fin cfg0.N) (h : t.val / 20 = t'.val / 20) (r : Fin 512) : row t r = row t' r := by
  apply Fin.ext; rw [row_val, row_val, h]

/-- Four heads after a point. -/
theorem qAt_at (c : Dev nD) (t : Fin cfg0.N) (y : S4x512x128.Idx) :
    qAt m c t.val y = ropeE (fun l => YY m c (row t (y 1)) ⟨(4 * min (t.val % 20) 2 + (y 0 : ℕ)) * 128 + (l : ℕ), by have h0 : (y 0 : ℕ) < 4 := (y 0).isLt; have := l.isLt; omega⟩)
      (fun j => A4 m c (ix2 (row t (y 1)) j)) (fun j => A5 m c (ix2 (row t (y 1)) j)) (y 2) := by
  have ht := points t
  have hl : lastq t.val < 560 := by unfold lastq; omega
  have hp := pt_v _ hl
  have hrow : ∀ r, row (pt (lastq t.val)) r = row t r := fun r => row_eq _ _ (by rw [hp]; unfold lastq; omega) r
  have hm : (pt (lastq t.val)).val % 20 = min (t.val % 20) 2 := by rw [hp]; unfold lastq; omega
  unfold qAt
  refine (q_at _ _ _ _ y (fun b r l => YY m c (row t r) ⟨(4 * min (t.val % 20) 2 + (b : ℕ)) * 128 + (l : ℕ), by have := b.isLt; have := l.isLt; omega⟩) ?_ ?_ ?_ ?_).trans ?_
  · intro r l
    rw [y0_pt m c _ hl, hrow]
    refine congrArg (YY m c _) (Fin.ext ?_)
    rw [col0_val, hm]
    unfold cb0
    rw [if_pos (by omega)]
    rfl
  · intro r l
    rw [y1_pt m c _ hl, hrow]
    refine congrArg (YY m c _) (Fin.ext ?_)
    rw [col1_val, hm]
    unfold cb1
    rw [if_pos (by omega)]
    rfl
  · intro r l
    rw [y2_pt m c _ hl, hrow]
    refine congrArg (YY m c _) (Fin.ext ?_)
    rw [col2_val, hm]
    unfold cb2
    rw [if_pos (by omega)]
    rfl
  · intro r l
    rw [y3_pt m c _ hl, hrow]
    refine congrArg (YY m c _) (Fin.ext ?_)
    rw [col3_val, hm]
    unfold cb3
    rw [if_pos (by omega)]
    rfl
  · have e1 : (fun j => iblk m c 12 (pt (lastq t.val)) (ix2 j (y 1))) = fun j => A4 m c (ix2 (row t (y 1)) j) := by
      funext j
      exact (cs_at m c _ j (y 1)).trans (congrArg (fun i => A4 m c (ix2 i j)) (hrow (y 1)))
    have e2 : (fun j => iblk m c 13 (pt (lastq t.val)) (ix2 j (y 1))) = fun j => A5 m c (ix2 (row t (y 1)) j) := by
      funext j
      exact (sn_at m c _ j (y 1)).trans (congrArg (fun i => A5 m c (ix2 i j)) (hrow (y 1)))
    rw [e1, e2]

theorem keyq_lt (t : Fin cfg0.N) : keyq t.val < 560 := by have := points t; unfold keyq; omega
theorem key_row (t : Fin cfg0.N) (r : Fin 512) : row (pt (keyq t.val)) r = row t r :=
  row_eq _ _ (by rw [pt_v _ (keyq_lt t)]; unfold keyq; omega) r
theorem key_step (t : Fin cfg0.N) : (pt (keyq t.val)).val % 20 = 3 := by rw [pt_v _ (keyq_lt t)]; unfold keyq; omega

/-- The key's columns and the value's columns at the key's step. -/
theorem key_y0 (c : Dev nD) (t : Fin cfg0.N) (r : Fin 512) (l : Fin 128) :
    y0 (Bk m c (pt (keyq t.val))) (xAt m c (keyq t.val)) (ix2 r l) = YY m c (row t r) ⟨1536 + (l : ℕ), by omega⟩ := by
  rw [y0_pt m c _ (keyq_lt t), key_row]
  refine congrArg (YY m c _) (Fin.ext ?_)
  rw [col0_val, key_step]
  rfl
theorem key_y1 (c : Dev nD) (t : Fin cfg0.N) (r : Fin 512) (l : Fin 128) :
    y1 (Bk m c (pt (keyq t.val))) (xAt m c (keyq t.val)) (ix2 r l) = YY m c (row t r) ⟨1664 + (l : ℕ), by omega⟩ := by
  rw [y1_pt m c _ (keyq_lt t), key_row]
  refine congrArg (YY m c _) (Fin.ext ?_)
  rw [col1_val, key_step]
  rfl

/-- The code of one element of the key. -/
def KK (c : Dev nD) (i : Fin 14336) (l : Fin 128) : EReal :=
  clipE (Ideal.div (ropeE (fun l => YY m c i ⟨1536 + (l : ℕ), by omega⟩) (fun j => A4 m c (ix2 i j)) (fun j => A5 m c (ix2 i j)) l) (A6 m c (ix1 0)))
/-- The code of one element of the value. -/
def VV (c : Dev nD) (i : Fin 14336) (l : Fin 128) : EReal := clipE (Ideal.div (YY m c i ⟨1664 + (l : ℕ), by omega⟩) (A7 m c (ix1 0)))

/-- The key codes a point leaves. -/
theorem kAt_at (c : Dev nD) (t : Fin cfg0.N) (r : Fin 512) (l : Fin 128) : kAt m c t.val (ix2 r l) = KK m c (row t r) l := by
  unfold kAt kBlk
  refine (p34_at _ _ _ _ (fun j => A4 m c (ix2 (row t r) j)) (fun j => A5 m c (ix2 (row t r) j)) r l ?_ ?_).trans ?_
  · intro l
    rw [cosk_at]
    exact (cs_at m c _ _ r).trans (congrArg (fun i => A4 m c (ix2 i _)) (key_row t r))
  · intro l
    rw [sink_at]
    exact (sn_at m c _ _ r).trans (congrArg (fun i => A5 m c (ix2 i _)) (key_row t r))
  · unfold KK
    simp only [key_y0]
    exact congrArg (fun z => clipE (Ideal.div _ z)) (ks_at m c _ _)
/-- The value codes a point leaves. -/
theorem vAt_at (c : Dev nD) (t : Fin cfg0.N) (r : Fin 512) (l : Fin 128) : vAt m c t.val (ix2 r l) = VV m c (row t r) l := by
  unfold vAt vBlk
  refine (p35_at _ _ r l).trans ?_
  unfold VV
  rw [key_y1]
  exact congrArg (fun z => clipE (Ideal.div _ z)) (vs_at m c _ _)
/-- The transposed key codes a point leaves. -/
theorem ktAt_at (c : Dev nD) (t : Fin cfg0.N) (r : Fin 512) (l : Fin 128) : ktAt m c t.val (ix2 l r) = KK m c (row t r) l := by
  unfold ktAt ktBlk
  refine (p36_at _ _ _ _ r l).trans ?_
  exact kAt_at m c t r l
/-- The widened value codes a point leaves. -/
theorem vbAt_at (c : Dev nD) (t : Fin cfg0.N) (r : Fin 512) (l : Fin 128) : vbAt m c t.val (ix2 r l) = VV m c (row t r) l := by
  unfold vbAt vbBlk
  refine (p37_at _ _ r l).trans ?_
  exact vAt_at m c t r l

end Cert.Proof.InI

end
-- ==== Proof.InVScale.lean ====
module

public import proofs.«01_k».proof.Proof.InIVal
public import proofs.«01_k».proof.Proof.InVMath
public import Idealize.ShloMosaic.Lib.Pipeline.ValueKit
public import Idealize.ShloMosaic.Lib.Pointwise

/-! The scale of a row at an index. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

/-- The scale of a row, from the running maxima of its lanes. -/
theorem p39_at (a : Vec Ideal S512x128 .f32) (r : Fin 512) :
    k0_pay39 (F := Ideal) a (ix2 r 0) = scaleE (Finset.fold max (Ideal.ofBits .f32 0xFF800000#32) (fun x : Fin 128 => a (ix2 r x)) Finset.univ) := by
  pointwise [k0_pay39]
  rw [← scaleE_mul]
  rw [IdealRules.named_const.ideal_named_scalar _ _ _ _ rfl]
/-- The scale laid over the lanes. -/
theorem p40_at (a : Vec Ideal S512x128 .f32) (r : Fin 512) (l : Fin 128) : k0_pay40 a (ix2 r l) = k0_pay39 a (ix2 r 0) := by
  unfold k0_pay40
  generalize k0_pay39 a = G
  pointwise
/-- The reciprocal of the scale of a row. -/
theorem p45_at (a : Vec Ideal S512x128 .f32) (r : Fin 512) : k0_pay45 (F := Ideal) a (ix2 r 0) = Ideal.div 1 (k0_pay39 a (ix2 r 0)) := by
  unfold k0_pay45
  generalize k0_pay39 a = G
  pointwise
/-- The row of output scales at an index. -/
theorem hs_at (a : Vec Ideal S512x128 .f32) (y : S1x512.Idx) :
    hsBlk a y = k0_pay39 a (ix2 (y 1) 0) := by
  unfold hsBlk hsPieces
  canon_tiles x h
  all_goals idx_vars x
  all_goals open_payloads
  all_goals pointwise [p40_at]
  all_goals generalize k0_pay39 a = G
  all_goals blk_ext

end Cert.Proof.InI

end
-- ==== Proof.InVCodes.lean ====
module

public import proofs.«01_k».proof.Proof.InIVal
public import proofs.«01_k».proof.Proof.InVMath
public import Idealize.ShloMosaic.Lib.Pipeline.ValueKit
public import Idealize.ShloMosaic.Lib.Pointwise

/-! The codes of the gated half at an index. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

/-- One element of the row tile of codes. -/
theorem hq_core (hf : Fin 512 → Fin 4224 → EReal) (M : Fin 512 → EReal) (y0 : Fin 512) (y1 : Fin 4224) (z b : EReal)
    (r : Fin 512) (c : Fin 4224) (e0 : (y0 : ℕ) = r) (e1 : (y1 : ℕ) = c) (hz : z = hf r c) (hb : b = Ideal.div 1 (scaleE (M r))) :
    min (Ideal.ofBits FTy.f32 1138753536#32) (max (Ideal.ofBits FTy.f32 3286237184#32) (z * b)) = clipE (Ideal.div (hf y0 y1) (scaleE (M y0))) := by
  obtain rfl : y0 = r := Fin.ext e0
  obtain rfl : y1 = c := Fin.ext e1
  rw [hz, hb, mul_recip]
  rfl

/-- The codes of the gated half at an index. -/
theorem hq_at (h : Vec Ideal S17x512x256 .f32) (r15 : Vec Ideal S1x512x256 .f32) (a : Vec Ideal S512x128 .f32)
    (hf : Fin 512 → Fin 4224 → EReal) (M : Fin 512 → EReal)
    (H : ∀ (k : Fin 17) (r : Fin 512) (j : Fin 256) (hj : 256 * (k : ℕ) + j < 4224), (k : ℕ) ≠ 15 → h (ix3 k r j) = hf r ⟨256 * (k : ℕ) + j, hj⟩)
    (H15 : ∀ (r : Fin 512) (j : Fin 256), r15 (ix3 0 r j) = hf r ⟨3840 + (j : ℕ), by omega⟩)
    (HM : ∀ r : Fin 512, k0_pay45 (F := Ideal) a (ix2 r 0) = Ideal.div 1 (scaleE (M r))) (y : S512x4224.Idx) :
    hqBlk h r15 a y = clipE (Ideal.div (hf (y 0) (y 1)) (scaleE (M (y 0)))) := by
  have cov := hq_cover h r15 a y
  unfold hqPieces hld at cov
  unfold hqBlk hqPieces hld
  have HM0 := HM
  generalize k0_pay45 a = B at HM cov ⊢
  canon_tiles x g using cov
  case piece0 =>
    idx_vars x
    pointwise [k0_pay10, k0_pay11, k0_pay12, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
    refine hq_core hf M _ _ _ _ x0 ⟨4096 + (x1 : ℕ), by omega⟩ (by omega) (by dsimp only; omega) (H 16 x0 ⟨x1, by omega⟩ _ (by decide)) (HM _)
  case piece1 =>
    idx_vars x
    pointwise [k0_pay10, k0_pay11, k0_pay12, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65]
    refine hq_core hf M _ _ _ _ x0 ⟨3840 + (x1 : ℕ), by omega⟩ (by omega) (by dsimp only; omega) (H15 x0 x1) (HM _)
  case piece2 =>
    idx_vars x
    pointwise [k0_pay10]
    refine hq_core hf M _ _ _ _ x0 ⟨256 * 14 + (x1 : ℕ), by omega⟩ (by omega) (by dsimp only; omega) (H 14 x0 x1 _ (by decide)) (HM _)
  case piece3 =>
    idx_vars x
    pointwise [k0_pay65]
    refine hq_core hf M _ _ _ _ x0 ⟨256 * 13 + (x1 : ℕ), by omega⟩ (by omega) (by dsimp only; omega) (H 13 x0 x1 _ (by decide)) (HM _)
  case piece4 =>
    idx_vars x
    pointwise [k0_pay64]
    refine hq_core hf M _ _ _ _ x0 ⟨256 * 12 + (x1 : ℕ), by omega⟩ (by omega) (by dsimp only; omega) (H 12 x0 x1 _ (by decide)) (HM _)
  case piece5 =>
    idx_vars x
    pointwise [k0_pay63]
    refine hq_core hf M _ _ _ _ x0 ⟨256 * 11 + (x1 : ℕ), by omega⟩ (by omega) (by dsimp only; omega) (H 11 x0 x1 _ (by decide)) (HM _)
  case piece6 =>
    idx_vars x
    pointwise [k0_pay60, k0_pay61, k0_pay62]
    refine hq_core hf M _ _ _ _ x0 ⟨256 * 10 + (x1 : ℕ), by omega⟩ (by omega) (by dsimp only; omega) (H 10 x0 x1 _ (by decide)) (HM _)
  case piece7 =>
    idx_vars x
    pointwise [k0_pay59]
    refine hq_core hf M _ _ _ _ x0 ⟨256 * 9 + (x1 : ℕ), by omega⟩ (by omega) (by dsimp only; omega) (H 9 x0 x1 _ (by decide)) (HM _)
  case piece8 =>
    idx_vars x
    pointwise [k0_pay58]
    refine hq_core hf M _ _ _ _ x0 ⟨256 * 8 + (x1 : ℕ), by omega⟩ (by omega) (by dsimp only; omega) (H 8 x0 x1 _ (by decide)) (HM _)
  case piece9 =>
    idx_vars x
    pointwise [k0_pay55, k0_pay56, k0_pay57]
    refine hq_core hf M _ _ _ _ x0 ⟨256 * 7 + (x1 : ℕ), by omega⟩ (by omega) (by dsimp only; omega) (H 7 x0 x1 _ (by decide)) (HM _)
  case piece10 =>
    idx_vars x
    pointwise [k0_pay54]
    refine hq_core hf M _ _ _ _ x0 ⟨256 * 6 + (x1 : ℕ), by omega⟩ (by omega) (by dsimp only; omega) (H 6 x0 x1 _ (by decide)) (HM _)
  case piece11 =>
    idx_vars x
    pointwise [k0_pay53]
    refine hq_core hf M _ _ _ _ x0 ⟨256 * 5 + (x1 : ℕ), by omega⟩ (by omega) (by dsimp only; omega) (H 5 x0 x1 _ (by decide)) (HM _)
  case piece12 =>
    idx_vars x
    pointwise [k0_pay52]
    refine hq_core hf M _ _ _ _ x0 ⟨256 * 4 + (x1 : ℕ), by omega⟩ (by omega) (by dsimp only; omega) (H 4 x0 x1 _ (by decide)) (HM _)
  case piece13 =>
    idx_vars x
    pointwise [k0_pay51]
    refine hq_core hf M _ _ _ _ x0 ⟨256 * 3 + (x1 : ℕ), by omega⟩ (by omega) (by dsimp only; omega) (H 3 x0 x1 _ (by decide)) (HM _)
  case piece14 =>
    idx_vars x
    pointwise [k0_pay50]
    refine hq_core hf M _ _ _ _ x0 ⟨256 * 2 + (x1 : ℕ), by omega⟩ (by omega) (by dsimp only; omega) (H 2 x0 x1 _ (by decide)) (HM _)
  case piece15 =>
    idx_vars x
    pointwise [k0_pay49]
    refine hq_core hf M _ _ _ _ x0 ⟨256 * 1 + (x1 : ℕ), by omega⟩ (by omega) (by dsimp only; omega) (H 1 x0 x1 _ (by decide)) (HM _)
  case piece16 =>
    idx_vars x
    pointwise [k0_pay46, k0_pay47, k0_pay48]
    refine hq_core hf M _ _ _ _ x0 ⟨256 * 0 + (x1 : ℕ), by omega⟩ (by omega) (by dsimp only; omega) (H 0 x0 x1 _ (by decide)) (HM0 _)

end Cert.Proof.InI

end
-- ==== Proof.InVGate.lean ====
module

public import proofs.«01_k».proof.Proof.InVPoint
public import proofs.«01_k».proof.Proof.InVScale
public import proofs.«01_k».proof.Proof.InVCodes
public import Idealize.ShloMosaic.Lib.Pipeline.ValueKit
public import Idealize.ShloMosaic.Lib.Pointwise

/-! The gated half a row of tiles leaves, from the arguments: products, running maximum, scales, codes. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

theorem pt_w (n : ℕ) (hn : n < 560) : (pt n).val = n := Nat.mod_eq_of_lt hn

/-- The half tile of the gated product. -/
theorem tail_pt (c : Dev nD) (n : ℕ) (hn : n < 560) (h3 : n % 20 = 3) (r : Fin 512) (l : Fin 128) :
    siluE (y2 (Bk m c (pt n)) (xAt m c n) (ix2 r l)) (y3 (Bk m c (pt n)) (xAt m c n) (ix2 r l)) = HH m c (row (pt n) r) ⟨4096 + (l : ℕ), by omega⟩ := by
  rw [y2_pt m c n hn, y3_pt m c n hn]
  unfold HH
  refine congrArg₂ siluE (congrArg (YY m c _) (Fin.ext ?_)) (congrArg (YY m c _) (Fin.ext ?_))
  · rw [col2_val, pt_w n hn, h3]
    show 46 * 128 + (l : ℕ) = 1792 + (4096 + (l : ℕ))
    omega
  · rw [col3_val, pt_w n hn, h3]
    show 79 * 128 + (l : ℕ) = 6016 + (4096 + (l : ℕ))
    omega

/-- The two halves of a full tile of the gated product. -/
theorem lo_pt (c : Dev nD) (n : ℕ) (hn : n < 560) (h3 : 3 < n % 20) (r : Fin 512) (l : Fin 128) :
    siluE (y0 (Bk m c (pt n)) (xAt m c n) (ix2 r l)) (y2 (Bk m c (pt n)) (xAt m c n) (ix2 r l)) = HH m c (row (pt n) r) ⟨256 * (n % 20 - 4) + (l : ℕ), by omega⟩ := by
  rw [y0_pt m c n hn, y2_pt m c n hn]
  unfold HH
  refine congrArg₂ siluE (congrArg (YY m c _) (Fin.ext ?_)) (congrArg (YY m c _) (Fin.ext ?_))
  · rw [col0_val, pt_w n hn]
    unfold cb0
    rw [if_neg (by omega), if_neg (by omega)]
    dsimp only
    omega
  · rw [col2_val, pt_w n hn]
    unfold cb2
    rw [if_neg (by omega), if_neg (by omega)]
    dsimp only
    omega
theorem hi_pt (c : Dev nD) (n : ℕ) (hn : n < 560) (h3 : 3 < n % 20) (r : Fin 512) (l : Fin 128) :
    siluE (y1 (Bk m c (pt n)) (xAt m c n) (ix2 r l)) (y3 (Bk m c (pt n)) (xAt m c n) (ix2 r l)) = HH m c (row (pt n) r) ⟨256 * (n % 20 - 4) + 128 + (l : ℕ), by omega⟩ := by
  rw [y1_pt m c n hn, y3_pt m c n hn]
  unfold HH
  refine congrArg₂ siluE (congrArg (YY m c _) (Fin.ext ?_)) (congrArg (YY m c _) (Fin.ext ?_))
  · rw [col1_val, pt_w n hn]
    unfold cb1
    rw [if_neg (by omega), if_neg (by omega)]
    dsimp only
    omega
  · rw [col3_val, pt_w n hn]
    unfold cb3
    rw [if_neg (by omega), if_neg (by omega)]
    dsimp only
    omega

/-- A full tile of the gated product. -/
theorem hRow_pt (c : Dev nD) (n : ℕ) (hn : n < 560) (h3 : 3 < n % 20) (r : Fin 512) (j : Fin 256) :
    hRow (Bk m c (pt n)) (xAt m c n) (ix3 0 r j) = HH m c (row (pt n) r) ⟨256 * (n % 20 - 4) + (j : ℕ), by omega⟩ := by
  by_cases hj : (j : ℕ) < 128
  · exact (hRow_at _ _ r ⟨(j : ℕ), hj⟩).trans (lo_pt m c n hn h3 r ⟨(j : ℕ), hj⟩)
  · have ej : j = ⟨128 + ((⟨(j : ℕ) - 128, by omega⟩ : Fin 128) : ℕ), by dsimp only; omega⟩ := Fin.ext (by dsimp only; omega)
    rw [ej]
    refine (hRow_hi _ _ r _).trans ((hi_pt m c n hn h3 r _).trans (congrArg (HH m c _) (Fin.ext ?_)))
    dsimp only
    omega

/-- A row is the same at the next step. -/
theorem row_next (n : ℕ) (hn : n + 1 < 560) (h : (n + 1) % 20 ≠ 0) (r : Fin 512) : row (pt n) r = row (pt (n + 1)) r := by
  apply Fin.ext
  rw [row_val, row_val, pt_w n (by omega), pt_w _ hn, show (n + 1) / 20 = n / 20 by omega]

/-- The scratch of gated products, where it has been stored. -/
theorem hAt_at (c : Dev nD) : ∀ (n : ℕ) (k : Fin 17) (r : Fin 512) (j : Fin 256) (hb : 256 * (k : ℕ) + (j : ℕ) < 4224), n < 560 →
    Stored (n % 20) (ix3 k r j) → hAt m c n (ix3 k r j) = HH m c (row (pt n) r) ⟨256 * (k : ℕ) + (j : ℕ), hb⟩
  | 0, k, r, j, hb, _, hs => by
    exfalso
    rcases hs with h1 | h1
    · have := h1.1; omega
    · have : (k : ℕ) + 4 ≤ 0 := h1
      omega
  | n + 1, k, r, j, hb, hn, hs => by
    have hs' : (3 ≤ (n + 1) % 20 ∧ (k : ℕ) = 16 ∧ (j : ℕ) < 128) ∨ (k : ℕ) + 4 ≤ (n + 1) % 20 := hs
    unfold hAt
    by_cases h3 : (n + 1) % 20 = 3
    · rw [if_pos h3]
      have hk : (k : ℕ) = 16 ∧ (j : ℕ) < 128 := by omega
      unfold hTail
      rw [dif_pos (show ((ix3 k r j : S17x512x256.Idx) 0 : ℕ) = 16 ∧ ((ix3 k r j : S17x512x256.Idx) 2 : ℕ) < 128 from hk)]
      refine (tail_at _ _ r ⟨(j : ℕ), hk.2⟩).trans ((tail_pt m c (n + 1) hn h3 r _).trans (congrArg (HH m c _) (Fin.ext ?_)))
      dsimp only
      omega
    · rw [if_neg h3, if_pos (by omega)]
      unfold hPut
      by_cases hk : (k : ℕ) = (n + 1) % 20 - 4
      · rw [if_pos (show ((ix3 k r j : S17x512x256.Idx) 0 : ℕ) = (n + 1) % 20 - 4 from hk)]
        refine (hRow_pt m c (n + 1) hn (by omega) r j).trans (congrArg (HH m c _) (Fin.ext ?_))
        dsimp only
        omega
      · rw [if_neg (show ¬((ix3 k r j : S17x512x256.Idx) 0 : ℕ) = (n + 1) % 20 - 4 from hk)]
        rw [← row_next n hn (by omega)]
        refine hAt_at c n k r j hb (by omega) ?_
        show (3 ≤ n % 20 ∧ (k : ℕ) = 16 ∧ (j : ℕ) < 128) ∨ (k : ℕ) + 4 ≤ n % 20
        omega

/-- The running maximum, as the bounds it has: the largest magnitude among the columns of its lane already done. -/
theorem aAt_le (c : Dev nD) : ∀ (n : ℕ) (r : Fin 512) (l : Fin 128) (z : EReal), n < 560 → 3 ≤ n % 20 →
    (aAt m c n (ix2 r l) ≤ z ↔ ∀ j : Fin 4224, (j : ℕ) % 128 = l → (4096 ≤ (j : ℕ) ∨ (j : ℕ) < 256 * (n % 20 - 3)) → absE (HH m c (row (pt n) r) j) ≤ z)
  | 0, r, l, z, _, h => by omega
  | n + 1, r, l, z, hn, h => by
    unfold aAt
    by_cases h3 : (n + 1) % 20 = 3
    · rw [if_pos h3, amax0_at, tail_pt m c (n + 1) hn h3]
      constructor
      · intro H j hj hj'
        exact (le_of_eq (congrArg (fun j => absE (HH m c (row (pt (n + 1)) r) j)) (Fin.ext (by dsimp only; omega)))).trans H
      · intro H
        exact H _ (by dsimp only; omega) (Or.inl (by dsimp only; omega))
    · rw [if_neg h3, amaxS_at, lo_pt m c (n + 1) hn (by omega), hi_pt m c (n + 1) hn (by omega), max_le_iff, max_le_iff,
        aAt_le c n r l z (by omega) (by omega), row_next n hn (by omega)]
      constructor
      · rintro ⟨H, H1, H2⟩ j hj hj'
        by_cases hA : (j : ℕ) = 256 * ((n + 1) % 20 - 4) + l
        · exact (le_of_eq (congrArg (fun j => absE (HH m c (row (pt (n + 1)) r) j)) (Fin.ext hA))).trans H1
        by_cases hB : (j : ℕ) = 256 * ((n + 1) % 20 - 4) + 128 + l
        · exact (le_of_eq (congrArg (fun j => absE (HH m c (row (pt (n + 1)) r) j)) (Fin.ext hB))).trans H2
        exact H j hj (by omega)
      · intro H
        exact ⟨fun j hj hj' => H j hj (by omega), H _ (by dsimp only; omega) (Or.inr (by dsimp only; omega)), H _ (by dsimp only; omega) (Or.inr (by dsimp only; omega))⟩

/-- The largest magnitude of a row. -/
def MM (c : Dev nD) (i : Fin 14336) : EReal := Finset.fold max (Ideal.ofBits .f32 0xFF800000#32) (fun x : Fin 4224 => absE (HH m c i x)) Finset.univ

/-- At the last step of a row of tiles the lanes' maxima together are the rows'. -/
theorem amax_row (c : Dev nD) (n : ℕ) (hn : n < 560) (h : n % 20 = 19) (r : Fin 512) :
    Finset.fold max (Ideal.ofBits .f32 0xFF800000#32) (fun x : Fin 128 => aAt m c n (ix2 r x)) Finset.univ = MM m c (row (pt n) r) := by
  refine eq_of_forall_ge_iff fun z => ?_
  unfold MM
  rw [Finset.fold_max_le, Finset.fold_max_le]
  refine and_congr_right fun _ => ?_
  constructor
  · intro H j _
    have hl := (aAt_le m c n r ⟨(j : ℕ) % 128, Nat.mod_lt _ (by norm_num)⟩ z hn (by omega)).1 (H _ (Finset.mem_univ _))
    exact hl j rfl (by rw [h]; omega)
  · intro H l _
    exact (aAt_le m c n r l z hn (by omega)).2 fun j _ _ => H j (Finset.mem_univ _)

/-- The scale of a row from the lanes' maxima. -/
theorem scale_row (c : Dev nD) (n : ℕ) (hn : n < 560) (h : n % 20 = 19) (r : Fin 512) :
    k0_pay39 (F := Ideal) (aAt m c n) (ix2 r 0) = scaleE (MM m c (row (pt n) r)) := by
  rw [p39_at, amax_row m c n hn h]

/-- The output scales at the last step of a row of tiles. -/
theorem hsAt_at (c : Dev nD) (t : Fin cfg0.N) (h : t.val % 20 = 19) (r : Fin 512) :
    hsAt m c t.val (ix2 0 r) = scaleE (MM m c (row t r)) := by
  have ht := points t
  unfold hsAt
  refine (hs_at _ _).trans ((scale_row m c t.val ht h r).trans ?_)
  rw [pt_val]

/-- The output codes at the last step of a row of tiles. -/
theorem hqAt_at (c : Dev nD) (t : Fin cfg0.N) (h : t.val % 20 = 19) (r : Fin 512) (j : Fin 4224) :
    hqAt m c t.val (ix2 r j) = clipE (Ideal.div (HH m c (row t r) j) (scaleE (MM m c (row t r)))) := by
  have ht := points t
  have hr : ∀ r, row (pt (t.val - 1)) r = row t r := fun r => by
    apply Fin.ext
    rw [row_val, row_val, pt_w _ (by omega), show (t.val - 1) / 20 = t.val / 20 by omega]
  unfold hqAt
  refine (hq_at _ _ _ (fun r j => HH m c (row t r) j) (fun r => MM m c (row t r)) ?_ ?_ ?_ _)
  · intro k r j hj hk
    rw [← hr]
    refine hAt_at m c (t.val - 1) k r j hj (by omega) ?_
    show (3 ≤ (t.val - 1) % 20 ∧ (k : ℕ) = 16 ∧ (j : ℕ) < 128) ∨ (k : ℕ) + 4 ≤ (t.val - 1) % 20
    have := k.isLt
    omega
  · intro r j
    have e := hRow_pt m c t.val ht (by omega) r j
    rw [pt_val] at e ⊢
    refine e.trans (congrArg (HH m c _) (Fin.ext ?_))
    dsimp only
    omega
  · intro r
    rw [p45_at, scale_row m c t.val ht h, pt_val]

end Cert.Proof.InI

end
-- ==== Proof.InVArr.lean ====
module

public import proofs.«01_k».proof.Proof.InVHeadsAt
public import proofs.«01_k».proof.Proof.InVGate
public import Idealize.ShloMosaic.Lib.Pipeline.ValueKit
public import Idealize.ShloMosaic.Lib.Pointwise

/-! The seven arrays the kernel leaves, element by element. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

/-- The rotated query heads, element by element. -/
def vq (c : Dev nD) : S12x14336x128.Idx → EReal := fun i =>
  ropeE (fun l => YY m c (i 1) ⟨(i 0 : ℕ) * 128 + (l : ℕ), by have h0 : (i 0 : ℕ) < 12 := (i 0).isLt; have := l.isLt; omega⟩)
    (fun j => A4 m c (ix2 (i 1) j)) (fun j => A5 m c (ix2 (i 1) j)) (i 2)

/-- The key codes, element by element. -/
def vk (c : Dev nD) : S14336x128.Idx → EReal := fun i => KK m c (i 0) (i 1)

/-- The value codes, element by element. -/
def vv (c : Dev nD) : S14336x128.Idx → EReal := fun i => VV m c (i 0) (i 1)

/-- The key codes, transposed. -/
def vkt (c : Dev nD) : S128x14336.Idx → EReal := fun i => KK m c (i 1) (i 0)

/-- The codes of the gated half, element by element. -/
def vhq (c : Dev nD) : S14336x4224.Idx → EReal := fun i => clipE (Ideal.div (HH m c (i 0) (i 1)) (scaleE (MM m c (i 0))))

/-- The scales of the gated half, element by element. -/
def vhs (c : Dev nD) : S1x14336.Idx → EReal := fun i => scaleE (MM m c (i 1))

/-- The array behind window 14. -/
theorem arr_q (c : Dev nD) : (dats m 0 c).arrAt 14 cfg0.N = vq m c := by
  refine (dats m 0 c).arrAt_eq_of_covers 14 _ (by decide +kernel) fun t hf y => ?_
  blk_simp
  rw [after0_14]
  obtain ⟨h, r, j, rfl⟩ : ∃ (h : Fin 4) (r : Fin 512) (j : Fin 128), y = ix3 h r j := ⟨y 0, y 1, y 2, by ext a; fin_cases a <;> rfl⟩
  have e : (win0_14.blk t).view.emb (ix3 h r j) = ix3 (⟨4 * min (t.val % 20) 2 + h.val, by omega⟩ : Fin 12) (row t r) j := by
    have hr := points t
    unfold row
    blk_ext [idx t]
  rw [e]
  exact qAt_at m c t (ix3 h r j)

/-- The array behind window 15. -/
theorem arr_k (c : Dev nD) : (dats m 0 c).arrAt 15 cfg0.N = vk m c := by
  refine (dats m 0 c).arrAt_eq_of_covers 15 _ (by decide +kernel) fun t hf y => ?_
  blk_simp
  rw [after0_15]
  obtain ⟨r, j, rfl⟩ : ∃ (r : Fin 512) (j : Fin 128), y = ix2 r j := ⟨y 0, y 1, by ext a; fin_cases a <;> rfl⟩
  have e : (win0_15.blk t).view.emb (ix2 r j) = ix2 (row t r) j := by
    have hr := points t
    unfold row
    blk_ext [idx t]
  rw [e]
  exact kAt_at m c t r j

/-- The array behind window 16. -/
theorem arr_v (c : Dev nD) : (dats m 0 c).arrAt 16 cfg0.N = vv m c := by
  refine (dats m 0 c).arrAt_eq_of_covers 16 _ (by decide +kernel) fun t hf y => ?_
  blk_simp
  rw [after0_16]
  obtain ⟨r, j, rfl⟩ : ∃ (r : Fin 512) (j : Fin 128), y = ix2 r j := ⟨y 0, y 1, by ext a; fin_cases a <;> rfl⟩
  have e : (win0_16.blk t).view.emb (ix2 r j) = ix2 (row t r) j := by
    have hr := points t
    unfold row
    blk_ext [idx t]
  rw [e]
  exact vAt_at m c t r j

/-- The array behind window 17. -/
theorem arr_kt (c : Dev nD) : (dats m 0 c).arrAt 17 cfg0.N = vkt m c := by
  refine (dats m 0 c).arrAt_eq_of_covers 17 _ (by decide +kernel) fun t hf y => ?_
  blk_simp
  rw [after0_17]
  obtain ⟨r, j, rfl⟩ : ∃ (r : Fin 128) (j : Fin 512), y = ix2 r j := ⟨y 0, y 1, by ext a; fin_cases a <;> rfl⟩
  have e : (win0_17.blk t).view.emb (ix2 r j) = ix2 r (row t j) := by
    have hr := points t
    unfold row
    blk_ext [idx t]
  rw [e]
  exact ktAt_at m c t j r

/-- The array behind window 18. -/
theorem arr_vb (c : Dev nD) : (dats m 0 c).arrAt 18 cfg0.N = vv m c := by
  refine (dats m 0 c).arrAt_eq_of_covers 18 _ (by decide +kernel) fun t hf y => ?_
  blk_simp
  rw [after0_18]
  obtain ⟨r, j, rfl⟩ : ∃ (r : Fin 512) (j : Fin 128), y = ix2 r j := ⟨y 0, y 1, by ext a; fin_cases a <;> rfl⟩
  have e : (win0_18.blk t).view.emb (ix2 r j) = ix2 (row t r) j := by
    have hr := points t
    unfold row
    blk_ext [idx t]
  rw [e]
  exact vbAt_at m c t r j

/-- The array behind window 19. -/
theorem arr_hq (c : Dev nD) : (dats m 0 c).arrAt 19 cfg0.N = vhq m c := by
  refine (dats m 0 c).arrAt_eq_of_covers 19 _ (by decide +kernel) fun t hf y => ?_
  blk_simp
  rw [after0_19]
  obtain ⟨r, j, rfl⟩ : ∃ (r : Fin 512) (j : Fin 4224), y = ix2 r j := ⟨y 0, y 1, by ext a; fin_cases a <;> rfl⟩
  have e : (win0_19.blk t).view.emb (ix2 r j) = ix2 (row t r) j := by
    have hr := points t
    unfold row
    blk_ext [idx t]
  rw [e]
  exact hqAt_at m c t (by rw [flush_19] at hf; simpa using hf) r j

/-- The array behind window 20. -/
theorem arr_hs (c : Dev nD) : (dats m 0 c).arrAt 20 cfg0.N = vhs m c := by
  refine (dats m 0 c).arrAt_eq_of_covers 20 _ (by decide +kernel) fun t hf y => ?_
  blk_simp
  rw [after0_20]
  obtain ⟨r, j, rfl⟩ : ∃ (r : Fin 1) (j : Fin 512), y = ix2 r j := ⟨y 0, y 1, by ext a; fin_cases a <;> rfl⟩
  have e : (win0_20.blk t).view.emb (ix2 r j) = ix2 0 (row t j) := by
    have hr := points t
    unfold row
    blk_ext [idx t]
  rw [e]
  exact (congrArg (hsAt m c t.val) (by ext a; fin_cases a <;> first | rfl | exact congrArg Fin.val (Subsingleton.elim r 0))).trans (hsAt_at m c t (by rw [flush_20] at hf; simpa using hf) j)

end Cert.Proof.InI

end
-- ==== Proof.InVRef.lean ====
module

public import proofs.«01_k».proof.Proof.Gen.InRefIdeal.Frame
public import proofs.«01_k».proof.Proof.InVMath
public import Idealize.ShloMosaic.Lib.Pipeline.ValueKit
public import Idealize.ShloMosaic.Lib.Pointwise

/-! The reference's values at an index. -/

@[expose] public section

set_option maxRecDepth 16384

noncomputable section

open Idealize.ShloMosaic Idealize.ShloMosaic.TcCoe Idealize.SL.Sem

namespace Cert.Proof.InR

open Cert.InRefIdeal Cert.InRefIdeal.Gen Cert.Proof.InM

/-- The scaled product at an index. -/
theorem p6_at (v0 : Vec Ideal S14336x12288 .fp8e4m3) (v1 : Vec Ideal S12288x10240 .fp8e4m3) (v3 : Vec Ideal S1x14336 .f32) (v7 : Vec Ideal S10240 .f32) (i : Fin 14336) (n : Fin 10240) :
    k0_pay6 (F := Ideal) v0 v1 v3 v7 (ix2 i n) = (∑ k : Fin 12288, v0 (ix2 i k) * v1 (ix2 k n)) * v3 (ix2 0 i) * v7 (ix1 n) := by
  pointwise [k0_pay6]

/-- The rotation over the pairs of a row, as slices of the pairs give it. -/
theorem rope_pairs (y : Fin 128 → EReal) (c s : Fin 64 → EReal) (l : Fin 128) (h1 : (l : ℕ) / 2 * 2 < 128) (h2 : (l : ℕ) / 2 * 2 + 1 < 128) :
    (if (l : ℕ) % 2 < 1 then y ⟨(l : ℕ) / 2 * 2, h1⟩ * c ⟨(l : ℕ) / 2, by omega⟩ - y ⟨(l : ℕ) / 2 * 2 + 1, h2⟩ * s ⟨(l : ℕ) / 2, by omega⟩
      else y ⟨(l : ℕ) / 2 * 2, h1⟩ * s ⟨(l : ℕ) / 2, by omega⟩ + y ⟨(l : ℕ) / 2 * 2 + 1, h2⟩ * c ⟨(l : ℕ) / 2, by omega⟩) = ropeE y c s l := by
  unfold ropeE
  by_cases h : (l : ℕ) % 2 = 0
  · rw [if_pos h, if_pos (by omega)]
    have e1 : (⟨(l : ℕ) / 2 * 2, h1⟩ : Fin 128) = l := Fin.ext (by dsimp only; omega)
    have e2 : (⟨(l : ℕ) / 2 * 2 + 1, h2⟩ : Fin 128) = ⟨((l : ℕ) + 1) % 128, Nat.mod_lt _ (by norm_num)⟩ := Fin.ext (by dsimp only; omega)
    rw [e1, e2]
  · rw [if_neg h, if_neg (by omega)]
    have e1 : (⟨(l : ℕ) / 2 * 2, h1⟩ : Fin 128) = ⟨(l : ℕ) - 1, by omega⟩ := Fin.ext (by dsimp only; omega)
    have e2 : (⟨(l : ℕ) / 2 * 2 + 1, h2⟩ : Fin 128) = l := Fin.ext (by dsimp only; omega)
    rw [e1, e2]

/-- The rotated heads at an index. -/
theorem q_at (v0 : Vec Ideal S14336x12288 .fp8e4m3) (v1 : Vec Ideal S12288x10240 .fp8e4m3) (v3 : Vec Ideal S1x14336 .f32) (v7 : Vec Ideal S10240 .f32) (c s : Vec Ideal S14336x64 .f32) (h : Fin 12) (i : Fin 14336) (l : Fin 128) :
    k0_pay11 (F := Ideal) (k0_pay7 v0 v1 v3 v7 c s) (ix3 h i l)
      = ropeE (fun l => k0_pay6 v0 v1 v3 v7 (ix2 i ⟨(h : ℕ) * 128 + (l : ℕ), by omega⟩)) (fun j => c (ix2 i j)) (fun j => s (ix2 i j)) l := by
  pointwise [k0_pay11, k0_pay7]
  exact rope_pairs (fun l => k0_pay6 v0 v1 v3 v7 (ix2 i ⟨(h : ℕ) * 128 + (l : ℕ), by omega⟩)) (fun j => c (ix2 i j)) (fun j => s (ix2 i j)) l (by omega) (by omega)

/-- The key codes at an index. -/
theorem k_at (v0 : Vec Ideal S14336x12288 .fp8e4m3) (v1 : Vec Ideal S12288x10240 .fp8e4m3) (v3 : Vec Ideal S1x14336 .f32) (v7 : Vec Ideal S10240 .f32) (c s : Vec Ideal S14336x64 .f32) (ks : Vec Ideal S1 .f32) (i : Fin 14336) (l : Fin 128) :
    k0_pay12 (F := Ideal) c s (k0_pay9 v0 v1 v3 v7) (k0_pay10 v0 v1 v3 v7) ks (ix2 i l)
      = clipE (Ideal.div (ropeE (fun l => k0_pay6 v0 v1 v3 v7 (ix2 i ⟨1536 + (l : ℕ), by omega⟩)) (fun j => c (ix2 i j)) (fun j => s (ix2 i j)) l) (ks (ix1 0))) := by
  pointwise [k0_pay12, k0_pay9, k0_pay10, k0_pay8]
  exact congrArg (fun z => clipE (Ideal.div z (ks (ix1 0)))) (rope_pairs (fun l => k0_pay6 v0 v1 v3 v7 (ix2 i ⟨1536 + (l : ℕ), by omega⟩)) (fun j => c (ix2 i j)) (fun j => s (ix2 i j)) l (by omega) (by omega))

/-- The transposed key codes at an index. -/
theorem kt_at (c s : Vec Ideal S14336x64 .f32) (a : FVec Ideal S14336x1x64 .f32) (b : FVec Ideal S14336x1x64x1 .f32) (ks : Vec Ideal S1 .f32) (i : Fin 14336) (l : Fin 128) :
    k0_pay14 (F := Ideal) c s a b ks (ix2 l i) = k0_pay12 (F := Ideal) c s a b ks (ix2 i l) := by
  unfold k0_pay14
  generalize k0_pay12 (F := Ideal) c s a b ks = G
  pointwise

/-- The value codes at an index. -/
theorem v_at (v10 : FVec Ideal S14336x10240 .f32) (vs : Vec Ideal S1 .f32) (i : Fin 14336) (l : Fin 128) :
    k0_pay13 (F := Ideal) v10 vs (ix2 i l) = clipE (Ideal.div (v10 (ix2 i ⟨1664 + (l : ℕ), by omega⟩)) (vs (ix1 0))) := by
  pointwise [k0_pay13]
  rfl

/-- The gated product at an index. -/
theorem h_at (v10 : FVec Ideal S14336x10240 .f32) (i : Fin 14336) (j : Fin 4224) :
    k0_pay2 (F := Ideal) v10 (ix2 i j) = siluE (v10 (ix2 i ⟨1792 + (j : ℕ), by omega⟩)) (v10 (ix2 i ⟨6016 + (j : ℕ), by omega⟩)) := by
  pointwise [k0_pay2]
  rfl

/-- The maximum of a row. -/
theorem mx_at (H : FVec Ideal S14336x4224 .f32) (i : Fin 14336) :
    multiReduction .maximumf [1] S14336 H 0xFF800000#32 reduces_S14336x4224_S14336 (.inl rfl) rfl (ix1 i)
      = Finset.fold max (Ideal.ofBits .f32 0xFF800000#32) (fun x : Fin 4224 => H (ix2 i x)) Finset.univ := by
  pointwise

/-- The scale from the maximum. -/
theorem sc_core (v95 : FVec Ideal S14336 .f32) (i : Fin 14336) :
   (have v96 : FVec Ideal S14336x1 .f32 := shapeCast S14336x1 v95 shapeCasts_S14336_S14336x1
    have cst_32 : Ideal .f32 := Scalar.ofBits .f32 0x00000000#32
    have v97 : FVec Ideal S14336x1 .f32 := broadcast S14336x1 cst_32
    have v98 : IVec S14336x1 1 := cmpf .oeq v96 v97
    have cst_33 : Ideal .f32 := Scalar.ofBits .f32 0x43E00000#32
    have v99 : FVec Ideal S14336x1 .f32 := broadcast S14336x1 cst_33
    have v100 : FVec Ideal S14336x1 .f32 := divf v96 v99
    have cst_34 : Ideal .f32 := Scalar.ofBits .f32 0x3F800000#32
    have v101 : FVec Ideal S14336x1 .f32 := broadcast S14336x1 cst_34
    have v102 : FVec Ideal S14336x1 .f32 := select v98 v101 v100
    v102) (ix2 i 0) = if v95 (ix1 i) = 0 then 1 else Ideal.div (v95 (ix1 i)) (Ideal.ofBits .f32 0x43E00000#32) := by
  pointwise

/-- The scale of a row. -/
theorem sc_at (v10 : FVec Ideal S14336x10240 .f32) (i : Fin 14336) :
    k0_pay3 (F := Ideal) v10 (ix2 i 0)
      = scaleE (Finset.fold max (Ideal.ofBits .f32 0xFF800000#32) (fun x : Fin 4224 => absE (k0_pay2 (F := Ideal) v10 (ix2 i x))) Finset.univ) := by
  unfold k0_pay3
  generalize k0_pay2 (F := Ideal) v10 = H
  refine (sc_core _ i).trans ?_
  rw [mx_at]
  rfl

/-- A code from a value and a scale. -/
theorem hq_core (H : FVec Ideal S14336x4224 .f32) (G : FVec Ideal S14336x1 .f32) (i : Fin 14336) (j : Fin 4224) :
    minimumf (F := Ideal) (broadcast S14336x4224 (Scalar.ofBits .f32 0x43E00000#32)) (maximumf (broadcast S14336x4224 (Scalar.ofBits .f32 0xC3E00000#32)) (divf (F := Ideal) H (broadcastTo S14336x4224 G broadcasts_S14336x1_S14336x4224))) (ix2 i j)
      = clipE (Ideal.div (H (ix2 i j)) (G (ix2 i 0))) := by
  pointwise
  rfl

/-- The codes of the gated half at an index. -/
theorem hq_at (v10 : FVec Ideal S14336x10240 .f32) (i : Fin 14336) (j : Fin 4224) :
    k0_pay4 (F := Ideal) v10 (ix2 i j) = clipE (Ideal.div (k0_pay2 (F := Ideal) v10 (ix2 i j)) (k0_pay3 (F := Ideal) v10 (ix2 i 0))) := by
  unfold k0_pay4
  generalize k0_pay2 (F := Ideal) v10 = H
  generalize k0_pay3 (F := Ideal) v10 = G
  exact hq_core H G i j

/-- The scales of the gated half at an index. -/
theorem hs_at (v10 : FVec Ideal S14336x10240 .f32) (i : Fin 14336) :
    k0_pay5 (F := Ideal) v10 (ix2 0 i) = k0_pay3 (F := Ideal) v10 (ix2 i 0) := by
  unfold k0_pay5
  generalize k0_pay3 (F := Ideal) v10 = G
  pointwise

end Cert.Proof.InR

end
-- ==== Proof.InVEq.lean ====
module

public import proofs.«01_k».proof.Proof.InVArr
public import proofs.«01_k».proof.Proof.InVRef
public import Idealize.ShloMosaic.Lib.Pipeline.ValueKit
public import Idealize.ShloMosaic.Lib.Pointwise

/-! The reference's seven arrays are those elements too. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

/-- The reference's projection at a row and a column. -/
theorem p6 (c : Dev nD) (i : Fin 14336) (n : Fin 10240) :
    Cert.InRefIdeal.Gen.k0_pay6 (F := Ideal) (A0 m c) (A2 m c) (A1 m c) (A3 m c) (ix2 i n) = YY m c i n := Cert.Proof.InR.p6_at _ _ _ _ i n

/-- The reference's rotated query heads. -/
theorem ref_q (c : Dev nD) : Cert.InRefIdeal.Gen.k0_pay11 (F := Ideal) (Cert.InRefIdeal.Gen.k0_pay7 (A0 m c) (A2 m c) (A1 m c) (A3 m c) (A4 m c) (A5 m c)) = vq m c := by
  funext y
  obtain ⟨h, i, l, rfl⟩ : ∃ (h : Fin 12) (i : Fin 14336) (l : Fin 128), y = ix3 h i l := ⟨y 0, y 1, y 2, by ext a; fin_cases a <;> rfl⟩
  refine (Cert.Proof.InR.q_at _ _ _ _ _ _ h i l).trans ?_
  exact congrArg (fun f => ropeE f (fun j => A4 m c (ix2 i j)) (fun j => A5 m c (ix2 i j)) l) (funext fun l => p6 m c i _)

/-- The key codes of the reference at an index. -/
theorem ref_k2 (c : Dev nD) (i : Fin 14336) (l : Fin 128) :
    Cert.InRefIdeal.Gen.k0_pay12 (F := Ideal) (A4 m c) (A5 m c) (Cert.InRefIdeal.Gen.k0_pay9 (A0 m c) (A2 m c) (A1 m c) (A3 m c)) (Cert.InRefIdeal.Gen.k0_pay10 (A0 m c) (A2 m c) (A1 m c) (A3 m c)) (A6 m c) (ix2 i l) = KK m c i l := by
  refine (Cert.Proof.InR.k_at _ _ _ _ _ _ _ i l).trans ?_
  exact congrArg (fun f => clipE (Ideal.div (ropeE f (fun j => A4 m c (ix2 i j)) (fun j => A5 m c (ix2 i j)) l) (A6 m c (ix1 0)))) (funext fun l => p6 m c i _)

/-- The reference's key codes. -/
theorem ref_k (c : Dev nD) : Cert.InRefIdeal.Gen.k0_pay12 (F := Ideal) (A4 m c) (A5 m c) (Cert.InRefIdeal.Gen.k0_pay9 (A0 m c) (A2 m c) (A1 m c) (A3 m c)) (Cert.InRefIdeal.Gen.k0_pay10 (A0 m c) (A2 m c) (A1 m c) (A3 m c)) (A6 m c) = vk m c := by
  funext y
  obtain ⟨i, l, rfl⟩ : ∃ (i : Fin 14336) (l : Fin 128), y = ix2 i l := ⟨y 0, y 1, by ext a; fin_cases a <;> rfl⟩
  exact ref_k2 m c i l

/-- The reference's key codes, transposed. -/
theorem ref_kt (c : Dev nD) : Cert.InRefIdeal.Gen.k0_pay14 (F := Ideal) (A4 m c) (A5 m c) (Cert.InRefIdeal.Gen.k0_pay9 (A0 m c) (A2 m c) (A1 m c) (A3 m c)) (Cert.InRefIdeal.Gen.k0_pay10 (A0 m c) (A2 m c) (A1 m c) (A3 m c)) (A6 m c) = vkt m c := by
  funext y
  obtain ⟨l, i, rfl⟩ : ∃ (l : Fin 128) (i : Fin 14336), y = ix2 l i := ⟨y 0, y 1, by ext a; fin_cases a <;> rfl⟩
  exact (Cert.Proof.InR.kt_at _ _ _ _ _ i l).trans (ref_k2 m c i l)

/-- The reference's value codes. -/
theorem ref_v (c : Dev nD) : Cert.InRefIdeal.Gen.k0_pay13 (F := Ideal) (Cert.InRefIdeal.Gen.k0_pay6 (A0 m c) (A2 m c) (A1 m c) (A3 m c)) (A7 m c) = vv m c := by
  funext y
  obtain ⟨i, l, rfl⟩ : ∃ (i : Fin 14336) (l : Fin 128), y = ix2 i l := ⟨y 0, y 1, by ext a; fin_cases a <;> rfl⟩
  refine (Cert.Proof.InR.v_at _ _ i l).trans ?_
  exact congrArg (fun z => clipE (Ideal.div z (A7 m c (ix1 0)))) (p6 m c i _)

/-- The reference's value codes, widened: the same numbers. -/
theorem ref_vb (c : Dev nD) : Cert.InRefIdeal.Gen.k0_pay1 (F := Ideal) (Cert.InRefIdeal.Gen.k0_pay13 (Cert.InRefIdeal.Gen.k0_pay6 (A0 m c) (A2 m c) (A1 m c) (A3 m c)) (A7 m c)) = vv m c :=
  (show _ = Cert.InRefIdeal.Gen.k0_pay13 (F := Ideal) (Cert.InRefIdeal.Gen.k0_pay6 (A0 m c) (A2 m c) (A1 m c) (A3 m c)) (A7 m c) from rfl).trans (ref_v m c)

/-- The gated product of the reference at an index. -/
theorem ref_h (c : Dev nD) (i : Fin 14336) (j : Fin 4224) :
    Cert.InRefIdeal.Gen.k0_pay2 (F := Ideal) (Cert.InRefIdeal.Gen.k0_pay6 (A0 m c) (A2 m c) (A1 m c) (A3 m c)) (ix2 i j) = HH m c i j := by
  refine (Cert.Proof.InR.h_at _ i j).trans ?_
  exact congrArg₂ siluE (p6 m c i _) (p6 m c i _)

/-- The scale of the reference at an index. -/
theorem ref_sc (c : Dev nD) (i : Fin 14336) :
    Cert.InRefIdeal.Gen.k0_pay3 (F := Ideal) (Cert.InRefIdeal.Gen.k0_pay6 (A0 m c) (A2 m c) (A1 m c) (A3 m c)) (ix2 i 0) = scaleE (MM m c i) := by
  refine (Cert.Proof.InR.sc_at _ i).trans ?_
  exact congrArg (fun f => scaleE (Finset.fold max (Ideal.ofBits .f32 0xFF800000#32) f Finset.univ)) (funext fun x => congrArg absE (ref_h m c i x))

/-- The reference's codes of the gated half. -/
theorem ref_hq (c : Dev nD) : Cert.InRefIdeal.Gen.k0_pay4 (F := Ideal) (Cert.InRefIdeal.Gen.k0_pay6 (A0 m c) (A2 m c) (A1 m c) (A3 m c)) = vhq m c := by
  funext y
  obtain ⟨i, j, rfl⟩ : ∃ (i : Fin 14336) (j : Fin 4224), y = ix2 i j := ⟨y 0, y 1, by ext a; fin_cases a <;> rfl⟩
  refine (Cert.Proof.InR.hq_at _ i j).trans ?_
  exact congrArg₂ (fun a b => clipE (Ideal.div a b)) (ref_h m c i j) (ref_sc m c i)

/-- The reference's scales of the gated half. -/
theorem ref_hs (c : Dev nD) : Cert.InRefIdeal.Gen.k0_pay5 (F := Ideal) (Cert.InRefIdeal.Gen.k0_pay6 (A0 m c) (A2 m c) (A1 m c) (A3 m c)) = vhs m c := by
  funext y
  obtain ⟨a, i, rfl⟩ : ∃ (a : Fin 1) (i : Fin 14336), y = ix2 a i := ⟨y 0, y 1, by ext a; fin_cases a <;> rfl⟩
  obtain rfl : a = 0 := Subsingleton.elim a 0
  exact (Cert.Proof.InR.hs_at _ i).trans (ref_sc m c i)

end Cert.Proof.InI

end
-- ==== Proof.InVRun.lean ====
module

public import proofs.«01_k».proof.Proof.InVArr
public import proofs.«01_k».proof.Proof.InIFrame
public import Idealize.ShloMosaic.Lib.Pipeline.ValueKit
public import Idealize.ShloMosaic.Lib.Pointwise

/-! The run of the kernel leaves those seven arrays. -/

@[expose] public section

set_option maxRecDepth 16384

noncomputable section

open Idealize.ShloMosaic Idealize.ShloMosaic.TcCoe Idealize.SL.Sem

namespace Cert.Proof.InI

open Cert.InProjIdeal Cert.InProjIdeal.Gen Cert.Proof.InM

variable (m : (ℓ : Loc nD τ sig) → Buf (Elt Ideal) ℓ)

variable (ρ : Dev nD → PrngReg)

/-- The run of the kernel leaves the seven results, element by element, and its arguments as launched. -/
theorem run_values : θ_run defs (onTc (τ := τ) (main (F := Ideal))) ⟨m, fun _ => 0, ρ⟩ fun r => ∀ c : Dev nD,
      r.2.mem ((c : Thread nD τ).loc main_v3_0) = vq m c
      ∧ r.2.mem ((c : Thread nD τ).loc main_v3_1) = vk m c
      ∧ r.2.mem ((c : Thread nD τ).loc main_v3_2) = vv m c
      ∧ r.2.mem ((c : Thread nD τ).loc main_v3_3) = vkt m c
      ∧ r.2.mem ((c : Thread nD τ).loc main_v3_4) = vv m c
      ∧ r.2.mem ((c : Thread nD τ).loc main_v3_5) = vhq m c
      ∧ r.2.mem ((c : Thread nD τ).loc main_v3_6) = vhs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.2 c).1 14).trans (arr_q m c), ((h.2 c).1 15).trans (arr_k m c), ((h.2 c).1 16).trans (arr_v m c),
      ((h.2 c).1 17).trans (arr_kt m c), ((h.2 c).1 18).trans (arr_vb m c), ((h.2 c).1 19).trans (arr_hq m c), ((h.2 c).1 20).trans (arr_hs m c), h.1 c⟩)
    (θ_run_and (frame_of m ρ (dats m) (A_eq m) (run_main m ρ)) (run_main m ρ))

end Cert.Proof.InI

end
-- ==== Proof.InVArg.lean ====
module

public import proofs.«01_k».proof.Proof.Gen.InRefIdeal.Value
public import Idealize.ShloMosaic.Lib.Pipeline.ValueKit
public import Idealize.ShloMosaic.Lib.Pointwise

/-! What the reference names apart, over its whole arguments. -/

@[expose] public section

set_option maxRecDepth 16384

noncomputable section

open Idealize.ShloMosaic Idealize.ShloMosaic.TcCoe Idealize.SL.Sem

namespace Cert.Proof.InR

open Cert.InRefIdeal Cert.InRefIdeal.Gen Cert.InRefIdeal.Value

/-- The value the reference names apart is computed from the whole arguments. -/
theorem pay15_eq (a0 : Vec Ideal S14336x12288 .fp8e4m3) (a1 : Vec Ideal S1x14336 .f32) (a2 : Vec Ideal S12288x10240 .fp8e4m3) (a3 : Vec Ideal S10240 .f32) (a4 : Vec Ideal S14336x64 .f32) (a5 : Vec Ideal S14336x64 .f32) (a6 : Vec Ideal S1 .f32) (a7 : Vec Ideal S1 .f32) : k0_pay15 (F := Ideal) a0 a1 a2 a3 a4 a5 a6 a7 = k0_pay6 a0 a2 a1 a3 := by
  unfold k0_pay15
  rw [View.ld_unit_zero (S := S14336x12288) hz0 _ a0, View.ld_unit_zero (S := S12288x10240) hz2 _ a2, View.ld_unit_zero (S := S1x14336) hz1 _ a1, View.ld_unit_zero (S := S10240) hz3 _ a3]

/-- The value the reference names apart is computed from the whole arguments. -/
theorem pay16_eq (a0 : Vec Ideal S14336x12288 .fp8e4m3) (a1 : Vec Ideal S1x14336 .f32) (a2 : Vec Ideal S12288x10240 .fp8e4m3) (a3 : Vec Ideal S10240 .f32) (a4 : Vec Ideal S14336x64 .f32) (a5 : Vec Ideal S14336x64 .f32) (a6 : Vec Ideal S1 .f32) (a7 : Vec Ideal S1 .f32) : k0_pay16 (F := Ideal) a0 a1 a2 a3 a4 a5 a6 a7 = k0_pay9 a0 a2 a1 a3 := by
  unfold k0_pay16
  rw [View.ld_unit_zero (S := S14336x12288) hz0 _ a0, View.ld_unit_zero (S := S12288x10240) hz2 _ a2, View.ld_unit_zero (S := S1x14336) hz1 _ a1, View.ld_unit_zero (S := S10240) hz3 _ a3]

/-- The value the reference names apart is computed from the whole arguments. -/
theorem pay17_eq (a0 : Vec Ideal S14336x12288 .fp8e4m3) (a1 : Vec Ideal S1x14336 .f32) (a2 : Vec Ideal S12288x10240 .fp8e4m3) (a3 : Vec Ideal S10240 .f32) (a4 : Vec Ideal S14336x64 .f32) (a5 : Vec Ideal S14336x64 .f32) (a6 : Vec Ideal S1 .f32) (a7 : Vec Ideal S1 .f32) : k0_pay17 (F := Ideal) a0 a1 a2 a3 a4 a5 a6 a7 = k0_pay10 a0 a2 a1 a3 := by
  unfold k0_pay17
  rw [View.ld_unit_zero (S := S14336x12288) hz0 _ a0, View.ld_unit_zero (S := S12288x10240) hz2 _ a2, View.ld_unit_zero (S := S1x14336) hz1 _ a1, View.ld_unit_zero (S := S10240) hz3 _ a3]

end Cert.Proof.InR

end
-- ==== Proof.InVAlg.lean ====
module

public import proofs.«01_k».proof.Proof.InVEq
public import proofs.«01_k».proof.Proof.InVRun
public import proofs.«01_k».proof.Proof.InVArg
public import proofs.«01_k».proof.Defs

/-! The kernel's results are the reference's. -/

@[expose] public section

set_option maxRecDepth 16384

noncomputable section

open Idealize.ShloMosaic Idealize.ShloMosaic.TcCoe Idealize.SL.Sem

namespace Cert.Proof

open Cert.Proof

/-- The kernel's seven results are the reference's, from the same arguments. -/
theorem value_in : Cert.algebraic_InProjIdeal_InRefIdeal (hInProjIdeal := Cert.InProjIdeal.Gen.facts) (hInRefIdeal := Cert.InRefIdeal.Gen.facts) := by
  intro m g m' g' _ hargs
  refine ⟨fun c => InI.vq m c, fun c => InI.vk m c, fun c => InI.vv m c, fun c => InI.vkt m c, fun c => InI.vv m c, fun c => InI.vhq m c, fun c => InI.vhs m c, InI.run_values m g, ?_⟩
  refine (θ_run (Cert.InRefIdeal.defs (F := Ideal)) _ _).mono (fun r h c => ?_) (Cert.InRefIdeal.Value.run (F := Ideal) m' g')
  obtain ⟨h0, h1, h2, h3, h4, h5, h6, h⟩ := h c
  obtain ⟨a0, a1, a2, a3, a4, a5, a6, a7⟩ := hargs c
  refine ⟨h0.trans ?_, h1.trans ?_, h2.trans ?_, h3.trans ?_, h4.trans ?_, h5.trans ?_, h6.trans ?_, h⟩
  all_goals rw [a0, a1, a2, a3, a4, a5, a6, a7]
  · unfold Cert.InRefIdeal.Value.G8; exact InI.ref_q m c
  · unfold Cert.InRefIdeal.Value.G9; rw [InR.pay16_eq, InR.pay17_eq]; exact InI.ref_k m c
  · unfold Cert.InRefIdeal.Value.G10; rw [InR.pay15_eq]; exact InI.ref_v m c
  · unfold Cert.InRefIdeal.Value.G11; rw [InR.pay16_eq, InR.pay17_eq]; exact InI.ref_kt m c
  · unfold Cert.InRefIdeal.Value.G12; rw [InR.pay15_eq]; exact InI.ref_vb m c
  · unfold Cert.InRefIdeal.Value.G13; rw [InR.pay15_eq]; exact InI.ref_hq m c
  · unfold Cert.InRefIdeal.Value.G14; rw [InR.pay15_eq]; exact InI.ref_hs m c

end Cert.Proof

end
-- ==== Proof.lean ====
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutRefIdeal.Frame
public import proofs.«01_k».proof.Proof.Gen.OutRefIdeal.Value
public import proofs.«01_k».proof.Proof.OutArray
public import proofs.«01_k».proof.Proof.Gen.InProj.Frame
public import proofs.«01_k».proof.Proof.Gen.InProj.Skeleton
public import proofs.«01_k».proof.Proof.Gen.InProjIdeal.Frame
public import proofs.«01_k».proof.Proof.Gen.InProjIdeal.Skeleton
public import proofs.«01_k».proof.Proof.Gen.InRefIdeal.Frame
public import proofs.«01_k».proof.Proof.Gen.InRefIdeal.Value
public import proofs.«01_k».proof.Proof.InBFrame
public import proofs.«01_k».proof.Proof.InIFrame
public import proofs.«01_k».proof.Proof.InVAlg

/-! The claims about the two projections of the layer: the input projection and the closing one. -/

@[expose] public section

set_option maxRecDepth 16384

noncomputable section

namespace Cert.Proof

open Idealize.ShloMosaic Idealize.SL.Sem

/-- The program runs to its end and leaves its arguments as they were. -/
theorem frame_out : Cert.quiescent_OutProj (hOutProj := Cert.OutProj.Gen.facts) := fun m ρ _ => Cert.OutProj.Gen.frame m ρ
/-- So does its ideal form. -/
theorem frame_outI : Cert.quiescent_OutProjIdeal (hOutProjIdeal := Cert.OutProjIdeal.Gen.facts) := fun m ρ _ => Cert.OutProjIdeal.Gen.frame m ρ
/-- So does the reference. -/
theorem frame_outR : Cert.quiescent_OutRefIdeal (hOutRefIdeal := Cert.OutRefIdeal.Gen.facts) := fun m ρ _ => Cert.OutRefIdeal.Gen.frame m ρ

/-- The kernel's result is the reference's, from the same arguments. -/
theorem value_out : Cert.algebraic_OutProjIdeal_OutRefIdeal (hOutProjIdeal := Cert.OutProjIdeal.Gen.facts) (hOutRefIdeal := Cert.OutRefIdeal.Gen.facts) := by
  intro m g m' g' _ hargs
  refine ⟨fun c => Cert.OutRefIdeal.Gen.k0_pay1 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg4))
    (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg2))
    (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg7))
    (m ((c.tc : Thread Cert.OutProjIdeal.nD Cert.OutProjIdeal.τ).loc Cert.OutProjIdeal.main_arg8)), ?_, ?_⟩
  · refine (θ_run (Cert.OutProjIdeal.defs (F := Ideal)) _ _).mono (fun r h c => ?_) (Cert.OutProjIdeal.Value.run_blocks (F := Ideal) m g)
    obtain ⟨hv, h⟩ := h c
    exact ⟨hv.trans (Out.arr m c), h⟩
  · refine (θ_run (Cert.OutRefIdeal.defs (F := Ideal)) _ _).mono (fun r h c => ?_) (Cert.OutRefIdeal.Value.run (F := Ideal) m' g')
    obtain ⟨hv, h⟩ := h c
    obtain ⟨a0, a1, a2, a3, a4, a5, a6, a7, a8⟩ := hargs c
    refine ⟨hv.trans ?_, h⟩
    rw [a0, a1, a2, a3, a4, a5, a6, a7, a8]

/-- The input projection runs to its end and leaves its arguments as they were. -/
theorem frame_in : Cert.quiescent_InProj (hInProj := Cert.InProj.Gen.facts) := fun m ρ _ => Cert.Proof.InB.frame m ρ
/-- So does its ideal form. -/
theorem frame_inI : Cert.quiescent_InProjIdeal (hInProjIdeal := Cert.InProjIdeal.Gen.facts) := fun m ρ _ => Cert.Proof.InI.frame m ρ
/-- So does its reference. -/
theorem frame_inR : Cert.quiescent_InRefIdeal (hInRefIdeal := Cert.InRefIdeal.Gen.facts) := fun m ρ _ => Cert.InRefIdeal.Gen.frame m ρ

/-- The named constant of the ideal form stands for the reciprocal of 448. -/
theorem preserves_in : Cert.preserves_InProj_InProjIdeal := IdealRules.named_const.statement Cert.InProjIdeal.κ "inv_fp8_max" .f32 0x3B124925#32 _ rfl

/-- Everything claimed. -/
theorem claim : Cert.Claim := ⟨Cert.OutProj.Gen.facts, Cert.OutProjIdeal.Gen.facts, Cert.OutRefIdeal.Gen.facts, Cert.InProj.Gen.facts, Cert.InProjIdeal.Gen.facts, Cert.InRefIdeal.Gen.facts,
  frame_out, frame_outI, frame_outR, frame_in, frame_inI, frame_inR, by trivial, value_out, preserves_in, value_in⟩

end Cert.Proof

end
